-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite [hPre_finite : Cert.Pre_finite.Facts] (m : (ℓ : Loc Cert.LossIdeal.nD Cert.LossIdeal.τ Cert.LossIdeal.sig) → Buf (Elt Ideal) ℓ) : Prop :=
  ∀ c : Dev Cert.LossIdeal.nD,
    (Cert.Pre_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite [hPre_finite : Cert.Pre_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_MlpDxIdeal_finite2 [hPre_finite2 : Cert.Pre_finite2.Facts] (m : (ℓ : Loc Cert.MlpDxIdeal.nD Cert.MlpDxIdeal.τ Cert.MlpDxIdeal.sig) → Buf (Elt Ideal) ℓ) : Prop :=
  ∀ c : Dev Cert.MlpDxIdeal.nD,
    (Cert.Pre_finite2.fn (F := Ideal) (m ((c.tc : Thread Cert.MlpDxIdeal.nD Cert.MlpDxIdeal.τ).loc Cert.MlpDxIdeal.main_arg0)) (m ((c.tc : Thread Cert.MlpDxIdeal.nD Cert.MlpDxIdeal.τ).loc Cert.MlpDxIdeal.main_arg1)) (m ((c.tc : Thread Cert.MlpDxIdeal.nD Cert.MlpDxIdeal.τ).loc Cert.MlpDxIdeal.main_arg2)) (m ((c.tc : Thread Cert.MlpDxIdeal.nD Cert.MlpDxIdeal.τ).loc Cert.MlpDxIdeal.main_arg3)) (m ((c.tc : Thread Cert.MlpDxIdeal.nD Cert.MlpDxIdeal.τ).loc Cert.MlpDxIdeal.main_arg4))).1 = (fun _ => 1#1)
    ∧ (Cert.Pre_finite2.fn (F := Ideal) (m ((c.tc : Thread Cert.MlpDxIdeal.nD Cert.MlpDxIdeal.τ).loc Cert.MlpDxIdeal.main_arg0)) (m ((c.tc : Thread Cert.MlpDxIdeal.nD Cert.MlpDxIdeal.τ).loc Cert.MlpDxIdeal.main_arg1)) (m ((c.tc : Thread Cert.MlpDxIdeal.nD Cert.MlpDxIdeal.τ).loc Cert.MlpDxIdeal.main_arg2)) (m ((c.tc : Thread Cert.MlpDxIdeal.nD Cert.MlpDxIdeal.τ).loc Cert.MlpDxIdeal.main_arg3)) (m ((c.tc : Thread Cert.MlpDxIdeal.nD Cert.MlpDxIdeal.τ).loc Cert.MlpDxIdeal.main_arg4))).2.1 = (fun _ => 1#1)
    ∧ (Cert.Pre_finite2.fn (F := Ideal) (m ((c.tc : Thread Cert.MlpDxIdeal.nD Cert.MlpDxIdeal.τ).loc Cert.MlpDxIdeal.main_arg0)) (m ((c.tc : Thread Cert.MlpDxIdeal.nD Cert.MlpDxIdeal.τ).loc Cert.MlpDxIdeal.main_arg1)) (m ((c.tc : Thread Cert.MlpDxIdeal.nD Cert.MlpDxIdeal.τ).loc Cert.MlpDxIdeal.main_arg2)) (m ((c.tc : Thread Cert.MlpDxIdeal.nD Cert.MlpDxIdeal.τ).loc Cert.MlpDxIdeal.main_arg3)) (m ((c.tc : Thread Cert.MlpDxIdeal.nD Cert.MlpDxIdeal.τ).loc Cert.MlpDxIdeal.main_arg4))).2.2.1 = (fun _ => 1#1)
    ∧ (Cert.Pre_finite2.fn (F := Ideal) (m ((c.tc : Thread Cert.MlpDxIdeal.nD Cert.MlpDxIdeal.τ).loc Cert.MlpDxIdeal.main_arg0)) (m ((c.tc : Thread Cert.MlpDxIdeal.nD Cert.MlpDxIdeal.τ).loc Cert.MlpDxIdeal.main_arg1)) (m ((c.tc : Thread Cert.MlpDxIdeal.nD Cert.MlpDxIdeal.τ).loc Cert.MlpDxIdeal.main_arg2)) (m ((c.tc : Thread Cert.MlpDxIdeal.nD Cert.MlpDxIdeal.τ).loc Cert.MlpDxIdeal.main_arg3)) (m ((c.tc : Thread Cert.MlpDxIdeal.nD Cert.MlpDxIdeal.τ).loc Cert.MlpDxIdeal.main_arg4))).2.2.2 = (fun _ => 1#1)

def Pre_MlpDxRefIdeal (m : (ℓ : Loc Cert.MlpDxRefIdeal.nD Cert.MlpDxRefIdeal.τ Cert.MlpDxRefIdeal.sig) → Buf (Elt Ideal) ℓ) : Prop :=
  True

def Pre_MlpDxRefIdeal_finite2 [hPre_finite2 : Cert.Pre_finite2.Facts] (m : (ℓ : Loc Cert.MlpDxRefIdeal.nD Cert.MlpDxRefIdeal.τ Cert.MlpDxRefIdeal.sig) → Buf (Elt Ideal) ℓ) : Prop :=
  ∀ c : Dev Cert.MlpDxRefIdeal.nD,
    (Cert.Pre_finite2.fn (F := Ideal) (m ((c.tc : Thread Cert.MlpDxRefIdeal.nD Cert.MlpDxRefIdeal.τ).loc Cert.MlpDxRefIdeal.main_arg0)) (m ((c.tc : Thread Cert.MlpDxRefIdeal.nD Cert.MlpDxRefIdeal.τ).loc Cert.MlpDxRefIdeal.main_arg1)) (m ((c.tc : Thread Cert.MlpDxRefIdeal.nD Cert.MlpDxRefIdeal.τ).loc Cert.MlpDxRefIdeal.main_arg2)) (m ((c.tc : Thread Cert.MlpDxRefIdeal.nD Cert.MlpDxRefIdeal.τ).loc Cert.MlpDxRefIdeal.main_arg3)) (m ((c.tc : Thread Cert.MlpDxRefIdeal.nD Cert.MlpDxRefIdeal.τ).loc Cert.MlpDxRefIdeal.main_arg4))).1 = (fun _ => 1#1)
    ∧ (Cert.Pre_finite2.fn (F := Ideal) (m ((c.tc : Thread Cert.MlpDxRefIdeal.nD Cert.MlpDxRefIdeal.τ).loc Cert.MlpDxRefIdeal.main_arg0)) (m ((c.tc : Thread Cert.MlpDxRefIdeal.nD Cert.MlpDxRefIdeal.τ).loc Cert.MlpDxRefIdeal.main_arg1)) (m ((c.tc : Thread Cert.MlpDxRefIdeal.nD Cert.MlpDxRefIdeal.τ).loc Cert.MlpDxRefIdeal.main_arg2)) (m ((c.tc : Thread Cert.MlpDxRefIdeal.nD Cert.MlpDxRefIdeal.τ).loc Cert.MlpDxRefIdeal.main_arg3)) (m ((c.tc : Thread Cert.MlpDxRefIdeal.nD Cert.MlpDxRefIdeal.τ).loc Cert.MlpDxRefIdeal.main_arg4))).2.1 = (fun _ => 1#1)
    ∧ (Cert.Pre_finite2.fn (F := Ideal) (m ((c.tc : Thread Cert.MlpDxRefIdeal.nD Cert.MlpDxRefIdeal.τ).loc Cert.MlpDxRefIdeal.main_arg0)) (m ((c.tc : Thread Cert.MlpDxRefIdeal.nD Cert.MlpDxRefIdeal.τ).loc Cert.MlpDxRefIdeal.main_arg1)) (m ((c.tc : Thread Cert.MlpDxRefIdeal.nD Cert.MlpDxRefIdeal.τ).loc Cert.MlpDxRefIdeal.main_arg2)) (m ((c.tc : Thread Cert.MlpDxRefIdeal.nD Cert.MlpDxRefIdeal.τ).loc Cert.MlpDxRefIdeal.main_arg3)) (m ((c.tc : Thread Cert.MlpDxRefIdeal.nD Cert.MlpDxRefIdeal.τ).loc Cert.MlpDxRefIdeal.main_arg4))).2.2.1 = (fun _ => 1#1)
    ∧ (Cert.Pre_finite2.fn (F := Ideal) (m ((c.tc : Thread Cert.MlpDxRefIdeal.nD Cert.MlpDxRefIdeal.τ).loc Cert.MlpDxRefIdeal.main_arg0)) (m ((c.tc : Thread Cert.MlpDxRefIdeal.nD Cert.MlpDxRefIdeal.τ).loc Cert.MlpDxRefIdeal.main_arg1)) (m ((c.tc : Thread Cert.MlpDxRefIdeal.nD Cert.MlpDxRefIdeal.τ).loc Cert.MlpDxRefIdeal.main_arg2)) (m ((c.tc : Thread Cert.MlpDxRefIdeal.nD Cert.MlpDxRefIdeal.τ).loc Cert.MlpDxRefIdeal.main_arg3)) (m ((c.tc : Thread Cert.MlpDxRefIdeal.nD Cert.MlpDxRefIdeal.τ).loc Cert.MlpDxRefIdeal.main_arg4))).2.2.2 = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite3 [hPre_finite3 : Cert.Pre_finite3.Facts] (m : (ℓ : Loc Cert.InDxIdeal.nD Cert.InDxIdeal.τ Cert.InDxIdeal.sig) → Buf (Elt Ideal) ℓ) : Prop :=
  ∀ c : Dev Cert.InDxIdeal.nD,
    (Cert.Pre_finite3.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).1 = (fun _ => 1#1)
    ∧ (Cert.Pre_finite3.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.1 = (fun _ => 1#1)
    ∧ (Cert.Pre_finite3.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.1 = (fun _ => 1#1)
    ∧ (Cert.Pre_finite3.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.2 = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_finite3 [hPre_finite3 : Cert.Pre_finite3.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_finite3.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).1 = (fun _ => 1#1)
    ∧ (Cert.Pre_finite3.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.1 = (fun _ => 1#1)
    ∧ (Cert.Pre_finite3.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.1 = (fun _ => 1#1)
    ∧ (Cert.Pre_finite3.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_OutDy (m : (ℓ : Loc Cert.OutDy.nD Cert.OutDy.τ Cert.OutDy.sig) → Buf (Elt Bits) ℓ) : Prop :=
  True

def Pre_OutDyIdeal (m : (ℓ : Loc Cert.OutDyIdeal.nD Cert.OutDyIdeal.τ Cert.OutDyIdeal.sig) → Buf (Elt Ideal) ℓ) : Prop :=
  True

def Pre_OutDyRefIdeal (m : (ℓ : Loc Cert.OutDyRefIdeal.nD Cert.OutDyRefIdeal.τ Cert.OutDyRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_AdamL (m : (ℓ : Loc Cert.AdamL.nD Cert.AdamL.τ Cert.AdamL.sig) → Buf (Elt Bits) ℓ) : Prop :=
  True

def Pre_AdamLIdeal (m : (ℓ : Loc Cert.AdamLIdeal.nD Cert.AdamLIdeal.τ Cert.AdamLIdeal.sig) → Buf (Elt Ideal) ℓ) : Prop :=
  True

def Pre_AdamLRefIdeal (m : (ℓ : Loc Cert.AdamLRefIdeal.nD Cert.AdamLRefIdeal.τ Cert.AdamLRefIdeal.sig) → Buf (Elt Ideal) ℓ) : Prop :=
  True

def Pre_Cut (m : (ℓ : Loc Cert.Cut.nD Cert.Cut.τ Cert.Cut.sig) → Buf (Elt Bits) ℓ) : Prop :=
  True

def Pre_CutIdeal (m : (ℓ : Loc Cert.CutIdeal.nD Cert.CutIdeal.τ Cert.CutIdeal.sig) → Buf (Elt Ideal) ℓ) : Prop :=
  True

def Pre_CutRefIdeal (m : (ℓ : Loc Cert.CutRefIdeal.nD Cert.CutRefIdeal.τ Cert.CutRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite [hLossIdeal : Cert.LossIdeal.Facts] [hPre_finite : Cert.Pre_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite [hLossRefIdeal : Cert.LossRefIdeal.Facts] [hPre_finite : Cert.Pre_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2)
      ∧ r.2.mem ((c.tc : Thread Cert.MlpDx.nD Cert.MlpDx.τ).loc Cert.MlpDx.main_arg3) = m ((c.tc : Thread Cert.MlpDx.nD Cert.MlpDx.τ).loc Cert.MlpDx.main_arg3)
      ∧ r.2.mem ((c.tc : Thread Cert.MlpDx.nD Cert.MlpDx.τ).loc Cert.MlpDx.main_arg4) = m ((c.tc : Thread Cert.MlpDx.nD Cert.MlpDx.τ).loc Cert.MlpDx.main_arg4))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
      ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
      ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4))
      ∧ r.2.sem = fun _ => 0)

def quiescent_MlpDxIdeal_pre_finite2 [hMlpDxIdeal : Cert.MlpDxIdeal.Facts] [hPre_finite2 : Cert.Pre_finite2.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal_finite2 m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
      ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
      ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4))
      ∧ r.2.sem = fun _ => 0)

def quiescent_MlpDxRefIdeal [hMlpDxRefIdeal : Cert.MlpDxRefIdeal.Facts] : Prop :=
  ∀ (m : (ℓ : Loc Cert.MlpDxRefIdeal.nD Cert.MlpDxRefIdeal.τ Cert.MlpDxRefIdeal.sig) → Buf (Elt Ideal) ℓ) (g : Dev Cert.MlpDxRefIdeal.nD → PrngReg), Pre_MlpDxRefIdeal m →
    θ_run (Cert.MlpDxRefIdeal.defs (F := Ideal)) (onTc (τ := Cert.MlpDxRefIdeal.τ) (Cert.MlpDxRefIdeal.main (F := Ideal))) ⟨m, fun _ => 0, g⟩ (fun r => (∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2)
      ∧ r.2.mem ((c.tc : Thread Cert.MlpDxRefIdeal.nD Cert.MlpDxRefIdeal.τ).loc Cert.MlpDxRefIdeal.main_arg3) = m ((c.tc : Thread Cert.MlpDxRefIdeal.nD Cert.MlpDxRefIdeal.τ).loc Cert.MlpDxRefIdeal.main_arg3)
      ∧ r.2.mem ((c.tc : Thread Cert.MlpDxRefIdeal.nD Cert.MlpDxRefIdeal.τ).loc Cert.MlpDxRefIdeal.main_arg4) = m ((c.tc : Thread Cert.MlpDxRefIdeal.nD Cert.MlpDxRefIdeal.τ).loc Cert.MlpDxRefIdeal.main_arg4))
      ∧ r.2.sem = fun _ => 0)

def quiescent_MlpDxRefIdeal_pre_finite2 [hMlpDxRefIdeal : Cert.MlpDxRefIdeal.Facts] [hPre_finite2 : Cert.Pre_finite2.Facts] : Prop :=
  ∀ (m : (ℓ : Loc Cert.MlpDxRefIdeal.nD Cert.MlpDxRefIdeal.τ Cert.MlpDxRefIdeal.sig) → Buf (Elt Ideal) ℓ) (g : Dev Cert.MlpDxRefIdeal.nD → PrngReg), Pre_MlpDxRefIdeal_finite2 m →
    θ_run (Cert.MlpDxRefIdeal.defs (F := Ideal)) (onTc (τ := Cert.MlpDxRefIdeal.τ) (Cert.MlpDxRefIdeal.main (F := Ideal))) ⟨m, fun _ => 0, g⟩ (fun r => (∀ c : Dev Cert.MlpDxRefIdeal.nD,
      r.2.mem ((c.tc : Thread Cert.MlpDxRefIdeal.nD Cert.MlpDxRefIdeal.τ).loc Cert.MlpDxRefIdeal.main_arg0) = m ((c.tc : Thread Cert.MlpDxRefIdeal.nD Cert.MlpDxRefIdeal.τ).loc Cert.MlpDxRefIdeal.main_arg0)
      ∧ r.2.mem ((c.tc : Thread Cert.MlpDxRefIdeal.nD Cert.MlpDxRefIdeal.τ).loc Cert.MlpDxRefIdeal.main_arg1) = m ((c.tc : Thread Cert.MlpDxRefIdeal.nD Cert.MlpDxRefIdeal.τ).loc Cert.MlpDxRefIdeal.main_arg1)
      ∧ r.2.mem ((c.tc : Thread Cert.MlpDxRefIdeal.nD Cert.MlpDxRefIdeal.τ).loc Cert.MlpDxRefIdeal.main_arg2) = m ((c.tc : Thread Cert.MlpDxRefIdeal.nD Cert.MlpDxRefIdeal.τ).loc Cert.MlpDxRefIdeal.main_arg2)
      ∧ r.2.mem ((c.tc : Thread Cert.MlpDxRefIdeal.nD Cert.MlpDxRefIdeal.τ).loc Cert.MlpDxRefIdeal.main_arg3) = m ((c.tc : Thread Cert.MlpDxRefIdeal.nD Cert.MlpDxRefIdeal.τ).loc Cert.MlpDxRefIdeal.main_arg3)
      ∧ r.2.mem ((c.tc : Thread Cert.MlpDxRefIdeal.nD Cert.MlpDxRefIdeal.τ).loc Cert.MlpDxRefIdeal.main_arg4) = m ((c.tc : Thread Cert.MlpDxRefIdeal.nD Cert.MlpDxRefIdeal.τ).loc Cert.MlpDxRefIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxIdeal_pre_finite3 [hInDxIdeal : Cert.InDxIdeal.Facts] [hPre_finite3 : Cert.Pre_finite3.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite3 m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxRefIdeal_pre_finite3 [hInDxRefIdeal : Cert.InDxRefIdeal.Facts] [hPre_finite3 : Cert.Pre_finite3.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_finite3 m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3)
      ∧ r.2.mem ((c.tc : Thread Cert.DwDown.nD Cert.DwDown.τ).loc Cert.DwDown.main_arg4) = m ((c.tc : Thread Cert.DwDown.nD Cert.DwDown.τ).loc Cert.DwDown.main_arg4))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3)
      ∧ r.2.mem ((c.tc : Thread Cert.DwDownIdeal.nD Cert.DwDownIdeal.τ).loc Cert.DwDownIdeal.main_arg4) = m ((c.tc : Thread Cert.DwDownIdeal.nD Cert.DwDownIdeal.τ).loc Cert.DwDownIdeal.main_arg4))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2)
      ∧ r.2.mem ((c.tc : Thread Cert.DwDownRefIdeal.nD Cert.DwDownRefIdeal.τ).loc Cert.DwDownRefIdeal.main_arg3) = m ((c.tc : Thread Cert.DwDownRefIdeal.nD Cert.DwDownRefIdeal.τ).loc Cert.DwDownRefIdeal.main_arg3)
      ∧ r.2.mem ((c.tc : Thread Cert.DwDownRefIdeal.nD Cert.DwDownRefIdeal.τ).loc Cert.DwDownRefIdeal.main_arg4) = m ((c.tc : Thread Cert.DwDownRefIdeal.nD Cert.DwDownRefIdeal.τ).loc Cert.DwDownRefIdeal.main_arg4))
      ∧ r.2.sem = fun _ => 0)

def quiescent_OutDy [hOutDy : Cert.OutDy.Facts] : Prop :=
  ∀ (m : (ℓ : Loc Cert.OutDy.nD Cert.OutDy.τ Cert.OutDy.sig) → Buf (Elt Bits) ℓ) (g : Dev Cert.OutDy.nD → PrngReg), Pre_OutDy m →
    θ_run (Cert.OutDy.defs (F := Bits)) (onTc (τ := Cert.OutDy.τ) (Cert.OutDy.main (F := Bits))) ⟨m, fun _ => 0, g⟩ (fun r => (∀ c : Dev Cert.OutDy.nD,
      r.2.mem ((c.tc : Thread Cert.OutDy.nD Cert.OutDy.τ).loc Cert.OutDy.main_arg0) = m ((c.tc : Thread Cert.OutDy.nD Cert.OutDy.τ).loc Cert.OutDy.main_arg0)
      ∧ r.2.mem ((c.tc : Thread Cert.OutDy.nD Cert.OutDy.τ).loc Cert.OutDy.main_arg1) = m ((c.tc : Thread Cert.OutDy.nD Cert.OutDy.τ).loc Cert.OutDy.main_arg1)
      ∧ r.2.mem ((c.tc : Thread Cert.OutDy.nD Cert.OutDy.τ).loc Cert.OutDy.main_arg2) = m ((c.tc : Thread Cert.OutDy.nD Cert.OutDy.τ).loc Cert.OutDy.main_arg2))
      ∧ r.2.sem = fun _ => 0)

def quiescent_OutDyIdeal [hOutDyIdeal : Cert.OutDyIdeal.Facts] : Prop :=
  ∀ (m : (ℓ : Loc Cert.OutDyIdeal.nD Cert.OutDyIdeal.τ Cert.OutDyIdeal.sig) → Buf (Elt Ideal) ℓ) (g : Dev Cert.OutDyIdeal.nD → PrngReg), Pre_OutDyIdeal m →
    θ_run (Cert.OutDyIdeal.defs (F := Ideal)) (onTc (τ := Cert.OutDyIdeal.τ) (Cert.OutDyIdeal.main (F := Ideal))) ⟨m, fun _ => 0, g⟩ (fun r => (∀ c : Dev Cert.OutDyIdeal.nD,
      r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
      ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1)
      ∧ r.2.mem ((c.tc : Thread Cert.OutDyIdeal.nD Cert.OutDyIdeal.τ).loc Cert.OutDyIdeal.main_arg2) = m ((c.tc : Thread Cert.OutDyIdeal.nD Cert.OutDyIdeal.τ).loc Cert.OutDyIdeal.main_arg2))
      ∧ r.2.sem = fun _ => 0)

def quiescent_OutDyRefIdeal [hOutDyRefIdeal : Cert.OutDyRefIdeal.Facts] : Prop :=
  ∀ (m : (ℓ : Loc Cert.OutDyRefIdeal.nD Cert.OutDyRefIdeal.τ Cert.OutDyRefIdeal.sig) → Buf (Elt Ideal) ℓ) (g : Dev Cert.OutDyRefIdeal.nD → PrngReg), Pre_OutDyRefIdeal m →
    θ_run (Cert.OutDyRefIdeal.defs (F := Ideal)) (onTc (τ := Cert.OutDyRefIdeal.τ) (Cert.OutDyRefIdeal.main (F := Ideal))) ⟨m, fun _ => 0, g⟩ (fun r => (∀ c : Dev Cert.OutDyRefIdeal.nD,
      r.2.mem ((c.tc : Thread Cert.OutDyRefIdeal.nD Cert.OutDyRefIdeal.τ).loc Cert.OutDyRefIdeal.main_arg0) = m ((c.tc : Thread Cert.OutDyRefIdeal.nD Cert.OutDyRefIdeal.τ).loc Cert.OutDyRefIdeal.main_arg0)
      ∧ r.2.mem ((c.tc : Thread Cert.OutDyRefIdeal.nD Cert.OutDyRefIdeal.τ).loc Cert.OutDyRefIdeal.main_arg1) = m ((c.tc : Thread Cert.OutDyRefIdeal.nD Cert.OutDyRefIdeal.τ).loc Cert.OutDyRefIdeal.main_arg1)
      ∧ r.2.mem ((c.tc : Thread Cert.OutDyRefIdeal.nD Cert.OutDyRefIdeal.τ).loc Cert.OutDyRefIdeal.main_arg2) = m ((c.tc : Thread Cert.OutDyRefIdeal.nD Cert.OutDyRefIdeal.τ).loc Cert.OutDyRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9)
      ∧ r.2.mem ((c.tc : Thread Cert.MixBwd.nD Cert.MixBwd.τ).loc Cert.MixBwd.main_arg10) = m ((c.tc : Thread Cert.MixBwd.nD Cert.MixBwd.τ).loc Cert.MixBwd.main_arg10)
      ∧ r.2.mem ((c.tc : Thread Cert.MixBwd.nD Cert.MixBwd.τ).loc Cert.MixBwd.main_arg11) = m ((c.tc : Thread Cert.MixBwd.nD Cert.MixBwd.τ).loc Cert.MixBwd.main_arg11)
      ∧ r.2.mem ((c.tc : Thread Cert.MixBwd.nD Cert.MixBwd.τ).loc Cert.MixBwd.main_arg12) = m ((c.tc : Thread Cert.MixBwd.nD Cert.MixBwd.τ).loc Cert.MixBwd.main_arg12))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9)
      ∧ r.2.mem ((c.tc : Thread Cert.MixBwdIdeal.nD Cert.MixBwdIdeal.τ).loc Cert.MixBwdIdeal.main_arg10) = m ((c.tc : Thread Cert.MixBwdIdeal.nD Cert.MixBwdIdeal.τ).loc Cert.MixBwdIdeal.main_arg10)
      ∧ r.2.mem ((c.tc : Thread Cert.MixBwdIdeal.nD Cert.MixBwdIdeal.τ).loc Cert.MixBwdIdeal.main_arg11) = m ((c.tc : Thread Cert.MixBwdIdeal.nD Cert.MixBwdIdeal.τ).loc Cert.MixBwdIdeal.main_arg11)
      ∧ r.2.mem ((c.tc : Thread Cert.MixBwdIdeal.nD Cert.MixBwdIdeal.τ).loc Cert.MixBwdIdeal.main_arg12) = m ((c.tc : Thread Cert.MixBwdIdeal.nD Cert.MixBwdIdeal.τ).loc Cert.MixBwdIdeal.main_arg12))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3))
      ∧ r.2.sem = fun _ => 0)

def quiescent_AdamL [hAdamL : Cert.AdamL.Facts] : Prop :=
  ∀ (m : (ℓ : Loc Cert.AdamL.nD Cert.AdamL.τ Cert.AdamL.sig) → Buf (Elt Bits) ℓ) (g : Dev Cert.AdamL.nD → PrngReg), Pre_AdamL m →
    θ_run (Cert.AdamL.defs (F := Bits)) (onTc (τ := Cert.AdamL.τ) (Cert.AdamL.main (F := Bits))) ⟨m, fun _ => 0, g⟩ (fun r => (∀ c : Dev Cert.AdamL.nD,
      r.2.mem ((c.tc : Thread Cert.AdamL.nD Cert.AdamL.τ).loc Cert.AdamL.main_arg0) = m ((c.tc : Thread Cert.AdamL.nD Cert.AdamL.τ).loc Cert.AdamL.main_arg0)
      ∧ r.2.mem ((c.tc : Thread Cert.AdamL.nD Cert.AdamL.τ).loc Cert.AdamL.main_arg1) = m ((c.tc : Thread Cert.AdamL.nD Cert.AdamL.τ).loc Cert.AdamL.main_arg1)
      ∧ r.2.mem ((c.tc : Thread Cert.AdamL.nD Cert.AdamL.τ).loc Cert.AdamL.main_arg2) = m ((c.tc : Thread Cert.AdamL.nD Cert.AdamL.τ).loc Cert.AdamL.main_arg2)
      ∧ r.2.mem ((c.tc : Thread Cert.AdamL.nD Cert.AdamL.τ).loc Cert.AdamL.main_arg3) = m ((c.tc : Thread Cert.AdamL.nD Cert.AdamL.τ).loc Cert.AdamL.main_arg3))
      ∧ r.2.sem = fun _ => 0)

def quiescent_AdamLIdeal [hAdamLIdeal : Cert.AdamLIdeal.Facts] : Prop :=
  ∀ (m : (ℓ : Loc Cert.AdamLIdeal.nD Cert.AdamLIdeal.τ Cert.AdamLIdeal.sig) → Buf (Elt Ideal) ℓ) (g : Dev Cert.AdamLIdeal.nD → PrngReg), Pre_AdamLIdeal m →
    θ_run (Cert.AdamLIdeal.defs (F := Ideal)) (onTc (τ := Cert.AdamLIdeal.τ) (Cert.AdamLIdeal.main (F := Ideal))) ⟨m, fun _ => 0, g⟩ (fun r => (∀ c : Dev Cert.AdamLIdeal.nD,
      r.2.mem ((c.tc : Thread Cert.AdamLIdeal.nD Cert.AdamLIdeal.τ).loc Cert.AdamLIdeal.main_arg0) = m ((c.tc : Thread Cert.AdamLIdeal.nD Cert.AdamLIdeal.τ).loc Cert.AdamLIdeal.main_arg0)
      ∧ r.2.mem ((c.tc : Thread Cert.AdamLIdeal.nD Cert.AdamLIdeal.τ).loc Cert.AdamLIdeal.main_arg1) = m ((c.tc : Thread Cert.AdamLIdeal.nD Cert.AdamLIdeal.τ).loc Cert.AdamLIdeal.main_arg1)
      ∧ r.2.mem ((c.tc : Thread Cert.AdamLIdeal.nD Cert.AdamLIdeal.τ).loc Cert.AdamLIdeal.main_arg2) = m ((c.tc : Thread Cert.AdamLIdeal.nD Cert.AdamLIdeal.τ).loc Cert.AdamLIdeal.main_arg2)
      ∧ r.2.mem ((c.tc : Thread Cert.AdamLIdeal.nD Cert.AdamLIdeal.τ).loc Cert.AdamLIdeal.main_arg3) = m ((c.tc : Thread Cert.AdamLIdeal.nD Cert.AdamLIdeal.τ).loc Cert.AdamLIdeal.main_arg3))
      ∧ r.2.sem = fun _ => 0)

def quiescent_AdamLRefIdeal [hAdamLRefIdeal : Cert.AdamLRefIdeal.Facts] : Prop :=
  ∀ (m : (ℓ : Loc Cert.AdamLRefIdeal.nD Cert.AdamLRefIdeal.τ Cert.AdamLRefIdeal.sig) → Buf (Elt Ideal) ℓ) (g : Dev Cert.AdamLRefIdeal.nD → PrngReg), Pre_AdamLRefIdeal m →
    θ_run (Cert.AdamLRefIdeal.defs (F := Ideal)) (onTc (τ := Cert.AdamLRefIdeal.τ) (Cert.AdamLRefIdeal.main (F := Ideal))) ⟨m, fun _ => 0, g⟩ (fun r => (∀ c : Dev Cert.AdamLRefIdeal.nD,
      r.2.mem ((c.tc : Thread Cert.AdamLRefIdeal.nD Cert.AdamLRefIdeal.τ).loc Cert.AdamLRefIdeal.main_arg0) = m ((c.tc : Thread Cert.AdamLRefIdeal.nD Cert.AdamLRefIdeal.τ).loc Cert.AdamLRefIdeal.main_arg0)
      ∧ r.2.mem ((c.tc : Thread Cert.AdamLRefIdeal.nD Cert.AdamLRefIdeal.τ).loc Cert.AdamLRefIdeal.main_arg1) = m ((c.tc : Thread Cert.AdamLRefIdeal.nD Cert.AdamLRefIdeal.τ).loc Cert.AdamLRefIdeal.main_arg1)
      ∧ r.2.mem ((c.tc : Thread Cert.AdamLRefIdeal.nD Cert.AdamLRefIdeal.τ).loc Cert.AdamLRefIdeal.main_arg2) = m ((c.tc : Thread Cert.AdamLRefIdeal.nD Cert.AdamLRefIdeal.τ).loc Cert.AdamLRefIdeal.main_arg2)
      ∧ r.2.mem ((c.tc : Thread Cert.AdamLRefIdeal.nD Cert.AdamLRefIdeal.τ).loc Cert.AdamLRefIdeal.main_arg3) = m ((c.tc : Thread Cert.AdamLRefIdeal.nD Cert.AdamLRefIdeal.τ).loc Cert.AdamLRefIdeal.main_arg3))
      ∧ r.2.sem = fun _ => 0)

def quiescent_Cut [hCut : Cert.Cut.Facts] : Prop :=
  ∀ (m : (ℓ : Loc Cert.Cut.nD Cert.Cut.τ Cert.Cut.sig) → Buf (Elt Bits) ℓ) (g : Dev Cert.Cut.nD → PrngReg), Pre_Cut m →
    θ_run (Cert.Cut.defs (F := Bits)) (onTc (τ := Cert.Cut.τ) (Cert.Cut.main (F := Bits))) ⟨m, fun _ => 0, g⟩ (fun r => (∀ c : Dev Cert.Cut.nD,
      r.2.mem ((c.tc : Thread Cert.Cut.nD Cert.Cut.τ).loc Cert.Cut.main_arg0) = m ((c.tc : Thread Cert.Cut.nD Cert.Cut.τ).loc Cert.Cut.main_arg0))
      ∧ r.2.sem = fun _ => 0)

def quiescent_CutIdeal [hCutIdeal : Cert.CutIdeal.Facts] : Prop :=
  ∀ (m : (ℓ : Loc Cert.CutIdeal.nD Cert.CutIdeal.τ Cert.CutIdeal.sig) → Buf (Elt Ideal) ℓ) (g : Dev Cert.CutIdeal.nD → PrngReg), Pre_CutIdeal m →
    θ_run (Cert.CutIdeal.defs (F := Ideal)) (onTc (τ := Cert.CutIdeal.τ) (Cert.CutIdeal.main (F := Ideal))) ⟨m, fun _ => 0, g⟩ (fun r => (∀ c : Dev Cert.CutIdeal.nD,
      r.2.mem ((c.tc : Thread Cert.CutIdeal.nD Cert.CutIdeal.τ).loc Cert.CutIdeal.main_arg0) = m ((c.tc : Thread Cert.CutIdeal.nD Cert.CutIdeal.τ).loc Cert.CutIdeal.main_arg0))
      ∧ r.2.sem = fun _ => 0)

def quiescent_CutRefIdeal [hCutRefIdeal : Cert.CutRefIdeal.Facts] : Prop :=
  ∀ (m : (ℓ : Loc Cert.CutRefIdeal.nD Cert.CutRefIdeal.τ Cert.CutRefIdeal.sig) → Buf (Elt Ideal) ℓ) (g : Dev Cert.CutRefIdeal.nD → PrngReg), Pre_CutRefIdeal m →
    θ_run (Cert.CutRefIdeal.defs (F := Ideal)) (onTc (τ := Cert.CutRefIdeal.τ) (Cert.CutRefIdeal.main (F := Ideal))) ⟨m, fun _ => 0, g⟩ (fun r => (∀ c : Dev Cert.CutRefIdeal.nD,
      r.2.mem ((c.tc : Thread Cert.CutRefIdeal.nD Cert.CutRefIdeal.τ).loc Cert.CutRefIdeal.main_arg0) = m ((c.tc : Thread Cert.CutRefIdeal.nD Cert.CutRefIdeal.τ).loc Cert.CutRefIdeal.main_arg0))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Loss_LossIdeal : Prop :=
  True

def algebraic_LossIdeal_LossRefIdeal_pre_finite [hLossIdeal : Cert.LossIdeal.Facts] [hLossRefIdeal : Cert.LossRefIdeal.Facts] [hPre_finite : Cert.Pre_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_MlpDx_MlpDxIdeal : Prop :=
  True

def algebraic_MlpDxIdeal_MlpDxRefIdeal_pre_finite2 [hMlpDxIdeal : Cert.MlpDxIdeal.Facts] [hMlpDxRefIdeal : Cert.MlpDxRefIdeal.Facts] [hPre_finite2 : Cert.Pre_finite2.Facts] : Prop :=
  ∀ (m : (ℓ : Loc Cert.MlpDxIdeal.nD Cert.MlpDxIdeal.τ Cert.MlpDxIdeal.sig) → Buf (Elt Ideal) ℓ) (g : Dev Cert.MlpDxIdeal.nD → PrngReg)
    (m' : (ℓ : Loc Cert.MlpDxRefIdeal.nD Cert.MlpDxRefIdeal.τ Cert.MlpDxRefIdeal.sig) → Buf (Elt Ideal) ℓ) (g' : Dev Cert.MlpDxRefIdeal.nD → PrngReg), Pre_MlpDxIdeal_finite2 m →
    (∀ c : Dev Cert.MlpDxIdeal.nD,
      m' ((c.tc : Thread Cert.MlpDxRefIdeal.nD Cert.MlpDxRefIdeal.τ).loc Cert.MlpDxRefIdeal.main_arg0) = m ((c.tc : Thread Cert.MlpDxIdeal.nD Cert.MlpDxIdeal.τ).loc Cert.MlpDxIdeal.main_arg0)
      ∧ m' ((c.tc : Thread Cert.MlpDxRefIdeal.nD Cert.MlpDxRefIdeal.τ).loc Cert.MlpDxRefIdeal.main_arg1) = m ((c.tc : Thread Cert.MlpDxIdeal.nD Cert.MlpDxIdeal.τ).loc Cert.MlpDxIdeal.main_arg1)
      ∧ m' ((c.tc : Thread Cert.MlpDxRefIdeal.nD Cert.MlpDxRefIdeal.τ).loc Cert.MlpDxRefIdeal.main_arg2) = m ((c.tc : Thread Cert.MlpDxIdeal.nD Cert.MlpDxIdeal.τ).loc Cert.MlpDxIdeal.main_arg2)
      ∧ m' ((c.tc : Thread Cert.MlpDxRefIdeal.nD Cert.MlpDxRefIdeal.τ).loc Cert.MlpDxRefIdeal.main_arg3) = m ((c.tc : Thread Cert.MlpDxIdeal.nD Cert.MlpDxIdeal.τ).loc Cert.MlpDxIdeal.main_arg3)
      ∧ m' ((c.tc : Thread Cert.MlpDxRefIdeal.nD Cert.MlpDxRefIdeal.τ).loc Cert.MlpDxRefIdeal.main_arg4) = m ((c.tc : Thread Cert.MlpDxIdeal.nD Cert.MlpDxIdeal.τ).loc Cert.MlpDxIdeal.main_arg4)) →
    ∃ (v0 : (c : Dev Cert.MlpDxIdeal.nD) → Buf (Elt Ideal) ((c.tc : Thread Cert.MlpDxIdeal.nD Cert.MlpDxIdeal.τ).loc Cert.MlpDxIdeal.main_v5_0)) (v1 : (c : Dev Cert.MlpDxIdeal.nD) → Buf (Elt Ideal) ((c.tc : Thread Cert.MlpDxIdeal.nD Cert.MlpDxIdeal.τ).loc Cert.MlpDxIdeal.main_v5_1)) (v2 : (c : Dev Cert.MlpDxIdeal.nD) → Buf (Elt Ideal) ((c.tc : Thread Cert.MlpDxIdeal.nD Cert.MlpDxIdeal.τ).loc Cert.MlpDxIdeal.main_v5_2)),
      θ_run (Cert.MlpDxIdeal.defs (F := Ideal)) (onTc (τ := Cert.MlpDxIdeal.τ) (Cert.MlpDxIdeal.main (F := Ideal))) ⟨m, fun _ => 0, g⟩ (fun r => ∀ c : Dev Cert.MlpDxIdeal.nD,
          r.2.mem ((c.tc : Thread Cert.MlpDxIdeal.nD Cert.MlpDxIdeal.τ).loc Cert.MlpDxIdeal.main_v5_0) = v0 c
          ∧ r.2.mem ((c.tc : Thread Cert.MlpDxIdeal.nD Cert.MlpDxIdeal.τ).loc Cert.MlpDxIdeal.main_v5_1) = v1 c
          ∧ r.2.mem ((c.tc : Thread Cert.MlpDxIdeal.nD Cert.MlpDxIdeal.τ).loc Cert.MlpDxIdeal.main_v5_2) = v2 c
          ∧ r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
          ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
          ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
          ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
          ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4))
      ∧ θ_run (Cert.MlpDxRefIdeal.defs (F := Ideal)) (onTc (τ := Cert.MlpDxRefIdeal.τ) (Cert.MlpDxRefIdeal.main (F := Ideal))) ⟨m', fun _ => 0, g'⟩ (fun r => ∀ c : Dev Cert.MlpDxRefIdeal.nD,
          r.2.mem ((c.tc : Thread Cert.MlpDxRefIdeal.nD Cert.MlpDxRefIdeal.τ).loc Cert.MlpDxRefIdeal.main_v38) = v0 c
          ∧ r.2.mem ((c.tc : Thread Cert.MlpDxRefIdeal.nD Cert.MlpDxRefIdeal.τ).loc Cert.MlpDxRefIdeal.main_v39) = v1 c
          ∧ r.2.mem ((c.tc : Thread Cert.MlpDxRefIdeal.nD Cert.MlpDxRefIdeal.τ).loc Cert.MlpDxRefIdeal.main_v42) = v2 c
          ∧ r.2.mem ((c.tc : Thread Cert.MlpDxRefIdeal.nD Cert.MlpDxRefIdeal.τ).loc Cert.MlpDxRefIdeal.main_arg0) = m' ((c.tc : Thread Cert.MlpDxRefIdeal.nD Cert.MlpDxRefIdeal.τ).loc Cert.MlpDxRefIdeal.main_arg0)
          ∧ r.2.mem ((c.tc : Thread Cert.MlpDxRefIdeal.nD Cert.MlpDxRefIdeal.τ).loc Cert.MlpDxRefIdeal.main_arg1) = m' ((c.tc : Thread Cert.MlpDxRefIdeal.nD Cert.MlpDxRefIdeal.τ).loc Cert.MlpDxRefIdeal.main_arg1)
          ∧ r.2.mem ((c.tc : Thread Cert.MlpDxRefIdeal.nD Cert.MlpDxRefIdeal.τ).loc Cert.MlpDxRefIdeal.main_arg2) = m' ((c.tc : Thread Cert.MlpDxRefIdeal.nD Cert.MlpDxRefIdeal.τ).loc Cert.MlpDxRefIdeal.main_arg2)
          ∧ r.2.mem ((c.tc : Thread Cert.MlpDxRefIdeal.nD Cert.MlpDxRefIdeal.τ).loc Cert.MlpDxRefIdeal.main_arg3) = m' ((c.tc : Thread Cert.MlpDxRefIdeal.nD Cert.MlpDxRefIdeal.τ).loc Cert.MlpDxRefIdeal.main_arg3)
          ∧ r.2.mem ((c.tc : Thread Cert.MlpDxRefIdeal.nD Cert.MlpDxRefIdeal.τ).loc Cert.MlpDxRefIdeal.main_arg4) = m' ((c.tc : Thread Cert.MlpDxRefIdeal.nD Cert.MlpDxRefIdeal.τ).loc Cert.MlpDxRefIdeal.main_arg4))

def preserves_InDx_InDxIdeal : Prop :=
  True

def algebraic_InDxIdeal_InDxRefIdeal_pre_finite3 [hInDxIdeal : Cert.InDxIdeal.Facts] [hInDxRefIdeal : Cert.InDxRefIdeal.Facts] [hPre_finite3 : Cert.Pre_finite3.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_finite3 m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v5_0)) (v1 : (c : Dev Cert.InDxIdeal.nD) → Buf (Elt Ideal) ((c.tc : Thread Cert.InDxIdeal.nD Cert.InDxIdeal.τ).loc Cert.InDxIdeal.main_v5_1)) (v2 : (c : Dev Cert.InDxIdeal.nD) → Buf (Elt Ideal) ((c.tc : Thread Cert.InDxIdeal.nD Cert.InDxIdeal.τ).loc Cert.InDxIdeal.main_v5_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v5_0) = v0 c
          ∧ r.2.mem ((c.tc : Thread Cert.InDxIdeal.nD Cert.InDxIdeal.τ).loc Cert.InDxIdeal.main_v5_1) = v1 c
          ∧ r.2.mem ((c.tc : Thread Cert.InDxIdeal.nD Cert.InDxIdeal.τ).loc Cert.InDxIdeal.main_v5_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v38) = v0 c
          ∧ r.2.mem ((c.tc : Thread Cert.InDxRefIdeal.nD Cert.InDxRefIdeal.τ).loc Cert.InDxRefIdeal.main_v39) = v1 c
          ∧ r.2.mem ((c.tc : Thread Cert.InDxRefIdeal.nD Cert.InDxRefIdeal.τ).loc Cert.InDxRefIdeal.main_v42) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v7)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v7) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v26) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v14) = v0 c
          ∧ r.2.mem ((c.tc : Thread Cert.UpRefIdeal.nD Cert.UpRefIdeal.τ).loc Cert.UpRefIdeal.main_v15) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)
      ∧ m' ((c.tc : Thread Cert.DwDownRefIdeal.nD Cert.DwDownRefIdeal.τ).loc Cert.DwDownRefIdeal.main_arg3) = m ((c.tc : Thread Cert.DwDownIdeal.nD Cert.DwDownIdeal.τ).loc Cert.DwDownIdeal.main_arg3)
      ∧ m' ((c.tc : Thread Cert.DwDownRefIdeal.nD Cert.DwDownRefIdeal.τ).loc Cert.DwDownRefIdeal.main_arg4) = m ((c.tc : Thread Cert.DwDownIdeal.nD Cert.DwDownIdeal.τ).loc Cert.DwDownIdeal.main_arg4)) →
    ∃ (v0 : (c : Dev Cert.DwDownIdeal.nD) → Buf (Elt Ideal) ((c.tc : Thread Cert.DwDownIdeal.nD Cert.DwDownIdeal.τ).loc Cert.DwDownIdeal.main_v16)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v16) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3)
          ∧ r.2.mem ((c.tc : Thread Cert.DwDownIdeal.nD Cert.DwDownIdeal.τ).loc Cert.DwDownIdeal.main_arg4) = m ((c.tc : Thread Cert.DwDownIdeal.nD Cert.DwDownIdeal.τ).loc Cert.DwDownIdeal.main_arg4))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v19) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2)
          ∧ r.2.mem ((c.tc : Thread Cert.DwDownRefIdeal.nD Cert.DwDownRefIdeal.τ).loc Cert.DwDownRefIdeal.main_arg3) = m' ((c.tc : Thread Cert.DwDownRefIdeal.nD Cert.DwDownRefIdeal.τ).loc Cert.DwDownRefIdeal.main_arg3)
          ∧ r.2.mem ((c.tc : Thread Cert.DwDownRefIdeal.nD Cert.DwDownRefIdeal.τ).loc Cert.DwDownRefIdeal.main_arg4) = m' ((c.tc : Thread Cert.DwDownRefIdeal.nD Cert.DwDownRefIdeal.τ).loc Cert.DwDownRefIdeal.main_arg4))

def preserves_OutDy_OutDyIdeal : Prop :=
  True

def algebraic_OutDyIdeal_OutDyRefIdeal [hOutDyIdeal : Cert.OutDyIdeal.Facts] [hOutDyRefIdeal : Cert.OutDyRefIdeal.Facts] : Prop :=
  ∀ (m : (ℓ : Loc Cert.OutDyIdeal.nD Cert.OutDyIdeal.τ Cert.OutDyIdeal.sig) → Buf (Elt Ideal) ℓ) (g : Dev Cert.OutDyIdeal.nD → PrngReg)
    (m' : (ℓ : Loc Cert.OutDyRefIdeal.nD Cert.OutDyRefIdeal.τ Cert.OutDyRefIdeal.sig) → Buf (Elt Ideal) ℓ) (g' : Dev Cert.OutDyRefIdeal.nD → PrngReg), Pre_OutDyIdeal m →
    (∀ c : Dev Cert.OutDyIdeal.nD,
      m' ((c.tc : Thread Cert.OutDyRefIdeal.nD Cert.OutDyRefIdeal.τ).loc Cert.OutDyRefIdeal.main_arg0) = m ((c.tc : Thread Cert.OutDyIdeal.nD Cert.OutDyIdeal.τ).loc Cert.OutDyIdeal.main_arg0)
      ∧ m' ((c.tc : Thread Cert.OutDyRefIdeal.nD Cert.OutDyRefIdeal.τ).loc Cert.OutDyRefIdeal.main_arg1) = m ((c.tc : Thread Cert.OutDyIdeal.nD Cert.OutDyIdeal.τ).loc Cert.OutDyIdeal.main_arg1)
      ∧ m' ((c.tc : Thread Cert.OutDyRefIdeal.nD Cert.OutDyRefIdeal.τ).loc Cert.OutDyRefIdeal.main_arg2) = m ((c.tc : Thread Cert.OutDyIdeal.nD Cert.OutDyIdeal.τ).loc Cert.OutDyIdeal.main_arg2)) →
    ∃ (v0 : (c : Dev Cert.OutDyIdeal.nD) → Buf (Elt Ideal) ((c.tc : Thread Cert.OutDyIdeal.nD Cert.OutDyIdeal.τ).loc Cert.OutDyIdeal.main_v2)),
      θ_run (Cert.OutDyIdeal.defs (F := Ideal)) (onTc (τ := Cert.OutDyIdeal.τ) (Cert.OutDyIdeal.main (F := Ideal))) ⟨m, fun _ => 0, g⟩ (fun r => ∀ c : Dev Cert.OutDyIdeal.nD,
          r.2.mem ((c.tc : Thread Cert.OutDyIdeal.nD Cert.OutDyIdeal.τ).loc Cert.OutDyIdeal.main_v2) = v0 c
          ∧ r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
          ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1)
          ∧ r.2.mem ((c.tc : Thread Cert.OutDyIdeal.nD Cert.OutDyIdeal.τ).loc Cert.OutDyIdeal.main_arg2) = m ((c.tc : Thread Cert.OutDyIdeal.nD Cert.OutDyIdeal.τ).loc Cert.OutDyIdeal.main_arg2))
      ∧ θ_run (Cert.OutDyRefIdeal.defs (F := Ideal)) (onTc (τ := Cert.OutDyRefIdeal.τ) (Cert.OutDyRefIdeal.main (F := Ideal))) ⟨m', fun _ => 0, g'⟩ (fun r => ∀ c : Dev Cert.OutDyRefIdeal.nD,
          r.2.mem ((c.tc : Thread Cert.OutDyRefIdeal.nD Cert.OutDyRefIdeal.τ).loc Cert.OutDyRefIdeal.main_v2) = v0 c
          ∧ r.2.mem ((c.tc : Thread Cert.OutDyRefIdeal.nD Cert.OutDyRefIdeal.τ).loc Cert.OutDyRefIdeal.main_arg0) = m' ((c.tc : Thread Cert.OutDyRefIdeal.nD Cert.OutDyRefIdeal.τ).loc Cert.OutDyRefIdeal.main_arg0)
          ∧ r.2.mem ((c.tc : Thread Cert.OutDyRefIdeal.nD Cert.OutDyRefIdeal.τ).loc Cert.OutDyRefIdeal.main_arg1) = m' ((c.tc : Thread Cert.OutDyRefIdeal.nD Cert.OutDyRefIdeal.τ).loc Cert.OutDyRefIdeal.main_arg1)
          ∧ r.2.mem ((c.tc : Thread Cert.OutDyRefIdeal.nD Cert.OutDyRefIdeal.τ).loc Cert.OutDyRefIdeal.main_arg2) = m' ((c.tc : Thread Cert.OutDyRefIdeal.nD Cert.OutDyRefIdeal.τ).loc Cert.OutDyRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v4_0)) (v1 : (c : Dev Cert.AdamWIdeal.nD) → Buf (Elt Ideal) ((c.tc : Thread Cert.AdamWIdeal.nD Cert.AdamWIdeal.τ).loc Cert.AdamWIdeal.main_v4_1)) (v2 : (c : Dev Cert.AdamWIdeal.nD) → Buf (Elt Ideal) ((c.tc : Thread Cert.AdamWIdeal.nD Cert.AdamWIdeal.τ).loc Cert.AdamWIdeal.main_v4_2)) (v3 : (c : Dev Cert.AdamWIdeal.nD) → Buf (Elt Ideal) ((c.tc : Thread Cert.AdamWIdeal.nD Cert.AdamWIdeal.τ).loc Cert.AdamWIdeal.main_v4_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v4_0) = v0 c
          ∧ r.2.mem ((c.tc : Thread Cert.AdamWIdeal.nD Cert.AdamWIdeal.τ).loc Cert.AdamWIdeal.main_v4_1) = v1 c
          ∧ r.2.mem ((c.tc : Thread Cert.AdamWIdeal.nD Cert.AdamWIdeal.τ).loc Cert.AdamWIdeal.main_v4_2) = v2 c
          ∧ r.2.mem ((c.tc : Thread Cert.AdamWIdeal.nD Cert.AdamWIdeal.τ).loc Cert.AdamWIdeal.main_v4_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v25) = v0 c
          ∧ r.2.mem ((c.tc : Thread Cert.AdamWRefIdeal.nD Cert.AdamWRefIdeal.τ).loc Cert.AdamWRefIdeal.main_v26) = v1 c
          ∧ r.2.mem ((c.tc : Thread Cert.AdamWRefIdeal.nD Cert.AdamWRefIdeal.τ).loc Cert.AdamWRefIdeal.main_v27) = v2 c
          ∧ r.2.mem ((c.tc : Thread Cert.AdamWRefIdeal.nD Cert.AdamWRefIdeal.τ).loc Cert.AdamWRefIdeal.main_v28) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_MixBwd_MixBwdIdeal : Prop :=
  True

def preserves_MixFwd_MixFwdIdeal : Prop :=
  True

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v16)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v16) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v18) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3))

def preserves_AdamL_AdamLIdeal : Prop :=
  True

def algebraic_AdamLIdeal_AdamLRefIdeal [hAdamLIdeal : Cert.AdamLIdeal.Facts] [hAdamLRefIdeal : Cert.AdamLRefIdeal.Facts] : Prop :=
  ∀ (m : (ℓ : Loc Cert.AdamLIdeal.nD Cert.AdamLIdeal.τ Cert.AdamLIdeal.sig) → Buf (Elt Ideal) ℓ) (g : Dev Cert.AdamLIdeal.nD → PrngReg)
    (m' : (ℓ : Loc Cert.AdamLRefIdeal.nD Cert.AdamLRefIdeal.τ Cert.AdamLRefIdeal.sig) → Buf (Elt Ideal) ℓ) (g' : Dev Cert.AdamLRefIdeal.nD → PrngReg), Pre_AdamLIdeal m →
    (∀ c : Dev Cert.AdamLIdeal.nD,
      m' ((c.tc : Thread Cert.AdamLRefIdeal.nD Cert.AdamLRefIdeal.τ).loc Cert.AdamLRefIdeal.main_arg0) = m ((c.tc : Thread Cert.AdamLIdeal.nD Cert.AdamLIdeal.τ).loc Cert.AdamLIdeal.main_arg0)
      ∧ m' ((c.tc : Thread Cert.AdamLRefIdeal.nD Cert.AdamLRefIdeal.τ).loc Cert.AdamLRefIdeal.main_arg1) = m ((c.tc : Thread Cert.AdamLIdeal.nD Cert.AdamLIdeal.τ).loc Cert.AdamLIdeal.main_arg1)
      ∧ m' ((c.tc : Thread Cert.AdamLRefIdeal.nD Cert.AdamLRefIdeal.τ).loc Cert.AdamLRefIdeal.main_arg2) = m ((c.tc : Thread Cert.AdamLIdeal.nD Cert.AdamLIdeal.τ).loc Cert.AdamLIdeal.main_arg2)
      ∧ m' ((c.tc : Thread Cert.AdamLRefIdeal.nD Cert.AdamLRefIdeal.τ).loc Cert.AdamLRefIdeal.main_arg3) = m ((c.tc : Thread Cert.AdamLIdeal.nD Cert.AdamLIdeal.τ).loc Cert.AdamLIdeal.main_arg3)) →
    ∃ (v0 : (c : Dev Cert.AdamLIdeal.nD) → Buf (Elt Ideal) ((c.tc : Thread Cert.AdamLIdeal.nD Cert.AdamLIdeal.τ).loc Cert.AdamLIdeal.main_v10_0)) (v1 : (c : Dev Cert.AdamLIdeal.nD) → Buf (Elt Ideal) ((c.tc : Thread Cert.AdamLIdeal.nD Cert.AdamLIdeal.τ).loc Cert.AdamLIdeal.main_v10_1)) (v2 : (c : Dev Cert.AdamLIdeal.nD) → Buf (Elt Ideal) ((c.tc : Thread Cert.AdamLIdeal.nD Cert.AdamLIdeal.τ).loc Cert.AdamLIdeal.main_v10_2)) (v3 : (c : Dev Cert.AdamLIdeal.nD) → Buf (Elt Ideal) ((c.tc : Thread Cert.AdamLIdeal.nD Cert.AdamLIdeal.τ).loc Cert.AdamLIdeal.main_v10_3)),
      θ_run (Cert.AdamLIdeal.defs (F := Ideal)) (onTc (τ := Cert.AdamLIdeal.τ) (Cert.AdamLIdeal.main (F := Ideal))) ⟨m, fun _ => 0, g⟩ (fun r => ∀ c : Dev Cert.AdamLIdeal.nD,
          r.2.mem ((c.tc : Thread Cert.AdamLIdeal.nD Cert.AdamLIdeal.τ).loc Cert.AdamLIdeal.main_v10_0) = v0 c
          ∧ r.2.mem ((c.tc : Thread Cert.AdamLIdeal.nD Cert.AdamLIdeal.τ).loc Cert.AdamLIdeal.main_v10_1) = v1 c
          ∧ r.2.mem ((c.tc : Thread Cert.AdamLIdeal.nD Cert.AdamLIdeal.τ).loc Cert.AdamLIdeal.main_v10_2) = v2 c
          ∧ r.2.mem ((c.tc : Thread Cert.AdamLIdeal.nD Cert.AdamLIdeal.τ).loc Cert.AdamLIdeal.main_v10_3) = v3 c
          ∧ r.2.mem ((c.tc : Thread Cert.AdamLIdeal.nD Cert.AdamLIdeal.τ).loc Cert.AdamLIdeal.main_arg0) = m ((c.tc : Thread Cert.AdamLIdeal.nD Cert.AdamLIdeal.τ).loc Cert.AdamLIdeal.main_arg0)
          ∧ r.2.mem ((c.tc : Thread Cert.AdamLIdeal.nD Cert.AdamLIdeal.τ).loc Cert.AdamLIdeal.main_arg1) = m ((c.tc : Thread Cert.AdamLIdeal.nD Cert.AdamLIdeal.τ).loc Cert.AdamLIdeal.main_arg1)
          ∧ r.2.mem ((c.tc : Thread Cert.AdamLIdeal.nD Cert.AdamLIdeal.τ).loc Cert.AdamLIdeal.main_arg2) = m ((c.tc : Thread Cert.AdamLIdeal.nD Cert.AdamLIdeal.τ).loc Cert.AdamLIdeal.main_arg2)
          ∧ r.2.mem ((c.tc : Thread Cert.AdamLIdeal.nD Cert.AdamLIdeal.τ).loc Cert.AdamLIdeal.main_arg3) = m ((c.tc : Thread Cert.AdamLIdeal.nD Cert.AdamLIdeal.τ).loc Cert.AdamLIdeal.main_arg3))
      ∧ θ_run (Cert.AdamLRefIdeal.defs (F := Ideal)) (onTc (τ := Cert.AdamLRefIdeal.τ) (Cert.AdamLRefIdeal.main (F := Ideal))) ⟨m', fun _ => 0, g'⟩ (fun r => ∀ c : Dev Cert.AdamLRefIdeal.nD,
          r.2.mem ((c.tc : Thread Cert.AdamLRefIdeal.nD Cert.AdamLRefIdeal.τ).loc Cert.AdamLRefIdeal.main_v0) = v0 c
          ∧ r.2.mem ((c.tc : Thread Cert.AdamLRefIdeal.nD Cert.AdamLRefIdeal.τ).loc Cert.AdamLRefIdeal.main_v24) = v1 c
          ∧ r.2.mem ((c.tc : Thread Cert.AdamLRefIdeal.nD Cert.AdamLRefIdeal.τ).loc Cert.AdamLRefIdeal.main_v5) = v2 c
          ∧ r.2.mem ((c.tc : Thread Cert.AdamLRefIdeal.nD Cert.AdamLRefIdeal.τ).loc Cert.AdamLRefIdeal.main_v11) = v3 c
          ∧ r.2.mem ((c.tc : Thread Cert.AdamLRefIdeal.nD Cert.AdamLRefIdeal.τ).loc Cert.AdamLRefIdeal.main_arg0) = m' ((c.tc : Thread Cert.AdamLRefIdeal.nD Cert.AdamLRefIdeal.τ).loc Cert.AdamLRefIdeal.main_arg0)
          ∧ r.2.mem ((c.tc : Thread Cert.AdamLRefIdeal.nD Cert.AdamLRefIdeal.τ).loc Cert.AdamLRefIdeal.main_arg1) = m' ((c.tc : Thread Cert.AdamLRefIdeal.nD Cert.AdamLRefIdeal.τ).loc Cert.AdamLRefIdeal.main_arg1)
          ∧ r.2.mem ((c.tc : Thread Cert.AdamLRefIdeal.nD Cert.AdamLRefIdeal.τ).loc Cert.AdamLRefIdeal.main_arg2) = m' ((c.tc : Thread Cert.AdamLRefIdeal.nD Cert.AdamLRefIdeal.τ).loc Cert.AdamLRefIdeal.main_arg2)
          ∧ r.2.mem ((c.tc : Thread Cert.AdamLRefIdeal.nD Cert.AdamLRefIdeal.τ).loc Cert.AdamLRefIdeal.main_arg3) = m' ((c.tc : Thread Cert.AdamLRefIdeal.nD Cert.AdamLRefIdeal.τ).loc Cert.AdamLRefIdeal.main_arg3))

def preserves_Cut_CutIdeal : Prop :=
  True

def algebraic_CutIdeal_CutRefIdeal [hCutIdeal : Cert.CutIdeal.Facts] [hCutRefIdeal : Cert.CutRefIdeal.Facts] : Prop :=
  ∀ (m : (ℓ : Loc Cert.CutIdeal.nD Cert.CutIdeal.τ Cert.CutIdeal.sig) → Buf (Elt Ideal) ℓ) (g : Dev Cert.CutIdeal.nD → PrngReg)
    (m' : (ℓ : Loc Cert.CutRefIdeal.nD Cert.CutRefIdeal.τ Cert.CutRefIdeal.sig) → Buf (Elt Ideal) ℓ) (g' : Dev Cert.CutRefIdeal.nD → PrngReg), Pre_CutIdeal m →
    (∀ c : Dev Cert.CutIdeal.nD,
      m' ((c.tc : Thread Cert.CutRefIdeal.nD Cert.CutRefIdeal.τ).loc Cert.CutRefIdeal.main_arg0) = m ((c.tc : Thread Cert.CutIdeal.nD Cert.CutIdeal.τ).loc Cert.CutIdeal.main_arg0)) →
    ∃ (v0 : (c : Dev Cert.CutIdeal.nD) → Buf (Elt Ideal) ((c.tc : Thread Cert.CutIdeal.nD Cert.CutIdeal.τ).loc Cert.CutIdeal.main_v2)),
      θ_run (Cert.CutIdeal.defs (F := Ideal)) (onTc (τ := Cert.CutIdeal.τ) (Cert.CutIdeal.main (F := Ideal))) ⟨m, fun _ => 0, g⟩ (fun r => ∀ c : Dev Cert.CutIdeal.nD,
          r.2.mem ((c.tc : Thread Cert.CutIdeal.nD Cert.CutIdeal.τ).loc Cert.CutIdeal.main_v2) = v0 c
          ∧ r.2.mem ((c.tc : Thread Cert.CutIdeal.nD Cert.CutIdeal.τ).loc Cert.CutIdeal.main_arg0) = m ((c.tc : Thread Cert.CutIdeal.nD Cert.CutIdeal.τ).loc Cert.CutIdeal.main_arg0))
      ∧ θ_run (Cert.CutRefIdeal.defs (F := Ideal)) (onTc (τ := Cert.CutRefIdeal.τ) (Cert.CutRefIdeal.main (F := Ideal))) ⟨m', fun _ => 0, g'⟩ (fun r => ∀ c : Dev Cert.CutRefIdeal.nD,
          r.2.mem ((c.tc : Thread Cert.CutRefIdeal.nD Cert.CutRefIdeal.τ).loc Cert.CutRefIdeal.main_v4) = v0 c
          ∧ r.2.mem ((c.tc : Thread Cert.CutRefIdeal.nD Cert.CutRefIdeal.τ).loc Cert.CutRefIdeal.main_arg0) = m' ((c.tc : Thread Cert.CutRefIdeal.nD Cert.CutRefIdeal.τ).loc Cert.CutRefIdeal.main_arg0))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)) →
    ∃ (v0 : (c : Dev Cert.JoinIdeal.nD) → Buf (Elt Ideal) ((c.tc : Thread Cert.JoinIdeal.nD Cert.JoinIdeal.τ).loc Cert.JoinIdeal.main_v2)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v2) = v0 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v4) = v0 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hLoss : Cert.Loss.Facts) (hLossIdeal : Cert.LossIdeal.Facts) (hLossRefIdeal : Cert.LossRefIdeal.Facts) (hMlpDx : Cert.MlpDx.Facts) (hMlpDxIdeal : Cert.MlpDxIdeal.Facts) (hMlpDxRefIdeal : Cert.MlpDxRefIdeal.Facts) (hInDx : Cert.InDx.Facts) (hInDxIdeal : Cert.InDxIdeal.Facts) (hInDxRefIdeal : Cert.InDxRefIdeal.Facts) (hAct : Cert.Act.Facts) (hActIdeal : Cert.ActIdeal.Facts) (hActRefIdeal : Cert.ActRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hDwDown : Cert.DwDown.Facts) (hDwDownIdeal : Cert.DwDownIdeal.Facts) (hDwDownRefIdeal : Cert.DwDownRefIdeal.Facts) (hOutDy : Cert.OutDy.Facts) (hOutDyIdeal : Cert.OutDyIdeal.Facts) (hOutDyRefIdeal : Cert.OutDyRefIdeal.Facts) (hAdamW : Cert.AdamW.Facts) (hAdamWIdeal : Cert.AdamWIdeal.Facts) (hAdamWRefIdeal : Cert.AdamWRefIdeal.Facts) (hMixBwd : Cert.MixBwd.Facts) (hMixBwdIdeal : Cert.MixBwdIdeal.Facts) (hMixFwd : Cert.MixFwd.Facts) (hMixFwdIdeal : Cert.MixFwdIdeal.Facts) (hOutProj : Cert.OutProj.Facts) (hOutProjIdeal : Cert.OutProjIdeal.Facts) (hOutProjRefIdeal : Cert.OutProjRefIdeal.Facts) (hDwIn : Cert.DwIn.Facts) (hDwInIdeal : Cert.DwInIdeal.Facts) (hDwInRefIdeal : Cert.DwInRefIdeal.Facts) (hAdamL : Cert.AdamL.Facts) (hAdamLIdeal : Cert.AdamLIdeal.Facts) (hAdamLRefIdeal : Cert.AdamLRefIdeal.Facts) (hCut : Cert.Cut.Facts) (hCutIdeal : Cert.CutIdeal.Facts) (hCutRefIdeal : Cert.CutRefIdeal.Facts) (hJoin : Cert.Join.Facts) (hJoinIdeal : Cert.JoinIdeal.Facts) (hJoinRefIdeal : Cert.JoinRefIdeal.Facts) (hInProj : Cert.InProj.Facts) (hInProjIdeal : Cert.InProjIdeal.Facts) (hInProjRefIdeal : Cert.InProjRefIdeal.Facts) (hPre_finite : Cert.Pre_finite.Facts) (hPre_finite2 : Cert.Pre_finite2.Facts) (hPre_finite3 : Cert.Pre_finite3.Facts),
    quiescent_Loss (hLoss := hLoss)
    ∧ quiescent_LossIdeal (hLossIdeal := hLossIdeal)
    ∧ quiescent_LossIdeal_pre_finite (hLossIdeal := hLossIdeal) (hPre_finite := hPre_finite)
    ∧ quiescent_LossRefIdeal (hLossRefIdeal := hLossRefIdeal)
    ∧ quiescent_LossRefIdeal_pre_finite (hLossRefIdeal := hLossRefIdeal) (hPre_finite := hPre_finite)
    ∧ quiescent_MlpDx (hMlpDx := hMlpDx)
    ∧ quiescent_MlpDxIdeal (hMlpDxIdeal := hMlpDxIdeal)
    ∧ quiescent_MlpDxIdeal_pre_finite2 (hMlpDxIdeal := hMlpDxIdeal) (hPre_finite2 := hPre_finite2)
    ∧ quiescent_MlpDxRefIdeal (hMlpDxRefIdeal := hMlpDxRefIdeal)
    ∧ quiescent_MlpDxRefIdeal_pre_finite2 (hMlpDxRefIdeal := hMlpDxRefIdeal) (hPre_finite2 := hPre_finite2)
    ∧ quiescent_InDx (hInDx := hInDx)
    ∧ quiescent_InDxIdeal (hInDxIdeal := hInDxIdeal)
    ∧ quiescent_InDxIdeal_pre_finite3 (hInDxIdeal := hInDxIdeal) (hPre_finite3 := hPre_finite3)
    ∧ quiescent_InDxRefIdeal (hInDxRefIdeal := hInDxRefIdeal)
    ∧ quiescent_InDxRefIdeal_pre_finite3 (hInDxRefIdeal := hInDxRefIdeal) (hPre_finite3 := hPre_finite3)
    ∧ quiescent_Act (hAct := hAct)
    ∧ quiescent_ActIdeal (hActIdeal := hActIdeal)
    ∧ quiescent_ActRefIdeal (hActRefIdeal := hActRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_OutDy (hOutDy := hOutDy)
    ∧ quiescent_OutDyIdeal (hOutDyIdeal := hOutDyIdeal)
    ∧ quiescent_OutDyRefIdeal (hOutDyRefIdeal := hOutDyRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_MixBwd (hMixBwd := hMixBwd)
    ∧ quiescent_MixBwdIdeal (hMixBwdIdeal := hMixBwdIdeal)
    ∧ quiescent_MixFwd (hMixFwd := hMixFwd)
    ∧ quiescent_MixFwdIdeal (hMixFwdIdeal := hMixFwdIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_AdamL (hAdamL := hAdamL)
    ∧ quiescent_AdamLIdeal (hAdamLIdeal := hAdamLIdeal)
    ∧ quiescent_AdamLRefIdeal (hAdamLRefIdeal := hAdamLRefIdeal)
    ∧ quiescent_Cut (hCut := hCut)
    ∧ quiescent_CutIdeal (hCutIdeal := hCutIdeal)
    ∧ quiescent_CutRefIdeal (hCutRefIdeal := hCutRefIdeal)
    ∧ quiescent_Join (hJoin := hJoin)
    ∧ quiescent_JoinIdeal (hJoinIdeal := hJoinIdeal)
    ∧ quiescent_JoinRefIdeal (hJoinRefIdeal := hJoinRefIdeal)
    ∧ quiescent_InProj (hInProj := hInProj)
    ∧ quiescent_InProjIdeal (hInProjIdeal := hInProjIdeal)
    ∧ quiescent_InProjRefIdeal (hInProjRefIdeal := hInProjRefIdeal)
    ∧ preserves_Loss_LossIdeal
    ∧ algebraic_LossIdeal_LossRefIdeal_pre_finite (hLossIdeal := hLossIdeal) (hLossRefIdeal := hLossRefIdeal) (hPre_finite := hPre_finite)
    ∧ preserves_MlpDx_MlpDxIdeal
    ∧ algebraic_MlpDxIdeal_MlpDxRefIdeal_pre_finite2 (hMlpDxIdeal := hMlpDxIdeal) (hMlpDxRefIdeal := hMlpDxRefIdeal) (hPre_finite2 := hPre_finite2)
    ∧ preserves_InDx_InDxIdeal
    ∧ algebraic_InDxIdeal_InDxRefIdeal_pre_finite3 (hInDxIdeal := hInDxIdeal) (hInDxRefIdeal := hInDxRefIdeal) (hPre_finite3 := hPre_finite3)
    ∧ preserves_Act_ActIdeal
    ∧ algebraic_ActIdeal_ActRefIdeal (hActIdeal := hActIdeal) (hActRefIdeal := hActRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_DwDown_DwDownIdeal
    ∧ algebraic_DwDownIdeal_DwDownRefIdeal (hDwDownIdeal := hDwDownIdeal) (hDwDownRefIdeal := hDwDownRefIdeal)
    ∧ preserves_OutDy_OutDyIdeal
    ∧ algebraic_OutDyIdeal_OutDyRefIdeal (hOutDyIdeal := hOutDyIdeal) (hOutDyRefIdeal := hOutDyRefIdeal)
    ∧ preserves_AdamW_AdamWIdeal
    ∧ algebraic_AdamWIdeal_AdamWRefIdeal (hAdamWIdeal := hAdamWIdeal) (hAdamWRefIdeal := hAdamWRefIdeal)
    ∧ preserves_MixBwd_MixBwdIdeal
    ∧ preserves_MixFwd_MixFwdIdeal
    ∧ preserves_OutProj_OutProjIdeal
    ∧ algebraic_OutProjIdeal_OutProjRefIdeal (hOutProjIdeal := hOutProjIdeal) (hOutProjRefIdeal := hOutProjRefIdeal)
    ∧ preserves_DwIn_DwInIdeal
    ∧ algebraic_DwInIdeal_DwInRefIdeal (hDwInIdeal := hDwInIdeal) (hDwInRefIdeal := hDwInRefIdeal)
    ∧ preserves_AdamL_AdamLIdeal
    ∧ algebraic_AdamLIdeal_AdamLRefIdeal (hAdamLIdeal := hAdamLIdeal) (hAdamLRefIdeal := hAdamLRefIdeal)
    ∧ preserves_Cut_CutIdeal
    ∧ algebraic_CutIdeal_CutRefIdeal (hCutIdeal := hCutIdeal) (hCutRefIdeal := hCutRefIdeal)
    ∧ preserves_Join_JoinIdeal
    ∧ algebraic_JoinIdeal_JoinRefIdeal (hJoinIdeal := hJoinIdeal) (hJoinRefIdeal := hJoinRefIdeal)
    ∧ preserves_InProj_InProjIdeal
    ∧ algebraic_InProjIdeal_InProjRefIdeal (hInProjIdeal := hInProjIdeal) (hInProjRefIdeal := hInProjRefIdeal)
-- ==== Pre_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite2.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S8192x4096 : S_.BroadcastsInDim S8192x4096 (![] : Fin 0 → Fin S8192x4096.rank)

variable [Facts]

def fn {F : FTy → Type} [FloatOps F] (main_arg0 : FVec F S8192x1024 .f32) (main_arg1 : FVec F S1024 .f32) (main_arg2 : FVec F S1024x4096 .f32) (main_arg3 : FVec F S8192x4096 .f32) (main_arg4 : FVec F S8192x1024 .f32) : IVec S8192x1024 1 × IVec S1024 1 × IVec S1024x4096 1 × IVec S8192x4096 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S8192x4096 .f32 := Host.absf main_arg3
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  (main_v2, main_v5, main_v8, main_v11)
-- ==== Pre_finite3.lean ====
abbrev S8192x1024 : Shape := ⟨2, ![8192, 1024]⟩
abbrev S1024 : Shape := ⟨1, ![1024]⟩
abbrev S1024x5648 : Shape := ⟨2, ![1024, 5648]⟩
abbrev S8192x5648 : Shape := ⟨2, ![8192, 5648]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5648 : S_.BroadcastsInDim S1024x5648 (![] : Fin 0 → Fin S1024x5648.rank)
  bcast_S_S8192x5648 : S_.BroadcastsInDim S8192x5648 (![] : Fin 0 → Fin S8192x5648.rank)

variable [Facts]

def fn {F : FTy → Type} [FloatOps F] (main_arg0 : FVec F S8192x1024 .f32) (main_arg1 : FVec F S1024 .f32) (main_arg2 : FVec F S1024x5648 .f32) (main_arg3 : FVec F S8192x5648 .f32) (main_arg4 : FVec F S8192x1024 .f32) : IVec S8192x1024 1 × IVec S1024 1 × IVec S1024x5648 1 × IVec S8192x5648 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5648 .f32 := Host.absf main_arg2
  let main_cst_1 : FVec F S_ .f32 := constant S_ .f32 0x7F800000#32
  let main_v7 : FVec F S1024x5648 .f32 := broadcastInDim S1024x5648 ![] bcast_S_S1024x5648 main_cst_1
  let main_v8 : IVec S1024x5648 1 := cmpf .olt main_v6 main_v7
  let main_v9 : FVec F S8192x5648 .f32 := Host.absf main_arg3
  let main_cst_2 : FVec F S_ .f32 := constant S_ .f32 0x7F800000#32
  let main_v10 : FVec F S8192x5648 .f32 := broadcastInDim S8192x5648 ![] bcast_S_S8192x5648 main_cst_2
  let main_v11 : IVec S8192x5648 1 := cmpf .olt main_v9 main_v10
  (main_v2, main_v5, main_v8, main_v11)
-- ==== Loss.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S_, .f32⟩
  | .hbm, ⟨73, _⟩ => ⟨S7x1024, .f32⟩
  | .hbm, ⟨74, _⟩ => ⟨S8x1024, .f32⟩
  | .hbm, ⟨75, _⟩ => ⟨S8x128, .f32⟩
  | .hbm, ⟨76, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== MlpDx.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1024x8x512 : Shape := ⟨3, ![1024, 8, 512]⟩
abbrev S8x1024x512 : Shape := ⟨3, ![8, 1024, 512]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpDxRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== InDx.lean ====
abbrev S8192x1024 : Shape := ⟨2, ![8192, 1024]⟩
abbrev S1024 : Shape := ⟨1, ![1024]⟩
abbrev S1024x5648 : Shape := ⟨2, ![1024, 5648]⟩
abbrev S8192x5648 : Shape := ⟨2, ![8192, 5648]⟩
abbrev S_ : Shape := ⟨0, ![]⟩
abbrev S8192x5760 : Shape := ⟨2, ![8192, 5760]⟩
abbrev S1024x5760 : Shape := ⟨2, ![1024, 5760]⟩
abbrev S1x1024 : Shape := ⟨2, ![1, 1024]⟩
abbrev S8x1024 : Shape := ⟨2, ![8, 1024]⟩
abbrev S512x5760 : Shape := ⟨2, ![512, 5760]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5648, .f32⟩
  | .hbm, ⟨3, _⟩ => ⟨S8192x5648, .f32⟩
  | .hbm, ⟨4, _⟩ => ⟨S8192x1024, .f32⟩
  | .hbm, ⟨5, _⟩ => ⟨S8192x5648, .bf16⟩
  | .hbm, ⟨6, _⟩ => ⟨S_, .bf16⟩
  | .hbm, ⟨7, _⟩ => ⟨S8192x5760, .bf16⟩
  | .hbm, ⟨8, _⟩ => ⟨S1024x5648, .bf16⟩
  | .hbm, ⟨9, _⟩ => ⟨S_, .bf16⟩
  | .hbm, ⟨10, _⟩ => ⟨S1024x5760, .bf16⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8x1024, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxRefIdeal.lean ====
abbrev S8192x1024 : Shape := ⟨2, ![8192, 1024]⟩
abbrev S1024 : Shape := ⟨1, ![1024]⟩
abbrev S1024x5648 : Shape := ⟨2, ![1024, 5648]⟩
abbrev S8192x5648 : Shape := ⟨2, ![8192, 5648]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5648, .f32⟩
  | .hbm, ⟨3, _⟩ => ⟨S8192x5648, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5648, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Act.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1024x1024 : Shape := ⟨2, ![1024, 1024]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S1x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S8192x4096, .bf16⟩
  | .hbm, ⟨10, _⟩ => ⟨S8192x1024, .bf16⟩
  | .hbm, ⟨11, _⟩ => ⟨S8192x1024, .bf16⟩
  | .hbm, ⟨12, _⟩ => ⟨S4096x1024, .bf16⟩
  | .hbm, ⟨13, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4096x1024, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ActRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .i1⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Up.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S8192x4096, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Down.lean ====
abbrev S8192x1024 : Shape := ⟨2, ![8192, 1024]⟩
abbrev S8192x4096 : Shape := ⟨2, ![8192, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S8192x4096, .bf16⟩
  | .hbm, ⟨4, _⟩ => ⟨S4096x1024, .bf16⟩
  | .hbm, ⟨5, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S8192x1024 : Shape := ⟨2, ![8192, 1024]⟩
abbrev S8192x4096 : Shape := ⟨2, ![8192, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== DwDown.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 25
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .bf16⟩
  | .hbm, ⟨23, _⟩ => ⟨S8192x1024, .bf16⟩
  | .hbm, ⟨24, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownRefIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S1024x4096, .f32⟩
  | .hbm, ⟨28, _⟩ => ⟨S4096x1024, .f32⟩
  | .hbm, ⟨29, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== OutDy.lean ====
abbrev S8192x2048 : Shape := ⟨2, ![8192, 2048]⟩
abbrev S2048x1024 : Shape := ⟨2, ![2048, 1024]⟩
abbrev S8192x1024 : Shape := ⟨2, ![8192, 1024]⟩
abbrev S512x1024 : Shape := ⟨2, ![512, 1024]⟩
abbrev S512x2048 : Shape := ⟨2, ![512, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .bf16⟩
  | .hbm, ⟨4, _⟩ => ⟨S2048x1024, .bf16⟩
  | .hbm, ⟨5, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDyRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdamW.lean ====
abbrev S4x3x128 : Shape := ⟨3, ![4, 3, 128]⟩
abbrev S8x4x3x128 : Shape := ⟨4, ![8, 4, 3, 128]⟩
abbrev S12x128 : Shape := ⟨2, ![12, 128]⟩
abbrev S8x12x128 : Shape := ⟨3, ![8, 12, 128]⟩
abbrev S1x12x128 : Shape := ⟨3, ![1, 12, 128]⟩

abbrev nBuf : Space → Nat
  | .hbm => 12
  | .vmem => 8
  | .smem => 0
  | _ => 0

abbrev bufTy : (tb : Table) → Fin (tcTables nBuf tb) → BufTy
  | .hbm, ⟨0, _⟩ => ⟨S4x3x128, .f32⟩
  | .hbm, ⟨1, _⟩ => ⟨S8x4x3x128, .f32⟩
  | .hbm, ⟨2, _⟩ => ⟨S4x3x128, .f32⟩
  | .hbm, ⟨3, _⟩ => ⟨S4x3x128, .f32⟩
  | .hbm, ⟨4, _⟩ => ⟨S12x128, .f32⟩
  | .hbm, ⟨5, _⟩ => ⟨S8x12x128, .f32⟩
  | .hbm, ⟨6, _⟩ => ⟨S12x128, .f32⟩
  | .hbm, ⟨7, _⟩ => ⟨S12x128, .f32⟩
  | .hbm, ⟨8, _⟩ => ⟨S12x128, .f32⟩
  | .hbm, ⟨9, _⟩ => ⟨S12x128, .f32⟩
  | .hbm, ⟨10, _⟩ => ⟨S12x128, .f32⟩
  | .hbm, ⟨11, _⟩ => ⟨S12x128, .f32⟩
  | .local _ .vmem, ⟨0, _⟩ => ⟨S12x128, .f32⟩
  | .local _ .vmem, ⟨1, _⟩ => ⟨S8x12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | .local _ .vmem, ⟨7, _⟩ => ⟨S12x128, .f32⟩
  | _, _ => ⟨S4x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWRefIdeal.lean ====
abbrev S4x3x128 : Shape := ⟨3, ![4, 3, 128]⟩
abbrev S8x4x3x128 : Shape := ⟨4, ![8, 4, 3, 128]⟩
abbrev S_ : Shape := ⟨0, ![]⟩
abbrev S12x128 : Shape := ⟨2, ![12, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x3x128, .f32⟩
  | .hbm, ⟨1, _⟩ => ⟨S8x4x3x128, .f32⟩
  | .hbm, ⟨2, _⟩ => ⟨S4x3x128, .f32⟩
  | .hbm, ⟨3, _⟩ => ⟨S4x3x128, .f32⟩
  | .hbm, ⟨4, _⟩ => ⟨S_, .f32⟩
  | .hbm, ⟨5, _⟩ => ⟨S4x3x128, .f32⟩
  | .hbm, ⟨6, _⟩ => ⟨S_, .f32⟩
  | .hbm, ⟨7, _⟩ => ⟨S4x3x128, .f32⟩
  | .hbm, ⟨8, _⟩ => ⟨S4x3x128, .f32⟩
  | .hbm, ⟨9, _⟩ => ⟨S_, .f32⟩
  | .hbm, ⟨10, _⟩ => ⟨S4x3x128, .f32⟩
  | .hbm, ⟨11, _⟩ => ⟨S4x3x128, .f32⟩
  | .hbm, ⟨12, _⟩ => ⟨S4x3x128, .f32⟩
  | .hbm, ⟨13, _⟩ => ⟨S_, .f32⟩
  | .hbm, ⟨14, _⟩ => ⟨S4x3x128, .f32⟩
  | .hbm, ⟨15, _⟩ => ⟨S4x3x128, .f32⟩
  | .hbm, ⟨16, _⟩ => ⟨S4x3x128, .f32⟩
  | .hbm, ⟨17, _⟩ => ⟨S_, .f32⟩
  | .hbm, ⟨18, _⟩ => ⟨S4x3x128, .f32⟩
  | .hbm, ⟨19, _⟩ => ⟨S4x3x128, .f32⟩
  | .hbm, ⟨20, _⟩ => ⟨S4x3x128, .f32⟩
  | .hbm, ⟨21, _⟩ => ⟨S_, .f32⟩
  | .hbm, ⟨22, _⟩ => ⟨S4x3x128, .f32⟩
  | .hbm, ⟨23, _⟩ => ⟨S4x3x128, .f32⟩
  | .hbm, ⟨24, _⟩ => ⟨S_, .f32⟩
  | .hbm, ⟨25, _⟩ => ⟨S4x3x128, .f32⟩
  | .hbm, ⟨26, _⟩ => ⟨S4x3x128, .f32⟩
  | .hbm, ⟨27, _⟩ => ⟨S4x3x128, .f32⟩
  | .hbm, ⟨28, _⟩ => ⟨S_, .f32⟩
  | .hbm, ⟨29, _⟩ => ⟨S4x3x128, .f32⟩
  | .hbm, ⟨30, _⟩ => ⟨S4x3x128, .f32⟩
  | .hbm, ⟨31, _⟩ => ⟨S4x3x128, .f32⟩
  | .hbm, ⟨32, _⟩ => ⟨S_, .f32⟩
  | .hbm, ⟨33, _⟩ => ⟨S4x3x128, .f32⟩
  | .hbm, ⟨34, _⟩ => ⟨S4x3x128, .f32⟩
  | .hbm, ⟨35, _⟩ => ⟨S4x3x128, .f32⟩
  | .hbm, ⟨36, _⟩ => ⟨S_, .f32⟩
  | .hbm, ⟨37, _⟩ => ⟨S4x3x128, .f32⟩
  | .hbm, ⟨38, _⟩ => ⟨S4x3x128, .f32⟩
  | .hbm, ⟨39, _⟩ => ⟨S12x128, .f32⟩
  | .hbm, ⟨40, _⟩ => ⟨S12x128, .f32⟩
  | .hbm, ⟨41, _⟩ => ⟨S12x128, .f32⟩
  | .hbm, ⟨42, _⟩ => ⟨S12x128, .f32⟩
  | _, _ => ⟨S4x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== MixBwd.lean ====
abbrev S8192x5760 : Shape := ⟨2, ![8192, 5760]⟩
abbrev S8192x2048 : Shape := ⟨2, ![8192, 2048]⟩
abbrev S128x128x1024 : Shape := ⟨3, ![128, 128, 1024]⟩
abbrev S8192x3584 : Shape := ⟨2, ![8192, 3584]⟩
abbrev S8x1024 : Shape := ⟨2, ![8, 1024]⟩
abbrev S8x512 : Shape := ⟨2, ![8, 512]⟩
abbrev S4x1x1024 : Shape := ⟨3, ![4, 1, 1024]⟩
abbrev S4x1x512 : Shape := ⟨3, ![4, 1, 512]⟩
abbrev S4x1x128 : Shape := ⟨3, ![4, 1, 128]⟩
abbrev S128x1024 : Shape := ⟨2, ![128, 1024]⟩
abbrev S_ : Shape := ⟨0, ![]⟩
abbrev S1024x128 : Shape := ⟨2, ![1024, 128]⟩
abbrev S8x128 : Shape := ⟨2, ![8, 128]⟩
abbrev S256x1024 : Shape := ⟨2, ![256, 1024]⟩
abbrev S256x512 : Shape := ⟨2, ![256, 512]⟩
abbrev S256x128 : Shape := ⟨2, ![256, 128]⟩
abbrev S256x2048 : Shape := ⟨2, ![256, 2048]⟩
abbrev S4x128x1024 : Shape := ⟨3, ![4, 128, 1024]⟩
abbrev S256x3584 : Shape := ⟨2, ![256, 3584]⟩
abbrev S1x1x1024 : Shape := ⟨3, ![1, 1, 1024]⟩
abbrev S1x1x512 : Shape := ⟨3, ![1, 1, 512]⟩
abbrev S1x1x128 : Shape := ⟨3, ![1, 1, 128]⟩
abbrev S256x5760 : Shape := ⟨2, ![256, 5760]⟩
abbrev S256x256 : Shape := ⟨2, ![256, 256]⟩
abbrev S768x256 : Shape := ⟨2, ![768, 256]⟩
abbrev S512x256 : Shape := ⟨2, ![512, 256]⟩
abbrev S512x1024 : Shape := ⟨2, ![512, 1024]⟩
abbrev S248x1024 : Shape := ⟨2, ![248, 1024]⟩
abbrev S1x1024 : Shape := ⟨2, ![1, 1024]⟩
abbrev S1024 : Shape := ⟨1, ![1024]⟩
abbrev S1x128 : Shape := ⟨2, ![1, 128]⟩
abbrev S64x1024 : Shape := ⟨2, ![64, 1024]⟩
abbrev S64x512 : Shape := ⟨2, ![64, 512]⟩
abbrev S64x128 : Shape := ⟨2, ![64, 128]⟩
abbrev S256 : Shape := ⟨1, ![256]⟩
abbrev S256x1 : Shape := ⟨2, ![256, 1]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S64x64 : Shape := ⟨2, ![64, 64]⟩
abbrev S128x128 : Shape := ⟨2, ![128, 128]⟩
abbrev S128 : Shape := ⟨1, ![128]⟩
abbrev S768x1024 : Shape := ⟨2, ![768, 1024]⟩
abbrev S768x512 : Shape := ⟨2, ![768, 512]⟩
abbrev S248x512 : Shape := ⟨2, ![248, 512]⟩
abbrev S8x1 : Shape := ⟨2, ![8, 1]⟩

abbrev nBuf : Space → Nat
  | .hbm => 47
  | .vmem => 53
  | .smem => 0
  | _ => 0

abbrev bufTy : (tb : Table) → Fin (tcTables nBuf tb) → BufTy
  | .hbm, ⟨0, _⟩ => ⟨S8192x5760, .bf16⟩
  | .hbm, ⟨1, _⟩ => ⟨S8192x2048, .bf16⟩
  | .hbm, ⟨2, _⟩ => ⟨S128x128x1024, .bf16⟩
  | .hbm, ⟨3, _⟩ => ⟨S8192x3584, .bf16⟩
  | .hbm, ⟨4, _⟩ => ⟨S8x1024, .f32⟩
  | .hbm, ⟨5, _⟩ => ⟨S8x1024, .f32⟩
  | .hbm, ⟨6, _⟩ => ⟨S8x512, .f32⟩
  | .hbm, ⟨7, _⟩ => ⟨S4x1x1024, .f32⟩
  | .hbm, ⟨8, _⟩ => ⟨S4x1x512, .f32⟩
  | .hbm, ⟨9, _⟩ => ⟨S4x1x128, .f32⟩
  | .hbm, ⟨10, _⟩ => ⟨S4x1x128, .f32⟩
  | .hbm, ⟨11, _⟩ => ⟨S4x1x1024, .f32⟩
  | .hbm, ⟨12, _⟩ => ⟨S4x1x1024, .f32⟩
  | .hbm, ⟨13, _⟩ => ⟨S128x1024, .i32⟩
  | .hbm, ⟨14, _⟩ => ⟨S128x1024, .i32⟩
  | .hbm, ⟨15, _⟩ => ⟨S_, .i32⟩
  | .hbm, ⟨16, _⟩ => ⟨S_, .i32⟩
  | .hbm, ⟨17, _⟩ => ⟨S128x1024, .i32⟩
  | .hbm, ⟨18, _⟩ => ⟨S128x1024, .i32⟩
  | .hbm, ⟨19, _⟩ => ⟨S128x1024, .i32⟩
  | .hbm, ⟨20, _⟩ => ⟨S_, .i32⟩
  | .hbm, ⟨21, _⟩ => ⟨S128x1024, .i32⟩
  | .hbm, ⟨22, _⟩ => ⟨S128x1024, .i1⟩
  | .hbm, ⟨23, _⟩ => ⟨S128x1024, .i32⟩
  | .hbm, ⟨24, _⟩ => ⟨S128x1024, .i32⟩
  | .hbm, ⟨25, _⟩ => ⟨S_, .i32⟩
  | .hbm, ⟨26, _⟩ => ⟨S128x1024, .i32⟩
  | .hbm, ⟨27, _⟩ => ⟨S128x1024, .i1⟩
  | .hbm, ⟨28, _⟩ => ⟨S128x1024, .i1⟩
  | .hbm, ⟨29, _⟩ => ⟨S_, .i32⟩
  | .hbm, ⟨30, _⟩ => ⟨S128x1024, .i32⟩
  | .hbm, ⟨31, _⟩ => ⟨S128x1024, .i32⟩
  | .hbm, ⟨32, _⟩ => ⟨S128x1024, .i32⟩
  | .hbm, ⟨33, _⟩ => ⟨S128x1024, .i1⟩
  | .hbm, ⟨34, _⟩ => ⟨S_, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .bf16⟩
  | .hbm, ⟨40, _⟩ => ⟨S1024x128, .bf16⟩
  | .hbm, ⟨41, _⟩ => ⟨S8192x5760, .bf16⟩
  | .hbm, ⟨42, _⟩ => ⟨S8x1024, .f32⟩
  | .hbm, ⟨43, _⟩ => ⟨S8x1024, .f32⟩
  | .hbm, ⟨44, _⟩ => ⟨S8x512, .f32⟩
  | .hbm, ⟨45, _⟩ => ⟨S8x1024, .f32⟩
  | .hbm, ⟨46, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S256x2048, .bf16⟩
  | .local _ .vmem, ⟨15, _⟩ => ⟨S256x2048, .bf16⟩
  | .local _ .vmem, ⟨16, _⟩ => ⟨S4x128x1024, .bf16⟩
  | .local _ .vmem, ⟨17, _⟩ => ⟨S4x128x1024, .bf16⟩
  | .local _ .vmem, ⟨18, _⟩ => ⟨S256x3584, .bf16⟩
  | .local _ .vmem, ⟨19, _⟩ => ⟨S256x3584, .bf16⟩
  | .local _ .vmem, ⟨20, _⟩ => ⟨S8x1024, .f32⟩
  | .local _ .vmem, ⟨21, _⟩ => ⟨S8x1024, .f32⟩
  | .local _ .vmem, ⟨22, _⟩ => ⟨S8x512, .f32⟩
  | .local _ .vmem, ⟨23, _⟩ => ⟨S1x1x1024, .f32⟩
  | .local _ .vmem, ⟨24, _⟩ => ⟨S1x1x512, .f32⟩
  | .local _ .vmem, ⟨25, _⟩ => ⟨S1x1x128, .f32⟩
  | .local _ .vmem, ⟨26, _⟩ => ⟨S1x1x128, .f32⟩
  | .local _ .vmem, ⟨27, _⟩ => ⟨S1x1x1024, .f32⟩
  | .local _ .vmem, ⟨28, _⟩ => ⟨S1x1x1024, .f32⟩
  | .local _ .vmem, ⟨29, _⟩ => ⟨S128x1024, .bf16⟩
  | .local _ .vmem, ⟨30, _⟩ => ⟨S1024x128, .bf16⟩
  | .local _ .vmem, ⟨31, _⟩ => ⟨S256x5760, .bf16⟩
  | .local _ .vmem, ⟨32, _⟩ => ⟨S256x5760, .bf16⟩
  | .local _ .vmem, ⟨33, _⟩ => ⟨S8x1024, .f32⟩
  | .local _ .vmem, ⟨34, _⟩ => ⟨S8x1024, .f32⟩
  | .local _ .vmem, ⟨35, _⟩ => ⟨S8x512, .f32⟩
  | .local _ .vmem, ⟨36, _⟩ => ⟨S8x1024, .f32⟩
  | .local _ .vmem, ⟨37, _⟩ => ⟨S8x128, .f32⟩
  | .local _ .vmem, ⟨38, _⟩ => ⟨S128x1024, .f32⟩
  | .local _ .vmem, ⟨39, _⟩ => ⟨S256x1024, .f32⟩
  | .local _ .vmem, ⟨40, _⟩ => ⟨S256x512, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x512, .f32⟩
  | .local _ .vmem, ⟨46, _⟩ => ⟨S256x1024, .f32⟩
  | .local _ .vmem, ⟨47, _⟩ => ⟨S256x1024, .f32⟩
  | .local _ .vmem, ⟨48, _⟩ => ⟨S8x1024, .f32⟩
  | .local _ .vmem, ⟨49, _⟩ => ⟨S8x1024, .f32⟩
  | .local _ .vmem, ⟨50, _⟩ => ⟨S8x512, .f32⟩
  | .local _ .vmem, ⟨51, _⟩ => ⟨S256x1024, .f32⟩
  | .local _ .vmem, ⟨52, _⟩ => ⟨S256x512, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7_0 : Ref sig .tc := ⟨.hbm, 41, rfl⟩
abbrev main_v7_1 : Ref sig .tc := ⟨.hbm, 42, rfl⟩
abbrev main_v7_2 : Ref sig .tc := ⟨.hbm, 43, rfl⟩
abbrev main_v7_3 : Ref sig .tc := ⟨.hbm, 44, rfl⟩
abbrev main_v7_4 : Ref sig .tc := ⟨.hbm, 45, rfl⟩
abbrev main_v7_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_stg26_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_scratch7 : Ref sig .tc := ⟨.vmem, 45, rfl⟩
abbrev cc0_scratch8 : Ref sig .tc := ⟨.vmem, 46, rfl⟩
abbrev cc0_scratch9 : Ref sig .tc := ⟨.vmem, 47, rfl⟩
abbrev cc0_scratch10 : Ref sig .tc := ⟨.vmem, 48, rfl⟩
abbrev cc0_scratch11 : Ref sig .tc := ⟨.vmem, 49, rfl⟩
abbrev cc0_scratch12 : Ref sig .tc := ⟨.vmem, 50, rfl⟩
abbrev cc0_scratch13 : Ref sig .tc := ⟨.vmem, 51, rfl⟩
abbrev cc0_scratch14 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem21_1 : DmaSem sig := 32
abbrev cc0_sem22_0 : DmaSem sig := 33
abbrev cc0_sem23_0 : DmaSem sig := 34
abbrev cc0_sem24_0 : DmaSem sig := 35
abbrev cc0_sem25_0 : DmaSem sig := 36
abbrev cc0_sem26_0 : DmaSem sig := 37

abbrev nD : Nat := 1
abbrev τ : Topo := Topo.v7x

variable {F : FTy → Type} [FloatOps F]

abbrev grid0 : Pipeline.Grid := ⟨1, ![32], ![false]⟩

def k0_mult1 : BitVec 32 :=
  let c3_i32_158 : BitVec 32 := 3#32
  let c0_i32_157 : BitVec 32 := 0#32
  let v380 : BitVec 32 := Scalar.subi c3_i32_158 c0_i32_157
  let c64_i32 : BitVec 32 := 64#32
  let v381 : BitVec 32 := Scalar.muli v380 c64_i32
  v381
def k0_off1 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let v383 : Index := Scalar.indexCast v382
  let c0_159 : Index := 0#32
  ![v383.toNat, 0]
def k0_off2 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let v406 : Index := Scalar.indexCast v382
  let c0_165 : Index := 0#32
  ![v406.toNat, 0]
def k0_off3 (c0_i32_157 : BitVec 32) : Fin 3 → Nat :=
  let c3_i32_158 : BitVec 32 := 3#32
  let v380 : BitVec 32 := Scalar.subi c3_i32_158 c0_i32_157
  let v414 : Index := Scalar.indexCast v380
  let c0_167 : Index := 0#32
  let c0_168 : Index := 0#32
  ![v414.toNat, 0, 0]
def k0_off4 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let v560 : Index := Scalar.indexCast v382
  let c0_211 : Index := 0#32
  ![v560.toNat, 0]
def k0_mult2 : BitVec 32 :=
  let c3_i32_158 : BitVec 32 := 3#32
  let c0_i32_157 : BitVec 32 := 0#32
  let v380 : BitVec 32 := Scalar.subi c3_i32_158 c0_i32_157
  let c64_i32 : BitVec 32 := 64#32
  let v381 : BitVec 32 := Scalar.muli v380 c64_i32
  let v382 : BitVec 32 := v381
  let c64_i32_212 : BitVec 32 := 64#32
  let v564 : BitVec 32 := Scalar.addi v382 c64_i32_212
  let c8_i32_213 : BitVec 32 := 8#32
  let v565 : BitVec 32 := Scalar.subi v564 c8_i32_213
  v565
def k0_off5 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let c64_i32_212 : BitVec 32 := 64#32
  let v564 : BitVec 32 := Scalar.addi v382 c64_i32_212
  let c8_i32_213 : BitVec 32 := 8#32
  let v565 : BitVec 32 := Scalar.subi v564 c8_i32_213
  let v566 : BitVec 32 := v565
  let v567 : Index := Scalar.indexCast v566
  let c0_214 : Index := 0#32
  ![v567.toNat, 0]
def k0_off6 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let v597 : Index := Scalar.indexCast v382
  let c0_223 : Index := 0#32
  ![v597.toNat, 0]
def k0_off7 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let v601 : Index := Scalar.indexCast v382
  let c256 : Index := 256#32
  ![v601.toNat, 256]
def k0_off8 (c0_i32_157 : BitVec 32) : Fin 3 → Nat :=
  let c3_i32_158 : BitVec 32 := 3#32
  let v380 : BitVec 32 := Scalar.subi c3_i32_158 c0_i32_157
  let v609 : Index := Scalar.indexCast v380
  let c0_224 : Index := 0#32
  let c512_225 : Index := 512#32
  ![v609.toNat, 0, 512]
def k0_off9 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let v755 : Index := Scalar.indexCast v382
  let c512_268 : Index := 512#32
  ![v755.toNat, 512]
def k0_mult3 : BitVec 32 :=
  let c3_i32_158 : BitVec 32 := 3#32
  let c0_i32_157 : BitVec 32 := 0#32
  let v380 : BitVec 32 := Scalar.subi c3_i32_158 c0_i32_157
  let c64_i32 : BitVec 32 := 64#32
  let v381 : BitVec 32 := Scalar.muli v380 c64_i32
  let v382 : BitVec 32 := v381
  let c64_i32_269 : BitVec 32 := 64#32
  let v759 : BitVec 32 := Scalar.addi v382 c64_i32_269
  let c8_i32_270 : BitVec 32 := 8#32
  let v760 : BitVec 32 := Scalar.subi v759 c8_i32_270
  v760
def k0_off10 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let c64_i32_269 : BitVec 32 := 64#32
  let v759 : BitVec 32 := Scalar.addi v382 c64_i32_269
  let c8_i32_270 : BitVec 32 := 8#32
  let v760 : BitVec 32 := Scalar.subi v759 c8_i32_270
  let v761 : BitVec 32 := v760
  let v762 : Index := Scalar.indexCast v761
  let c512_271 : Index := 512#32
  ![v762.toNat, 512]
def k0_off11 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let v792 : Index := Scalar.indexCast v382
  let c128 : Index := 128#32
  ![v792.toNat, 128]
def k0_off12 (c0_i32_157 : BitVec 32) : Fin 2 → Nat :=
  let c3_i32_158 : BitVec 32 := 3#32
  let v380 : BitVec 32 := Scalar.subi c3_i32_158 c0_i32_157
  let c64_i32 : BitVec 32 := 64#32
  let v381 : BitVec 32 := Scalar.muli v380 c64_i32
  let v382 : BitVec 32 := v381
  let v796 : Index := Scalar.indexCast v382
  let c384 : Index := 384#32
  ![v796.toNat, 384]
def k0_mult4 : BitVec 32 :=
  let c3_i32_281 : BitVec 32 := 3#32
  let c1_i32_280 : BitVec 32 := 1#32
  let v800 : BitVec 32 := Scalar.subi c3_i32_281 c1_i32_280
  let c64_i32_282 : BitVec 32 := 64#32
  let v801 : BitVec 32 := Scalar.muli v800 c64_i32_282
  v801
def k0_mult5 : BitVec 32 :=
  let c3_i32_281 : BitVec 32 := 3#32
  let c1_i32_280 : BitVec 32 := 1#32
  let v800 : BitVec 32 := Scalar.subi c3_i32_281 c1_i32_280
  let c64_i32_282 : BitVec 32 := 64#32
  let v801 : BitVec 32 := Scalar.muli v800 c64_i32_282
  let v802 : BitVec 32 := v801
  let c64_i32_336 : BitVec 32 := 64#32
  let v984 : BitVec 32 := Scalar.addi v802 c64_i32_336
  let c8_i32_337 : BitVec 32 := 8#32
  let v985 : BitVec 32 := Scalar.subi v984 c8_i32_337
  v985
def k0_mult6 : BitVec 32 :=
  let c3_i32_281 : BitVec 32 := 3#32
  let c1_i32_280 : BitVec 32 := 1#32
  let v800 : BitVec 32 := Scalar.subi c3_i32_281 c1_i32_280
  let c64_i32_282 : BitVec 32 := 64#32
  let v801 : BitVec 32 := Scalar.muli v800 c64_i32_282
  let v802 : BitVec 32 := v801
  let c64_i32_394 : BitVec 32 := 64#32
  let v1179 : BitVec 32 := Scalar.addi v802 c64_i32_394
  let c8_i32_395 : BitVec 32 := 8#32
  let v1180 : BitVec 32 := Scalar.subi v1179 c8_i32_395
  v1180
def k0_mult7 : BitVec 32 :=
  let c3_i32_408 : BitVec 32 := 3#32
  let c2_i32_407 : BitVec 32 := 2#32
  let v1220 : BitVec 32 := Scalar.subi c3_i32_408 c2_i32_407
  let c64_i32_409 : BitVec 32 := 64#32
  let v1221 : BitVec 32 := Scalar.muli v1220 c64_i32_409
  v1221
def k0_mult8 : BitVec 32 :=
  let c3_i32_408 : BitVec 32 := 3#32
  let c2_i32_407 : BitVec 32 := 2#32
  let v1220 : BitVec 32 := Scalar.subi c3_i32_408 c2_i32_407
  let c64_i32_409 : BitVec 32 := 64#32
  let v1221 : BitVec 32 := Scalar.muli v1220 c64_i32_409
  let v1222 : BitVec 32 := v1221
  let c64_i32_463 : BitVec 32 := 64#32
  let v1404 : BitVec 32 := Scalar.addi v1222 c64_i32_463
  let c8_i32_464 : BitVec 32 := 8#32
  let v1405 : BitVec 32 := Scalar.subi v1404 c8_i32_464
  v1405
def k0_mult9 : BitVec 32 :=
  let c3_i32_408 : BitVec 32 := 3#32
  let c2_i32_407 : BitVec 32 := 2#32
  let v1220 : BitVec 32 := Scalar.subi c3_i32_408 c2_i32_407
  let c64_i32_409 : BitVec 32 := 64#32
  let v1221 : BitVec 32 := Scalar.muli v1220 c64_i32_409
  let v1222 : BitVec 32 := v1221
  let c64_i32_521 : BitVec 32 := 64#32
  let v1599 : BitVec 32 := Scalar.addi v1222 c64_i32_521
  let c8_i32_522 : BitVec 32 := 8#32
  let v1600 : BitVec 32 := Scalar.subi v1599 c8_i32_522
  v1600
def k0_mult10 : BitVec 32 :=
  let c3_i32_535 : BitVec 32 := 3#32
  let c3_i32_534 : BitVec 32 := 3#32
  let v1640 : BitVec 32 := Scalar.subi c3_i32_535 c3_i32_534
  let c64_i32_536 : BitVec 32 := 64#32
  let v1641 : BitVec 32 := Scalar.muli v1640 c64_i32_536
  v1641
def k0_mult11 : BitVec 32 :=
  let c3_i32_535 : BitVec 32 := 3#32
  let c3_i32_534 : BitVec 32 := 3#32
  let v1640 : BitVec 32 := Scalar.subi c3_i32_535 c3_i32_534
  let c64_i32_536 : BitVec 32 := 64#32
  let v1641 : BitVec 32 := Scalar.muli v1640 c64_i32_536
  let v1642 : BitVec 32 := v1641
  let c64_i32_590 : BitVec 32 := 64#32
  let v1824 : BitVec 32 := Scalar.addi v1642 c64_i32_590
  let c8_i32_591 : BitVec 32 := 8#32
  let v1825 : BitVec 32 := Scalar.subi v1824 c8_i32_591
  v1825
def k0_mult12 : BitVec 32 :=
  let c3_i32_535 : BitVec 32 := 3#32
  let c3_i32_534 : BitVec 32 := 3#32
  let v1640 : BitVec 32 := Scalar.subi c3_i32_535 c3_i32_534
  let c64_i32_536 : BitVec 32 := 64#32
  let v1641 : BitVec 32 := Scalar.muli v1640 c64_i32_536
  let v1642 : BitVec 32 := v1641
  let c64_i32_648 : BitVec 32 := 64#32
  let v2019 : BitVec 32 := Scalar.addi v1642 c64_i32_648
  let c8_i32_649 : BitVec 32 := 8#32
  let v2020 : BitVec 32 := Scalar.subi v2019 c8_i32_649
  v2020
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c10_i32 : BitVec 32 := 10#32
  let c0_i32 : BitVec 32 := 0#32
  ![v0.toNat, c10_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c44_i32 : BitVec 32 := 44#32
  let c0_i32 : BitVec 32 := 0#32
  ![v0.toNat, c44_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3584 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x5760 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MixFwd.lean ====
abbrev S8192x5760 : Shape := ⟨2, ![8192, 5760]⟩
abbrev S8x1024 : Shape := ⟨2, ![8, 1024]⟩
abbrev S8x512 : Shape := ⟨2, ![8, 512]⟩
abbrev S4x1x1024 : Shape := ⟨3, ![4, 1, 1024]⟩
abbrev S4x1x512 : Shape := ⟨3, ![4, 1, 512]⟩
abbrev S4x1x128 : Shape := ⟨3, ![4, 1, 128]⟩
abbrev S128x1024 : Shape := ⟨2, ![128, 1024]⟩
abbrev S_ : Shape := ⟨0, ![]⟩
abbrev S1024x128 : Shape := ⟨2, ![1024, 128]⟩
abbrev S8192x2048 : Shape := ⟨2, ![8192, 2048]⟩
abbrev S128x128x1024 : Shape := ⟨3, ![128, 128, 1024]⟩
abbrev S8192x3584 : Shape := ⟨2, ![8192, 3584]⟩
abbrev S256x1024 : Shape := ⟨2, ![256, 1024]⟩
abbrev S256x512 : Shape := ⟨2, ![256, 512]⟩
abbrev S256x128 : Shape := ⟨2, ![256, 128]⟩
abbrev S1x1x1024 : Shape := ⟨3, ![1, 1, 1024]⟩
abbrev S1x1x512 : Shape := ⟨3, ![1, 1, 512]⟩
abbrev S1x1x128 : Shape := ⟨3, ![1, 1, 128]⟩
abbrev S256x2048 : Shape := ⟨2, ![256, 2048]⟩
abbrev S4x128x1024 : Shape := ⟨3, ![4, 128, 1024]⟩
abbrev S256x3584 : Shape := ⟨2, ![256, 3584]⟩
abbrev S256x256 : Shape := ⟨2, ![256, 256]⟩
abbrev S768x256 : Shape := ⟨2, ![768, 256]⟩
abbrev S512x256 : Shape := ⟨2, ![512, 256]⟩
abbrev S512x1024 : Shape := ⟨2, ![512, 1024]⟩
abbrev S248x1024 : Shape := ⟨2, ![248, 1024]⟩
abbrev S1x1024 : Shape := ⟨2, ![1, 1024]⟩
abbrev S768x1024 : Shape := ⟨2, ![768, 1024]⟩
abbrev S768x512 : Shape := ⟨2, ![768, 512]⟩
abbrev S248x512 : Shape := ⟨2, ![248, 512]⟩
abbrev S1x512 : Shape := ⟨2, ![1, 512]⟩
abbrev S1x128 : Shape := ⟨2, ![1, 128]⟩
abbrev S64x1024 : Shape := ⟨2, ![64, 1024]⟩
abbrev S64x512 : Shape := ⟨2, ![64, 512]⟩
abbrev S1024 : Shape := ⟨1, ![1024]⟩
abbrev S64x128 : Shape := ⟨2, ![64, 128]⟩
abbrev S64x64 : Shape := ⟨2, ![64, 64]⟩
abbrev S128x512 : Shape := ⟨2, ![128, 512]⟩
abbrev S1x128x512 : Shape := ⟨3, ![1, 128, 512]⟩
abbrev S128x128 : Shape := ⟨2, ![128, 128]⟩
abbrev S64 : Shape := ⟨1, ![64]⟩
abbrev S64x1 : Shape := ⟨2, ![64, 1]⟩

abbrev nBuf : Space → Nat
  | .hbm => 41
  | .vmem => 44
  | .smem => 0
  | _ => 0

abbrev bufTy : (tb : Table) → Fin (tcTables nBuf tb) → BufTy
  | .hbm, ⟨0, _⟩ => ⟨S8192x5760, .bf16⟩
  | .hbm, ⟨1, _⟩ => ⟨S8x1024, .f32⟩
  | .hbm, ⟨2, _⟩ => ⟨S8x1024, .f32⟩
  | .hbm, ⟨3, _⟩ => ⟨S8x512, .f32⟩
  | .hbm, ⟨4, _⟩ => ⟨S4x1x1024, .f32⟩
  | .hbm, ⟨5, _⟩ => ⟨S4x1x512, .f32⟩
  | .hbm, ⟨6, _⟩ => ⟨S4x1x128, .f32⟩
  | .hbm, ⟨7, _⟩ => ⟨S4x1x128, .f32⟩
  | .hbm, ⟨8, _⟩ => ⟨S4x1x1024, .f32⟩
  | .hbm, ⟨9, _⟩ => ⟨S4x1x1024, .f32⟩
  | .hbm, ⟨10, _⟩ => ⟨S128x1024, .i32⟩
  | .hbm, ⟨11, _⟩ => ⟨S128x1024, .i32⟩
  | .hbm, ⟨12, _⟩ => ⟨S_, .i32⟩
  | .hbm, ⟨13, _⟩ => ⟨S_, .i32⟩
  | .hbm, ⟨14, _⟩ => ⟨S128x1024, .i32⟩
  | .hbm, ⟨15, _⟩ => ⟨S128x1024, .i32⟩
  | .hbm, ⟨16, _⟩ => ⟨S128x1024, .i32⟩
  | .hbm, ⟨17, _⟩ => ⟨S_, .i32⟩
  | .hbm, ⟨18, _⟩ => ⟨S128x1024, .i32⟩
  | .hbm, ⟨19, _⟩ => ⟨S128x1024, .i1⟩
  | .hbm, ⟨20, _⟩ => ⟨S128x1024, .i32⟩
  | .hbm, ⟨21, _⟩ => ⟨S128x1024, .i32⟩
  | .hbm, ⟨22, _⟩ => ⟨S_, .i32⟩
  | .hbm, ⟨23, _⟩ => ⟨S128x1024, .i32⟩
  | .hbm, ⟨24, _⟩ => ⟨S128x1024, .i1⟩
  | .hbm, ⟨25, _⟩ => ⟨S128x1024, .i1⟩
  | .hbm, ⟨26, _⟩ => ⟨S_, .i32⟩
  | .hbm, ⟨27, _⟩ => ⟨S128x1024, .i32⟩
  | .hbm, ⟨28, _⟩ => ⟨S128x1024, .i32⟩
  | .hbm, ⟨29, _⟩ => ⟨S128x1024, .i32⟩
  | .hbm, ⟨30, _⟩ => ⟨S128x1024, .i1⟩
  | .hbm, ⟨31, _⟩ => ⟨S_, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x1024, .bf16⟩
  | .hbm, ⟨37, _⟩ => ⟨S1024x128, .bf16⟩
  | .hbm, ⟨38, _⟩ => ⟨S8192x2048, .bf16⟩
  | .hbm, ⟨39, _⟩ => ⟨S128x128x1024, .bf16⟩
  | .hbm, ⟨40, _⟩ => ⟨S8192x3584, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S256x128, .bf16⟩
  | .local _ .vmem, ⟨13, _⟩ => ⟨S256x128, .bf16⟩
  | .local _ .vmem, ⟨14, _⟩ => ⟨S8x1024, .bf16⟩
  | .local _ .vmem, ⟨15, _⟩ => ⟨S8x1024, .bf16⟩
  | .local _ .vmem, ⟨16, _⟩ => ⟨S8x1024, .bf16⟩
  | .local _ .vmem, ⟨17, _⟩ => ⟨S8x1024, .bf16⟩
  | .local _ .vmem, ⟨18, _⟩ => ⟨S8x1024, .bf16⟩
  | .local _ .vmem, ⟨19, _⟩ => ⟨S8x1024, .bf16⟩
  | .local _ .vmem, ⟨20, _⟩ => ⟨S8x512, .bf16⟩
  | .local _ .vmem, ⟨21, _⟩ => ⟨S8x512, .bf16⟩
  | .local _ .vmem, ⟨22, _⟩ => ⟨S8x1024, .f32⟩
  | .local _ .vmem, ⟨23, _⟩ => ⟨S8x1024, .f32⟩
  | .local _ .vmem, ⟨24, _⟩ => ⟨S8x512, .f32⟩
  | .local _ .vmem, ⟨25, _⟩ => ⟨S1x1x1024, .f32⟩
  | .local _ .vmem, ⟨26, _⟩ => ⟨S1x1x512, .f32⟩
  | .local _ .vmem, ⟨27, _⟩ => ⟨S1x1x128, .f32⟩
  | .local _ .vmem, ⟨28, _⟩ => ⟨S1x1x128, .f32⟩
  | .local _ .vmem, ⟨29, _⟩ => ⟨S1x1x1024, .f32⟩
  | .local _ .vmem, ⟨30, _⟩ => ⟨S1x1x1024, .f32⟩
  | .local _ .vmem, ⟨31, _⟩ => ⟨S128x1024, .bf16⟩
  | .local _ .vmem, ⟨32, _⟩ => ⟨S256x2048, .bf16⟩
  | .local _ .vmem, ⟨33, _⟩ => ⟨S256x2048, .bf16⟩
  | .local _ .vmem, ⟨34, _⟩ => ⟨S4x128x1024, .bf16⟩
  | .local _ .vmem, ⟨35, _⟩ => ⟨S4x128x1024, .bf16⟩
  | .local _ .vmem, ⟨36, _⟩ => ⟨S256x3584, .bf16⟩
  | .local _ .vmem, ⟨37, _⟩ => ⟨S256x3584, .bf16⟩
  | .local _ .vmem, ⟨38, _⟩ => ⟨S128x1024, .f32⟩
  | .local _ .vmem, ⟨39, _⟩ => ⟨S256x1024, .f32⟩
  | .local _ .vmem, ⟨40, _⟩ => ⟨S256x512, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | _, _ => ⟨S8192x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7_0 : Ref sig .tc := ⟨.hbm, 38, rfl⟩
abbrev main_v7_1 : Ref sig .tc := ⟨.hbm, 39, rfl⟩
abbrev main_v7_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨1, ![32], ![false]⟩

def k0_mult1 : BitVec 32 :=
  let c0_i32_127 : BitVec 32 := 0#32
  let c64_i32 : BitVec 32 := 64#32
  let v315 : BitVec 32 := Scalar.muli c0_i32_127 c64_i32
  v315
def k0_off1 (c0_i32_127 : BitVec 32) : Fin 2 → Nat :=
  let c64_i32 : BitVec 32 := 64#32
  let v315 : BitVec 32 := Scalar.muli c0_i32_127 c64_i32
  let v316 : BitVec 32 := v315
  let v317 : Index := Scalar.indexCast v316
  let c0_128 : Index := 0#32
  ![v317.toNat, 0]
def k0_off2 (c0_i32_127 : BitVec 32) : Fin 2 → Nat :=
  let c64_i32 : BitVec 32 := 64#32
  let v315 : BitVec 32 := Scalar.muli c0_i32_127 c64_i32
  let v316 : BitVec 32 := v315
  let v340 : Index := Scalar.indexCast v316
  let c0_134 : Index := 0#32
  ![v340.toNat, 0]
def k0_off3 (c0_i32_127 : BitVec 32) : Fin 2 → Nat :=
  let c64_i32 : BitVec 32 := 64#32
  let v315 : BitVec 32 := Scalar.muli c0_i32_127 c64_i32
  let v316 : BitVec 32 := v315
  let v377 : Index := Scalar.indexCast v316
  let c0_146 : Index := 0#32
  ![v377.toNat, 0]
def k0_off4 (c0_i32_127 : BitVec 32) : Fin 2 → Nat :=
  let c64_i32 : BitVec 32 := 64#32
  let v315 : BitVec 32 := Scalar.muli c0_i32_127 c64_i32
  let v316 : BitVec 32 := v315
  let v395 : Index := Scalar.indexCast v316
  let c128 : Index := 128#32
  ![v395.toNat, 128]
def k0_off5 (c0_i32_127 : BitVec 32) : Fin 2 → Nat :=
  let c64_i32 : BitVec 32 := 64#32
  let v315 : BitVec 32 := Scalar.muli c0_i32_127 c64_i32
  let v316 : BitVec 32 := v315
  let v413 : Index := Scalar.indexCast v316
  let c256 : Index := 256#32
  ![v413.toNat, 256]
def k0_off6 (c0_i32_127 : BitVec 32) : Fin 2 → Nat :=
  let c64_i32 : BitVec 32 := 64#32
  let v315 : BitVec 32 := Scalar.muli c0_i32_127 c64_i32
  let v316 : BitVec 32 := v315
  let v431 : Index := Scalar.indexCast v316
  let c384 : Index := 384#32
  ![v431.toNat, 384]
def k0_off7 (c0_i32_127 : BitVec 32) : Fin 2 → Nat :=
  let c64_i32 : BitVec 32 := 64#32
  let v315 : BitVec 32 := Scalar.muli c0_i32_127 c64_i32
  let v316 : BitVec 32 := v315
  let v480 : Index := Scalar.indexCast v316
  let c512_172 : Index := 512#32
  ![v480.toNat, 512]
def k0_off8 (c0_i32_127 : BitVec 32) : Fin 2 → Nat :=
  let c64_i32 : BitVec 32 := 64#32
  let v315 : BitVec 32 := Scalar.muli c0_i32_127 c64_i32
  let v316 : BitVec 32 := v315
  let v498 : Index := Scalar.indexCast v316
  let c640 : Index := 640#32
  ![v498.toNat, 640]
def k0_off9 (c0_i32_127 : BitVec 32) : Fin 2 → Nat :=
  let c64_i32 : BitVec 32 := 64#32
  let v315 : BitVec 32 := Scalar.muli c0_i32_127 c64_i32
  let v316 : BitVec 32 := v315
  let v516 : Index := Scalar.indexCast v316
  let c768 : Index := 768#32
  ![v516.toNat, 768]
def k0_off10 (c0_i32_127 : BitVec 32) : Fin 2 → Nat :=
  let c64_i32 : BitVec 32 := 64#32
  let v315 : BitVec 32 := Scalar.muli c0_i32_127 c64_i32
  let v316 : BitVec 32 := v315
  let v534 : Index := Scalar.indexCast v316
  let c896 : Index := 896#32
  ![v534.toNat, 896]
def k0_mult2 : BitVec 32 :=
  let c1_i32_188 : BitVec 32 := 1#32
  let c64_i32_189 : BitVec 32 := 64#32
  let v548 : BitVec 32 := Scalar.muli c1_i32_188 c64_i32_189
  v548
def k0_mult3 : BitVec 32 :=
  let c2_i32_257 : BitVec 32 := 2#32
  let c64_i32_258 : BitVec 32 := 64#32
  let v781 : BitVec 32 := Scalar.muli c2_i32_257 c64_i32_258
  v781
def k0_mult4 : BitVec 32 :=
  let c3_i32_326 : BitVec 32 := 3#32
  let c64_i32_327 : BitVec 32 := 64#32
  let v1014 : BitVec 32 := Scalar.muli c3_i32_326 c64_i32_327
  v1014
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_10 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4x128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x3584 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== OutProj.lean ====
abbrev S8192x1024 : Shape := ⟨2, ![8192, 1024]⟩
abbrev S8192x2048 : Shape := ⟨2, ![8192, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S8192x2048, .bf16⟩
  | .hbm, ⟨4, _⟩ => ⟨S2048x1024, .bf16⟩
  | .hbm, ⟨5, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S8192x1024 : Shape := ⟨2, ![8192, 1024]⟩
abbrev S8192x2048 : Shape := ⟨2, ![8192, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwIn.lean ====
abbrev S8192x1024 : Shape := ⟨2, ![8192, 1024]⟩
abbrev S1024 : Shape := ⟨1, ![1024]⟩
abbrev S1024x5648 : Shape := ⟨2, ![1024, 5648]⟩
abbrev S8192x5648 : Shape := ⟨2, ![8192, 5648]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5760 : Shape := ⟨2, ![8192, 5760]⟩
abbrev S1024x5760 : Shape := ⟨2, ![1024, 5760]⟩
abbrev S4096x1024 : Shape := ⟨2, ![4096, 1024]⟩
abbrev S4096x1152 : Shape := ⟨2, ![4096, 1152]⟩
abbrev S1024x1152 : Shape := ⟨2, ![1024, 1152]⟩

abbrev nBuf : Space → Nat
  | .hbm => 25
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5648, .f32⟩
  | .hbm, ⟨3, _⟩ => ⟨S8192x5648, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x5648, .bf16⟩
  | .hbm, ⟨22, _⟩ => ⟨S_, .bf16⟩
  | .hbm, ⟨23, _⟩ => ⟨S8192x5760, .bf16⟩
  | .hbm, ⟨24, _⟩ => ⟨S1024x5760, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1152, .bf16⟩
  | .local _ .vmem, ⟨3, _⟩ => ⟨S4096x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8192x1024 : Shape := ⟨2, ![8192, 1024]⟩
abbrev S1024 : Shape := ⟨1, ![1024]⟩
abbrev S1024x5648 : Shape := ⟨2, ![1024, 5648]⟩
abbrev S8192x5648 : Shape := ⟨2, ![8192, 5648]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5648x1024 : Shape := ⟨2, ![5648, 1024]⟩
abbrev S1024x112 : Shape := ⟨2, ![1024, 112]⟩
abbrev S1024x5760 : Shape := ⟨2, ![1024, 5760]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5648, .f32⟩
  | .hbm, ⟨3, _⟩ => ⟨S8192x5648, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5648, .f32⟩
  | .hbm, ⟨21, _⟩ => ⟨S5648x1024, .f32⟩
  | .hbm, ⟨22, _⟩ => ⟨S1024x5648, .f32⟩
  | .hbm, ⟨23, _⟩ => ⟨S_, .f32⟩
  | .hbm, ⟨24, _⟩ => ⟨S1024x112, .f32⟩
  | .hbm, ⟨25, _⟩ => ⟨S1024x5760, .f32⟩
  | .hbm, ⟨26, _⟩ => ⟨S1024x5760, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== AdamL.lean ====
abbrev S4x1024x706 : Shape := ⟨3, ![4, 1024, 706]⟩
abbrev S8x4x1024x706 : Shape := ⟨4, ![8, 4, 1024, 706]⟩
abbrev S_ : Shape := ⟨0, ![]⟩
abbrev S8x4x1024x768 : Shape := ⟨4, ![8, 4, 1024, 768]⟩
abbrev S8x1x1024x768 : Shape := ⟨4, ![8, 1, 1024, 768]⟩
abbrev S8x1024x768 : Shape := ⟨3, ![8, 1024, 768]⟩
abbrev S1x128x706 : Shape := ⟨3, ![1, 128, 706]⟩
abbrev S8x128x768 : Shape := ⟨3, ![8, 128, 768]⟩
abbrev S128x706 : Shape := ⟨2, ![128, 706]⟩

abbrev nBuf : Space → Nat
  | .hbm => 19
  | .vmem => 22
  | .smem => 0
  | _ => 0

abbrev bufTy : (tb : Table) → Fin (tcTables nBuf tb) → BufTy
  | .hbm, ⟨0, _⟩ => ⟨S4x1024x706, .f32⟩
  | .hbm, ⟨1, _⟩ => ⟨S8x4x1024x706, .f32⟩
  | .hbm, ⟨2, _⟩ => ⟨S4x1024x706, .f32⟩
  | .hbm, ⟨3, _⟩ => ⟨S4x1024x706, .f32⟩
  | .hbm, ⟨4, _⟩ => ⟨S8x4x1024x706, .bf16⟩
  | .hbm, ⟨5, _⟩ => ⟨S_, .bf16⟩
  | .hbm, ⟨6, _⟩ => ⟨S8x4x1024x768, .bf16⟩
  | .hbm, ⟨7, _⟩ => ⟨S8x1x1024x768, .bf16⟩
  | .hbm, ⟨8, _⟩ => ⟨S8x1024x768, .bf16⟩
  | .hbm, ⟨9, _⟩ => ⟨S8x1x1024x768, .bf16⟩
  | .hbm, ⟨10, _⟩ => ⟨S8x1024x768, .bf16⟩
  | .hbm, ⟨11, _⟩ => ⟨S8x1x1024x768, .bf16⟩
  | .hbm, ⟨12, _⟩ => ⟨S8x1024x768, .bf16⟩
  | .hbm, ⟨13, _⟩ => ⟨S8x1x1024x768, .bf16⟩
  | .hbm, ⟨14, _⟩ => ⟨S8x1024x768, .bf16⟩
  | .hbm, ⟨15, _⟩ => ⟨S4x1024x706, .f32⟩
  | .hbm, ⟨16, _⟩ => ⟨S4x1024x706, .f32⟩
  | .hbm, ⟨17, _⟩ => ⟨S4x1024x706, .f32⟩
  | .hbm, ⟨18, _⟩ => ⟨S4x1024x706, .f32⟩
  | .local _ .vmem, ⟨0, _⟩ => ⟨S1x128x706, .f32⟩
  | .local _ .vmem, ⟨1, _⟩ => ⟨S1x128x706, .f32⟩
  | .local _ .vmem, ⟨2, _⟩ => ⟨S8x128x768, .bf16⟩
  | .local _ .vmem, ⟨3, _⟩ => ⟨S8x128x768, .bf16⟩
  | .local _ .vmem, ⟨4, _⟩ => ⟨S8x128x768, .bf16⟩
  | .local _ .vmem, ⟨5, _⟩ => ⟨S8x128x768, .bf16⟩
  | .local _ .vmem, ⟨6, _⟩ => ⟨S8x128x768, .bf16⟩
  | .local _ .vmem, ⟨7, _⟩ => ⟨S8x128x768, .bf16⟩
  | .local _ .vmem, ⟨8, _⟩ => ⟨S8x128x768, .bf16⟩
  | .local _ .vmem, ⟨9, _⟩ => ⟨S8x128x768, .bf16⟩
  | .local _ .vmem, ⟨10, _⟩ => ⟨S1x128x706, .f32⟩
  | .local _ .vmem, ⟨11, _⟩ => ⟨S1x128x706, .f32⟩
  | .local _ .vmem, ⟨12, _⟩ => ⟨S1x128x706, .f32⟩
  | .local _ .vmem, ⟨13, _⟩ => ⟨S1x128x706, .f32⟩
  | .local _ .vmem, ⟨14, _⟩ => ⟨S1x128x706, .f32⟩
  | .local _ .vmem, ⟨15, _⟩ => ⟨S1x128x706, .f32⟩
  | .local _ .vmem, ⟨16, _⟩ => ⟨S1x128x706, .f32⟩
  | .local _ .vmem, ⟨17, _⟩ => ⟨S1x128x706, .f32⟩
  | .local _ .vmem, ⟨18, _⟩ => ⟨S1x128x706, .f32⟩
  | .local _ .vmem, ⟨19, _⟩ => ⟨S1x128x706, .f32⟩
  | .local _ .vmem, ⟨20, _⟩ => ⟨S1x128x706, .f32⟩
  | .local _ .vmem, ⟨21, _⟩ => ⟨S1x128x706, .f32⟩
  | _, _ => ⟨S4x1024x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x706 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x706 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x706 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x706 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x706 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x706 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x706 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamLRefIdeal.lean ====
abbrev S4x1024x706 : Shape := ⟨3, ![4, 1024, 706]⟩
abbrev S8x4x1024x706 : Shape := ⟨4, ![8, 4, 1024, 706]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x706, .f32⟩
  | .hbm, ⟨1, _⟩ => ⟨S8x4x1024x706, .f32⟩
  | .hbm, ⟨2, _⟩ => ⟨S4x1024x706, .f32⟩
  | .hbm, ⟨3, _⟩ => ⟨S4x1024x706, .f32⟩
  | .hbm, ⟨4, _⟩ => ⟨S_, .f32⟩
  | .hbm, ⟨5, _⟩ => ⟨S4x1024x706, .f32⟩
  | .hbm, ⟨6, _⟩ => ⟨S_, .f32⟩
  | .hbm, ⟨7, _⟩ => ⟨S4x1024x706, .f32⟩
  | .hbm, ⟨8, _⟩ => ⟨S4x1024x706, .f32⟩
  | .hbm, ⟨9, _⟩ => ⟨S_, .f32⟩
  | .hbm, ⟨10, _⟩ => ⟨S4x1024x706, .f32⟩
  | .hbm, ⟨11, _⟩ => ⟨S4x1024x706, .f32⟩
  | .hbm, ⟨12, _⟩ => ⟨S4x1024x706, .f32⟩
  | .hbm, ⟨13, _⟩ => ⟨S_, .f32⟩
  | .hbm, ⟨14, _⟩ => ⟨S4x1024x706, .f32⟩
  | .hbm, ⟨15, _⟩ => ⟨S4x1024x706, .f32⟩
  | .hbm, ⟨16, _⟩ => ⟨S4x1024x706, .f32⟩
  | .hbm, ⟨17, _⟩ => ⟨S_, .f32⟩
  | .hbm, ⟨18, _⟩ => ⟨S4x1024x706, .f32⟩
  | .hbm, ⟨19, _⟩ => ⟨S4x1024x706, .f32⟩
  | .hbm, ⟨20, _⟩ => ⟨S4x1024x706, .f32⟩
  | .hbm, ⟨21, _⟩ => ⟨S_, .f32⟩
  | .hbm, ⟨22, _⟩ => ⟨S4x1024x706, .f32⟩
  | .hbm, ⟨23, _⟩ => ⟨S4x1024x706, .f32⟩
  | .hbm, ⟨24, _⟩ => ⟨S_, .f32⟩
  | .hbm, ⟨25, _⟩ => ⟨S4x1024x706, .f32⟩
  | .hbm, ⟨26, _⟩ => ⟨S4x1024x706, .f32⟩
  | .hbm, ⟨27, _⟩ => ⟨S4x1024x706, .f32⟩
  | .hbm, ⟨28, _⟩ => ⟨S_, .f32⟩
  | .hbm, ⟨29, _⟩ => ⟨S4x1024x706, .f32⟩
  | .hbm, ⟨30, _⟩ => ⟨S4x1024x706, .f32⟩
  | .hbm, ⟨31, _⟩ => ⟨S4x1024x706, .f32⟩
  | .hbm, ⟨32, _⟩ => ⟨S_, .f32⟩
  | .hbm, ⟨33, _⟩ => ⟨S4x1024x706, .f32⟩
  | .hbm, ⟨34, _⟩ => ⟨S4x1024x706, .f32⟩
  | .hbm, ⟨35, _⟩ => ⟨S4x1024x706, .f32⟩
  | .hbm, ⟨36, _⟩ => ⟨S_, .f32⟩
  | .hbm, ⟨37, _⟩ => ⟨S4x1024x706, .f32⟩
  | .hbm, ⟨38, _⟩ => ⟨S4x1024x706, .f32⟩
  | _, _ => ⟨S4x1024x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Cut.lean ====
abbrev S1024x5648 : Shape := ⟨2, ![1024, 5648]⟩
abbrev S_ : Shape := ⟨0, ![]⟩
abbrev S1024x5760 : Shape := ⟨2, ![1024, 5760]⟩
abbrev S8x1024x768 : Shape := ⟨3, ![8, 1024, 768]⟩
abbrev S256x5760 : Shape := ⟨2, ![256, 5760]⟩
abbrev S8x256x768 : Shape := ⟨3, ![8, 256, 768]⟩
abbrev S256x768 : Shape := ⟨2, ![256, 768]⟩
abbrev S768x768 : Shape := ⟨2, ![768, 768]⟩
abbrev S1x256x768 : Shape := ⟨3, ![1, 256, 768]⟩
abbrev S256x896 : Shape := ⟨2, ![256, 896]⟩
abbrev S768x896 : Shape := ⟨2, ![768, 896]⟩

abbrev nBuf : Space → Nat
  | .hbm => 5
  | .vmem => 4
  | .smem => 0
  | _ => 0

abbrev bufTy : (tb : Table) → Fin (tcTables nBuf tb) → BufTy
  | .hbm, ⟨0, _⟩ => ⟨S1024x5648, .f32⟩
  | .hbm, ⟨1, _⟩ => ⟨S1024x5648, .bf16⟩
  | .hbm, ⟨2, _⟩ => ⟨S_, .bf16⟩
  | .hbm, ⟨3, _⟩ => ⟨S1024x5760, .bf16⟩
  | .hbm, ⟨4, _⟩ => ⟨S8x1024x768, .bf16⟩
  | .local _ .vmem, ⟨0, _⟩ => ⟨S256x5760, .bf16⟩
  | .local _ .vmem, ⟨1, _⟩ => ⟨S256x5760, .bf16⟩
  | .local _ .vmem, ⟨2, _⟩ => ⟨S8x256x768, .bf16⟩
  | .local _ .vmem, ⟨3, _⟩ => ⟨S8x256x768, .bf16⟩
  | _, _ => ⟨S1024x5648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CutRefIdeal.lean ====
abbrev S1024x5648 : Shape := ⟨2, ![1024, 5648]⟩
abbrev S1024x8x706 : Shape := ⟨3, ![1024, 8, 706]⟩
abbrev S8x1024x706 : Shape := ⟨3, ![8, 1024, 706]⟩
abbrev S_ : Shape := ⟨0, ![]⟩
abbrev S8x1024x62 : Shape := ⟨3, ![8, 1024, 62]⟩
abbrev S8x1024x768 : Shape := ⟨3, ![8, 1024, 768]⟩

abbrev nBuf : Space → Nat
  | .hbm => 7
  | .vmem => 0
  | .smem => 0
  | _ => 0

abbrev bufTy : (tb : Table) → Fin (tcTables nBuf tb) → BufTy
  | .hbm, ⟨0, _⟩ => ⟨S1024x5648, .f32⟩
  | .hbm, ⟨1, _⟩ => ⟨S1024x8x706, .f32⟩
  | .hbm, ⟨2, _⟩ => ⟨S8x1024x706, .f32⟩
  | .hbm, ⟨3, _⟩ => ⟨S_, .f32⟩
  | .hbm, ⟨4, _⟩ => ⟨S8x1024x62, .f32⟩
  | .hbm, ⟨5, _⟩ => ⟨S8x1024x768, .f32⟩
  | .hbm, ⟨6, _⟩ => ⟨S8x1024x768, .bf16⟩
  | _, _ => ⟨S1024x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Join.lean ====
abbrev S8x1024x706 : Shape := ⟨3, ![8, 1024, 706]⟩
abbrev S_ : Shape := ⟨0, ![]⟩
abbrev S8x1024x768 : Shape := ⟨3, ![8, 1024, 768]⟩
abbrev S1024x5760 : Shape := ⟨2, ![1024, 5760]⟩
abbrev S8x256x768 : Shape := ⟨3, ![8, 256, 768]⟩
abbrev S256x5760 : Shape := ⟨2, ![256, 5760]⟩
abbrev S256x768 : Shape := ⟨2, ![256, 768]⟩
abbrev S1x256x768 : Shape := ⟨3, ![1, 256, 768]⟩
abbrev S768x768 : Shape := ⟨2, ![768, 768]⟩
abbrev S256x896 : Shape := ⟨2, ![256, 896]⟩
abbrev S768x896 : Shape := ⟨2, ![768, 896]⟩

abbrev nBuf : Space → Nat
  | .hbm => 5
  | .vmem => 5
  | .smem => 0
  | _ => 0

abbrev bufTy : (tb : Table) → Fin (tcTables nBuf tb) → BufTy
  | .hbm, ⟨0, _⟩ => ⟨S8x1024x706, .f32⟩
  | .hbm, ⟨1, _⟩ => ⟨S8x1024x706, .bf16⟩
  | .hbm, ⟨2, _⟩ => ⟨S_, .bf16⟩
  | .hbm, ⟨3, _⟩ => ⟨S8x1024x768, .bf16⟩
  | .hbm, ⟨4, _⟩ => ⟨S1024x5760, .bf16⟩
  | .local _ .vmem, ⟨0, _⟩ => ⟨S8x256x768, .bf16⟩
  | .local _ .vmem, ⟨1, _⟩ => ⟨S8x256x768, .bf16⟩
  | .local _ .vmem, ⟨2, _⟩ => ⟨S256x5760, .bf16⟩
  | .local _ .vmem, ⟨3, _⟩ => ⟨S256x5760, .bf16⟩
  | .local _ .vmem, ⟨4, _⟩ => ⟨S256x5760, .f32⟩
  | _, _ => ⟨S8x1024x706, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5760 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== JoinRefIdeal.lean ====
abbrev S8x1024x706 : Shape := ⟨3, ![8, 1024, 706]⟩
abbrev S1024x8x706 : Shape := ⟨3, ![1024, 8, 706]⟩
abbrev S1024x5648 : Shape := ⟨2, ![1024, 5648]⟩
abbrev S_ : Shape := ⟨0, ![]⟩
abbrev S1024x112 : Shape := ⟨2, ![1024, 112]⟩
abbrev S1024x5760 : Shape := ⟨2, ![1024, 5760]⟩

abbrev nBuf : Space → Nat
  | .hbm => 7
  | .vmem => 0
  | .smem => 0
  | _ => 0

abbrev bufTy : (tb : Table) → Fin (tcTables nBuf tb) → BufTy
  | .hbm, ⟨0, _⟩ => ⟨S8x1024x706, .f32⟩
  | .hbm, ⟨1, _⟩ => ⟨S1024x8x706, .f32⟩
  | .hbm, ⟨2, _⟩ => ⟨S1024x5648, .f32⟩
  | .hbm, ⟨3, _⟩ => ⟨S_, .f32⟩
  | .hbm, ⟨4, _⟩ => ⟨S1024x112, .f32⟩
  | .hbm, ⟨5, _⟩ => ⟨S1024x5760, .f32⟩
  | .hbm, ⟨6, _⟩ => ⟨S1024x5760, .bf16⟩
  | _, _ => ⟨S8x1024x706, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x5648 : Shape := ⟨2, ![1024, 5648]⟩
abbrev S1x1024 : Shape := ⟨2, ![1, 1024]⟩
abbrev S_ : Shape := ⟨0, ![]⟩
abbrev S1024x5760 : Shape := ⟨2, ![1024, 5760]⟩
abbrev S8192x5760 : Shape := ⟨2, ![8192, 5760]⟩
abbrev S512x1024 : Shape := ⟨2, ![512, 1024]⟩
abbrev S512x5760 : Shape := ⟨2, ![512, 5760]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1024x1152 : Shape := ⟨2, ![1024, 1152]⟩
abbrev S512x1152 : Shape := ⟨2, ![512, 1152]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5648, .f32⟩
  | .hbm, ⟨3, _⟩ => ⟨S1x1024, .f32⟩
  | .hbm, ⟨4, _⟩ => ⟨S1024x5648, .bf16⟩
  | .hbm, ⟨5, _⟩ => ⟨S_, .bf16⟩
  | .hbm, ⟨6, _⟩ => ⟨S1024x5760, .bf16⟩
  | .hbm, ⟨7, _⟩ => ⟨S8192x5760, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5760, .bf16⟩
  | .local _ .vmem, ⟨4, _⟩ => ⟨S512x5760, .bf16⟩
  | .local _ .vmem, ⟨5, _⟩ => ⟨S512x5760, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5760 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S8192x1024 : Shape := ⟨2, ![8192, 1024]⟩
abbrev S1024 : Shape := ⟨1, ![1024]⟩
abbrev S1024x5648 : Shape := ⟨2, ![1024, 5648]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5648 : Shape := ⟨2, ![8192, 5648]⟩
abbrev S8192x112 : Shape := ⟨2, ![8192, 112]⟩
abbrev S8192x5760 : Shape := ⟨2, ![8192, 5760]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5648, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5648, .f32⟩
  | .hbm, ⟨20, _⟩ => ⟨S_, .f32⟩
  | .hbm, ⟨21, _⟩ => ⟨S8192x112, .f32⟩
  | .hbm, ⟨22, _⟩ => ⟨S8192x5760, .f32⟩
  | .hbm, ⟨23, _⟩ => ⟨S8192x5760, .bf16⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.RmsRow.lean ====
/-
  One row of an RMS norm and of its gradient over the extended reals, at finite entries. The kernels take the gradient
  as `r * (g - xh * mean (g * xh))` with `r = 1 / sqrt (mean (x * x) + eps)` and `xh = x * r`; differentiating the norm
  gives `g * r` and twice the share of `x` in the derivative of the inverse root. Both are `↑(normGrad d x g c)`.
-/
module

public import Idealize.ShloMosaic.PureOps.Ideal.Laws
public import Mathlib.Tactic.FieldSimp
public import Mathlib.Tactic.Ring
public import Mathlib.Tactic.Linarith

@[expose] public section

noncomputable section

namespace Cert.RmsRow

open Idealize.ShloMosaic

variable {ι : Type} [Fintype ι]

/-- A finite sum of reals read in the extended reals is the sum of what its terms read. -/
theorem coe_sum {κ : Type} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below infinity is a real. -/
theorem real_of_abs_lt_top {a : EReal} (h : max a (-a) < ⊤) : ∃ r : ℝ, a = (r : EReal) := by
  induction a using EReal.rec with
  | bot => simp at h
  | top => simp at h
  | coe r => exact ⟨r, rfl⟩

/-- Division by a nonzero real, of a real. -/
theorem div_real (a : ℝ) {b : ℝ} (hb : b ≠ 0) : Ideal.div (a : EReal) (b : EReal) = ((a / b : ℝ) : EReal) := by
  rw [Ideal.div_coe hb, ← EReal.coe_mul]
  congr 1
  rw [mul_one_div]

/-- The constant the norms add to the mean square: the number nearest to 0.00001 in the kernel's format. -/
def eps : ℝ := 10995116 / 1099511627776

theorem eps_pos : 0 < eps := by unfold eps; norm_num

theorem eps_word : Ideal.ofBits .f32 0x3727C5AC#32 = ((eps : ℝ) : EReal) := by
  unfold eps
  simp [Ideal.ofBits, Ideal.ieee, -EReal.coe_mul]
  norm_num

theorem word_1024 : Ideal.ofBits .f32 0x44800000#32 = ((1024 : ℝ) : EReal) := by
  simp [Ideal.ofBits, Ideal.ieee, -EReal.coe_mul]
  norm_num

theorem word_half : Ideal.ofBits .f32 0x3F000000#32 = ((1 / 2 : ℝ) : EReal) := by
  simp [Ideal.ofBits, Ideal.ieee, -EReal.coe_mul]
  norm_num

theorem word_neg_half : Ideal.ofBits .f32 0xBF000000#32 = ((-(1 / 2) : ℝ) : EReal) := by
  simp [Ideal.ofBits, Ideal.ieee, -EReal.coe_mul]
  norm_num

theorem word_two : Ideal.ofBits .f32 0x40000000#32 = ((2 : ℝ) : EReal) := by
  simp [Ideal.ofBits, Ideal.ieee, -EReal.coe_mul]
  norm_num

theorem word_one : Ideal.ofBits .f32 0x3F800000#32 = ((1 : ℝ) : EReal) := by
  simp [Ideal.ofBits, Ideal.ieee, -EReal.coe_mul]
  norm_num

theorem word_inv_1024 : Ideal.ofBits .f32 0x3A800000#32 = ((1 / 1024 : ℝ) : EReal) := by
  simp [Ideal.ofBits, Ideal.ieee, -EReal.coe_mul]
  norm_num

/-- What is under the root: the mean square of the row, `eps` added. -/
def under (d : ℝ) (x : ι → ℝ) : ℝ := (∑ k, x k * x k) / d + eps

/-- The norm's factor of a row. -/
def inv (d : ℝ) (x : ι → ℝ) : ℝ := (√(under d x))⁻¹

theorem under_pos {d : ℝ} (hd : 0 < d) (x : ι → ℝ) : 0 < under d x :=
  add_pos_of_nonneg_of_pos (div_nonneg (Finset.sum_nonneg fun k _ => mul_self_nonneg (x k)) hd.le) eps_pos

theorem inv_sq {d : ℝ} (hd : 0 < d) (x : ι → ℝ) : inv d x * inv d x = (under d x)⁻¹ := by
  unfold inv
  rw [← mul_inv, Real.mul_self_sqrt (under_pos hd x).le]

/-- The mean square with `eps` added, as the programs write it. -/
theorem under_eq {d : ℝ} (hd : 0 < d) (x : ι → ℝ) :
    Ideal.div (∑ k, (x k : EReal) * (x k : EReal)) (d : EReal) + (eps : EReal) = ((under d x : ℝ) : EReal) := by
  simp only [← EReal.coe_mul, ← coe_sum]
  rw [div_real _ hd.ne', ← EReal.coe_add]
  rfl

theorem rsqrt_pos {v : ℝ} (hv : 0 < v) : Ideal.rsqrt (v : EReal) = (((√v)⁻¹ : ℝ) : EReal) := by
  rw [Ideal.rsqrt_coe, if_neg hv.le.not_gt, if_neg hv.ne']

/-- The row's factor, as the programs write it. -/
theorem rsqrt_under {d : ℝ} (hd : 0 < d) (x : ι → ℝ) : Ideal.rsqrt ((under d x : ℝ) : EReal) = ((inv d x : ℝ) : EReal) :=
  rsqrt_pos (under_pos hd x)

/-- The gradient of a row's norm at the cotangent `g` (the weight already in it), in column `c`. -/
def normGrad (d : ℝ) (x g : ι → ℝ) (c : ι) : ℝ :=
  inv d x * (g c - x c * inv d x * ((∑ k, g k * (x k * inv d x)) / d))

/-- The kernels' spelling. -/
theorem normGrad_kernel {d : ℝ} (hd : 0 < d) (x g : ι → ℝ) (c : ι) :
    ((inv d x : ℝ) : EReal) * ((g c : EReal) - (x c : EReal) * (inv d x : EReal)
        * Ideal.div (∑ k, (g k : EReal) * ((x k : EReal) * (inv d x : EReal))) (d : EReal))
      = ((normGrad d x g c : ℝ) : EReal) := by
  simp only [← EReal.coe_mul, ← coe_sum]
  rw [div_real _ hd.ne', ← EReal.coe_mul, ← EReal.coe_sub, ← EReal.coe_mul]
  rfl

/-- The share of one entry in the derivative of the inverse root, as differentiation spells it. -/
def rootShare (d : ℝ) (x g : ι → ℝ) : ℝ := (∑ k, x k * g k) * (-(1 / 2) * (inv d x / under d x)) / d

theorem rootShare_eq {d : ℝ} (hd : 0 < d) (x g : ι → ℝ) :
    Ideal.div ((∑ k, (x k : EReal) * (g k : EReal))
        * (((-(1 / 2) : ℝ) : EReal) * Ideal.div ((inv d x : ℝ) : EReal) ((under d x : ℝ) : EReal))) (d : EReal)
      = ((rootShare d x g : ℝ) : EReal) := by
  rw [div_real _ (under_pos hd x).ne']
  simp only [← EReal.coe_mul, ← coe_sum]
  rw [div_real _ hd.ne']
  rfl

/-- The spelling of differentiation: through the product, and twice through the square under the root. -/
theorem normGrad_vjp {d : ℝ} (hd : 0 < d) (x g : ι → ℝ) (c : ι) :
    (g c : EReal) * (inv d x : EReal) + (x c : EReal) * (rootShare d x g : EReal) + (rootShare d x g : EReal) * (x c : EReal)
      = ((normGrad d x g c : ℝ) : EReal) := by
  simp only [← EReal.coe_mul, ← EReal.coe_add]
  congr 1
  have hv := (under_pos hd x).ne'
  have hs : (∑ k, g k * (x k * inv d x)) = (∑ k, x k * g k) * inv d x := by
    rw [Finset.sum_mul]; exact Finset.sum_congr rfl fun k _ => by ring
  have hr : inv d x / under d x = inv d x * (inv d x * inv d x) := by rw [inv_sq hd x]; rfl
  unfold normGrad rootShare
  rw [hs, hr]
  field_simp
  ring

end Cert.RmsRow

end
-- ==== Proof.ActSpec.lean ====
/-
  The product of a normalized row with the up-projection, and what the squared ReLU's gradient is at it. Everything is in the
  extended reals: both programs take the same products in the same order, so no entry need be finite.
-/
module

public import proofs.«01_k».proof.Proof.RmsRow

@[expose] public section

noncomputable section

namespace Cert.ActSpec

open Idealize.ShloMosaic Cert.RmsRow

variable {κ : Type} (X : κ → Fin 1024 → EReal) (W : Fin 1024 → EReal) (M : Fin 1024 → Fin 4096 → EReal)
  (P : Fin 4096 → Fin 1024 → EReal) (Y : κ → Fin 1024 → EReal)

/-- The factor that normalizes a row. -/
def fac (r : κ) : EReal := Ideal.rsqrt (Ideal.div (∑ c, X r c * X r c) ((1024 : ℝ) : EReal) + (eps : EReal))

/-- The normalized row, weighted. -/
def row (r : κ) (c : Fin 1024) : EReal := X r c * fac X r * W c

/-- Its product with the up-projection. -/
def up (r : κ) (k : Fin 4096) : EReal := ∑ c, row X W r c * M c k

/-- The cotangent brought back through the down-projection. -/
def back (r : κ) (k : Fin 4096) : EReal := ∑ c, Y r c * P k c

/-- The gradient of the squared ReLU at `u` for the cotangent `g`. -/
def relu2 (g u : EReal) : EReal := g * (((2 : ℝ) : EReal) * max u 0)

def du (r : κ) (k : Fin 4096) : EReal := relu2 (back P Y r k) (up X W M r k)

/-- A mask of the positive `u` makes no difference to it. -/
theorem relu2_masked (g u : EReal) : (if 0 < u then g * (((2 : ℝ) : EReal) * max u 0) else 0) = relu2 g u := by
  unfold relu2
  split_ifs with h
  · rfl
  · rw [max_eq_right (not_lt.mp h), mul_zero, mul_zero]

end Cert.ActSpec

end
-- ==== Proof.ActRef.lean ====
/-
  The squared ReLU's gradient as the reference differentiates it, read at an index.
-/
module

public import proofs.«01_k».proof.Proof.ActSpec
public import proofs.«01_k».proof.Proof.Gen.ActRefIdeal.Read
public import Idealize.ShloMosaic.Lib.Pointwise

@[expose] public section

set_option maxRecDepth 16384

noncomputable section

namespace Cert.ActRef

open Idealize.ShloMosaic Idealize.ShloMosaic.Pointwise Cert.ActRefIdeal Cert.ActRefIdeal.Read Cert.RmsRow Cert.ActSpec

variable (x y : (⟨S8192x1024, .f32⟩ : BufTy).Contents (Elt Ideal)) (w : (⟨S1024, .f32⟩ : BufTy).Contents (Elt Ideal))
  (p : (⟨S1024x4096, .f32⟩ : BufTy).Contents (Elt Ideal)) (q : (⟨S4096x1024, .f32⟩ : BufTy).Contents (Elt Ideal))

theorem v7 (r : Fin 8192) (z : Fin 1) : val_main_v7 (F := Ideal) x (ix2 r z) = fac (fun r c => x (ix2 r c)) r := by
  pointwise [val_main_v7, val_main_v6, val_main_v5, val_main_v4, val_main_v3, val_main_v2, val_main_v1, val_main_v0,
    val_main_cst, val_main_cst_0, val_main_cst_1]
  simp only [word_1024, eps_word, zero_add]
  rfl

theorem v13 (r : Fin 8192) (k : Fin 4096) :
    val_main_v13 (F := Ideal) x w p (ix2 r k) = up (fun r c => x (ix2 r c)) (fun c => w (ix1 c)) (fun c k => p (ix2 c k)) r k := by
  pointwise [val_main_v13, val_main_v12, val_main_v11, val_main_v10, val_main_v9, val_main_v8]
  simp only [v7]
  rfl

/-- The result. -/
theorem v26 (r : Fin 8192) (k : Fin 4096) : val_main_v26 (F := Ideal) x w p q y (ix2 r k)
    = du (fun r c => x (ix2 r c)) (fun c => w (ix1 c)) (fun c k => p (ix2 c k)) (fun k c => q (ix2 k c)) (fun r c => y (ix2 r c)) r k := by
  pointwise [val_main_v26, val_main_v25, val_main_v24, val_main_v23, val_main_v22, val_main_v20, val_main_v19, val_main_v16,
    val_main_v15, val_main_v14, val_main_call0_v0, val_main_call0_cst, val_main_cst_2, val_main_cst_4, val_main_cst_5]
  rw [v13, word_two]
  exact relu2_masked _ _

end Cert.ActRef

end
-- ==== Proof.LossSpec.lean ====
/-
  What the last call computes, as real numbers of the three arrays' entries: the loss, its derivative by the activations
  and its derivative by the final norm's weight.
-/
module

public import proofs.«01_k».proof.Proof.RmsRow

@[expose] public section

noncomputable section

namespace Cert.LossSpec

open Cert.RmsRow

variable (X T : Fin 8192 → Fin 1024 → ℝ) (W : Fin 1024 → ℝ)

/-- A normalised entry. -/
def xh (r : Fin 8192) (c : Fin 1024) : ℝ := X r c * inv 1024 (X r)

/-- The difference between the norm's result and the target. -/
def err (r : Fin 8192) (c : Fin 1024) : ℝ := xh X r c * W c - T r c

/-- Half the mean square of one row's differences. -/
def rowLoss (r : Fin 8192) : ℝ := 1 / 2 * ((∑ c, err X T W r c * err X T W r c) * (1 / 1024))

/-- The loss. -/
def loss : ℝ := ∑ r, rowLoss X T W r

/-- The cotangent of the norm's result. -/
def dy (r : Fin 8192) (c : Fin 1024) : ℝ := err X T W r c * (1 / 1024)

/-- The derivative by the activations. -/
def dx (r : Fin 8192) (c : Fin 1024) : ℝ := normGrad 1024 (X r) (fun k => dy X T W r k * W k) c

/-- The derivative by the weight. -/
def dw (c : Fin 1024) : ℝ := ∑ r, dy X T W r c * xh X r c

end Cert.LossSpec

end
-- ==== Proof.RowStore.lean ====
/-
  A block of which one row at a time is loaded and stored: what a store of row `r` leaves at an index, and what a load of
  row `r` reads.
-/
module

public import Idealize.ShloMosaic.Lib.Pointwise
public import Idealize.ShloMosaic.Lib.Pipeline.ValueKit

@[expose] public section

noncomputable section

namespace Cert.RowStore

open Idealize.ShloMosaic

variable {Val : EltTy → Type} {e : EltTy} {n d : Nat}

/-- The rectangle of one row. -/
abbrev row (r : Nat) (inb : ∀ a, (![r, 0] : Fin 2 → Nat) a + (![1, d] : Fin 2 → Nat) a ≤ (⟨2, ![n, d]⟩ : Shape).size a) :
    Rect ⟨2, ![n, d]⟩ := Rect.unit (s := ⟨2, ![n, d]⟩) ![r, 0] ![1, d] inb

theorem emb_row (r : Nat) (inb) (z : Fin 1) (c : Fin d) (a : Fin n) (ha : a.val = r) :
    (row (n := n) r inb).emb (ix2 z c) = ix2 a c := by
  funext b
  apply Fin.ext
  match b with
  | ⟨0, _⟩ => show r + 1 * z.val = a.val; omega
  | ⟨1, _⟩ => show 0 + 1 * c.val = c.val; omega

theorem not_mem_row (r : Nat) (inb) (a : Fin n) (c : Fin d) (ha : a.val ≠ r) : ix2 a c ∉ (row (n := n) r inb).set := by
  rw [Rect.mem_set_unit]
  intro h
  have h0 := h 0
  have h1 : r ≤ a.val ∧ a.val < r + 1 := h0
  omega

/-- A store of row `r` over earlier stores. -/
theorem canon_row [∀ e, Nonempty (Val e)] (r : Nat) (inb) (w : (⟨2, ![1, d]⟩ : Shape).Idx → Val e)
    (L : List (View.Piece Val ⟨2, ![n, d]⟩ e)) (a : Fin n) (c : Fin d) :
    View.canon (⟨row r inb, w⟩ :: L) (ix2 a c) = if a.val = r then w (ix2 0 c) else View.canon L (ix2 a c) := by
  by_cases h : a.val = r
  · rw [if_pos h, ← emb_row r inb 0 c a h]
    exact View.canon_cons_emb (row r inb) w L (ix2 0 c)
  · rw [if_neg h]
    exact View.canon_cons_of_not_mem _ _ (not_mem_row r inb a c h)

/-- A store of row `r` over what the block held. -/
theorem read_row {sig : RefSig} {κ : Kind} {sp : Space} (v : View sig κ sp ⟨2, ![n, d]⟩ e) (f : v.ty.Contents Val) (r : Nat) (inb)
    (w : (⟨2, ![1, d]⟩ : Shape).Idx → Val e) (a : Fin n) (c : Fin d) :
    v.read Val (v.writes Val f [⟨row r inb, w⟩]) (ix2 a c) = if a.val = r then w (ix2 0 c) else v.read Val f (ix2 a c) := by
  by_cases h : a.val = r
  · rw [if_pos h, ← emb_row r inb 0 c a h]
    exact View.read_writes_cons_emb (Val := Val) v f (row r inb) w [] (ix2 0 c)
  · rw [if_neg h]
    exact View.read_writes_apply_of_forall_not_mem (Val := Val) v f _ _ fun p hp => by
      rw [List.mem_singleton] at hp
      subst hp
      exact not_mem_row r inb a c h

/-- A load of row `r`. -/
theorem ld_row (X : (⟨2, ![n, d]⟩ : Shape).Idx → Val e) (r : Nat) (inb) (z : Fin 1) (c : Fin d) (a : Fin n) (ha : a.val = r) :
    View.ld X (row r inb) (ix2 z c) = X (ix2 a c) :=
  congrArg X (emb_row r inb z c a ha)

end Cert.RowStore

end
-- ==== Proof.LossKernel.lean ====
/-
  The last call's results, read at an index. Every grid point takes 512 rows: it writes their derivative, and adds their
  share of the loss and of the weight's derivative to two blocks that the first point clears.
-/
module

public import proofs.«01_k».proof.Proof.LossSpec
public import proofs.«01_k».proof.Proof.RowStore
public import proofs.«01_k».proof.Proof.Gen.LossIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LossKernel

open Idealize.ShloMosaic Idealize.ShloMosaic.TcCoe Cert.LossIdeal Cert.LossIdeal.Gen Cert.RmsRow Cert.LossSpec

/-! ## One block of rows -/

section Block

variable {B U : Fin 512 → Fin 1024 → ℝ} {W : Fin 1024 → ℝ}
  {x t : Vec Ideal S512x1024 .f32} {w : Vec Ideal S1x1024 .f32}

theorem pay6 (hx : ∀ r c, x (ix2 r c) = (B r c : EReal)) (r : Fin 512) (z : Fin 1) :
    k0_pay6 (F := Ideal) x (ix2 r z) = ((inv 1024 (B r) : ℝ) : EReal) := by
  pointwise [k0_pay6]
  simp only [hx, word_1024, eps_word]
  rw [under_eq (by norm_num) (B r)]
  exact rsqrt_under (by norm_num) (B r)

theorem pay7 (hx : ∀ r c, x (ix2 r c) = (B r c : EReal)) (r : Fin 512) (c : Fin 1024) :
    k0_pay7 (F := Ideal) x (ix2 r c) = ((B r c * inv 1024 (B r) : ℝ) : EReal) := by
  pointwise [k0_pay7]
  rw [pay6 hx, hx, ← EReal.coe_mul]

/-- The differences from the target in a block. -/
def berr (B U : Fin 512 → Fin 1024 → ℝ) (W : Fin 1024 → ℝ) (r : Fin 512) (c : Fin 1024) : ℝ :=
  B r c * inv 1024 (B r) * W c - U r c

theorem pay9 (hx : ∀ r c, x (ix2 r c) = (B r c : EReal)) (hw : ∀ z c, w (ix2 z c) = (W c : EReal))
    (ht : ∀ r c, t (ix2 r c) = (U r c : EReal)) (r : Fin 512) (c : Fin 1024) :
    k0_pay9 (F := Ideal) x w t (ix2 r c) = ((berr B U W r c : ℝ) : EReal) := by
  pointwise [k0_pay9, k0_pay8]
  rw [pay7 hx, hw, ht, ← EReal.coe_mul, ← EReal.coe_sub]
  rfl

theorem pay11 (hx : ∀ r c, x (ix2 r c) = (B r c : EReal)) (hw : ∀ z c, w (ix2 z c) = (W c : EReal))
    (ht : ∀ r c, t (ix2 r c) = (U r c : EReal)) (r : Fin 512) (c : Fin 1024) :
    k0_pay11 (F := Ideal) x w t (ix2 r c) = ((berr B U W r c * (1 / 1024) : ℝ) : EReal) := by
  pointwise [k0_pay11]
  rw [pay9 hx hw ht, word_inv_1024, ← EReal.coe_mul]

/-- A block's share of the loss. -/
theorem pay10 (hx : ∀ r c, x (ix2 r c) = (B r c : EReal)) (hw : ∀ z c, w (ix2 z c) = (W c : EReal))
    (ht : ∀ r c, t (ix2 r c) = (U r c : EReal)) (v : Vec Ideal S8x128 .f32) (j : S8x128.Idx) :
    k0_pay10 (F := Ideal) x w t v j
      = v j + ((∑ r, 1 / 2 * ((∑ c, berr B U W r c * berr B U W r c) * (1 / 1024)) : ℝ) : EReal) := by
  pointwise [k0_pay10]
  simp only [pay9 hx hw ht, word_inv_1024, word_half, ← EReal.coe_mul, ← coe_sum, Finset.mul_sum]

/-- A block's share of the weight's derivative. -/
theorem pay1 (hx : ∀ r c, x (ix2 r c) = (B r c : EReal)) (hw : ∀ z c, w (ix2 z c) = (W c : EReal))
    (ht : ∀ r c, t (ix2 r c) = (U r c : EReal)) (v : Vec Ideal S1x1024 .f32) (z : Fin 1) (c : Fin 1024) :
    k0_pay1 (F := Ideal) (k0_pay7 x) (k0_pay11 x w t) v (ix2 z c)
      = v (ix2 z c) + ((∑ r, berr B U W r c * (1 / 1024) * (B r c * inv 1024 (B r)) : ℝ) : EReal) := by
  pointwise [k0_pay1]
  simp only [pay7 hx, pay11 hx hw ht, ← EReal.coe_mul, ← coe_sum]

/-- A block's derivative by the activations. -/
theorem pay2 (hx : ∀ r c, x (ix2 r c) = (B r c : EReal)) (hw : ∀ z c, w (ix2 z c) = (W c : EReal))
    (ht : ∀ r c, t (ix2 r c) = (U r c : EReal)) (r : Fin 512) (c : Fin 1024) :
    k0_pay2 (F := Ideal) (k0_pay6 x) (k0_pay7 x) (k0_pay8 w) (k0_pay11 x w t) (ix2 r c)
      = ((normGrad 1024 (B r) (fun k => berr B U W r k * (1 / 1024) * W k) c : ℝ) : EReal) := by
  pointwise [k0_pay2, k0_pay8]
  simp only [pay6 hx, pay7 hx, pay11 hx hw ht, hw, word_1024]
  have h := normGrad_kernel (show (0 : ℝ) < 1024 by norm_num) (B r) (fun k => berr B U W r k * (1 / 1024) * W k) c
  simp only [← EReal.coe_mul] at h ⊢
  exact h

end Block

/-! ## The grid -/

theorem eq_ix2 {n d : Nat} (y : (⟨2, ![n, d]⟩ : Shape).Idx) : y = ix2 (y 0) (y 1) := by
  funext a
  match a with
  | ⟨0, _⟩ => rfl
  | ⟨1, _⟩ => rfl

section Grid

variable (m : (ℓ : Loc nD τ sig) → Buf (Elt Ideal) ℓ) (dev : Dev nD)
  {X T : Fin 8192 → Fin 1024 → ℝ} {W : Fin 1024 → ℝ}

theorem idx : ∀ t : Fin cfg0.N, win0_0.index t = ![t.val, 0] ∧ win0_1.index t = ![0, 0] ∧ win0_2.index t = ![t.val, 0]
    ∧ win0_4.index t = ![t.val, 0] ∧ win0_5.index t = ![t.val, 0] := by decide +kernel

theorem row_lt (t : Fin cfg0.N) (a : Fin 512) : t.val * 512 + a.val < 8192 := by
  have ht : t.val < 16 := lt_of_lt_of_eq t.isLt N_0
  omega

/-- Row `a` of point `t`'s block of rows. -/
def part (Y : Fin 8192 → Fin 1024 → ℝ) (t : Fin cfg0.N) (a : Fin 512) (k : Fin 1024) : ℝ := Y ⟨t.val * 512 + a.val, row_lt t a⟩ k

theorem blk_x (hX : ∀ r c, m ((dev : Thread nD τ).loc main_arg0) (ix2 r c) = (X r c : EReal)) (t : Fin cfg0.N)
    (a : Fin 512) (k : Fin 1024) : iblk m dev 0 t (ix2 a k) = ((part X t a k : ℝ) : EReal) := by
  unfold part
  rw [← hX]
  blk_ext [iblk, V, idx t]

theorem blk_t (hT : ∀ r c, m ((dev : Thread nD τ).loc main_arg2) (ix2 r c) = (T r c : EReal)) (t : Fin cfg0.N)
    (a : Fin 512) (k : Fin 1024) : iblk m dev 2 t (ix2 a k) = ((part T t a k : ℝ) : EReal) := by
  unfold part
  rw [← hT]
  blk_ext [iblk, V, idx t]

theorem blk_w (hW : ∀ c, m ((dev : Thread nD τ).loc main_arg1) (ix1 c) = (W c : EReal)) (t : Fin cfg0.N)
    (z : Fin 1) (k : Fin 1024) : iblk m dev 1 t (ix2 z k) = (W k : EReal) := by
  rw [← hW]
  blk_simp [iblk, idx t]
  entry_read
  pointwise
  blk_ext [idx t]

/-! ### The loss -/

theorem loss_sum (hX : ∀ r c, m ((dev : Thread nD τ).loc main_arg0) (ix2 r c) = (X r c : EReal))
    (hW : ∀ c, m ((dev : Thread nD τ).loc main_arg1) (ix1 c) = (W c : EReal))
    (hT : ∀ r c, m ((dev : Thread nD τ).loc main_arg2) (ix2 r c) = (T r c : EReal)) (j : S8x128.Idx) :
    (outsAt0 m dev t0_15.val t0_15.isLt).1 j = ((loss X T W : ℝ) : EReal) := by
  rw [Pipeline.eq_sum_fin_of_reset_step_apply_last (fun n h => (outsAt0 m dev n h).1) 16 (fun _ => 0)
    (fun t _ => ((∑ r, 1 / 2 * ((∑ c, berr (part X t) (part T t) W r c * berr (part X t) (part T t) W r c) * (1 / 1024)) : ℝ)
      : EReal))
    (fun t h j => by
      show (outsAt0 m dev t.val t.isLt).1 j = _
      rw [outsAt0_A m dev t h]
      frame_out
      rw [pay10 (blk_x m dev hX t) (blk_w m dev hW t) (blk_t m dev hT t)]
      pointwise [k0_pay4])
    (fun t h j => by
      show (outsAt0 m dev t.val t.isLt).1 j = _
      rw [outsAt0_B m dev t h]
      frame_out
      rw [pay10 (blk_x m dev hX t) (blk_w m dev hW t) (blk_t m dev hT t)])
    (le_of_eq N_0) t0_15 rfl j, zero_add, ← coe_sum]
  refine congrArg Real.toEReal ?_
  exact Fin.sum_mul_add_fin 16 512 (rowLoss X T W)

theorem final3 (hX : ∀ r c, m ((dev : Thread nD τ).loc main_arg0) (ix2 r c) = (X r c : EReal))
    (hW : ∀ c, m ((dev : Thread nD τ).loc main_arg1) (ix1 c) = (W c : EReal))
    (hT : ∀ r c, m ((dev : Thread nD τ).loc main_arg2) (ix2 r c) = (T r c : EReal)) :
    (dats m 0 dev).arrAt 3 cfg0.N = fun _ => ((loss X T W : ℝ) : EReal) := by
  refine (dats m 0 dev).arrAt_eq_of_after_last 3 t0_15 (by decide +kernel) _ fun j => ?_
  blk_simp
  rw [after0_3, loss_sum m dev hX hW hT]

/-! ### The weight's derivative -/

theorem dw_sum (hX : ∀ r c, m ((dev : Thread nD τ).loc main_arg0) (ix2 r c) = (X r c : EReal))
    (hW : ∀ c, m ((dev : Thread nD τ).loc main_arg1) (ix1 c) = (W c : EReal))
    (hT : ∀ r c, m ((dev : Thread nD τ).loc main_arg2) (ix2 r c) = (T r c : EReal)) (a : Fin 8) (c : Fin 1024) :
    (outsAt0 m dev t0_15.val t0_15.isLt).2.2.2 (ix2 a c) = if a.val = 0 then ((dw X T W c : ℝ) : EReal) else 0 := by
  rw [Pipeline.eq_sum_fin_of_reset_step_apply_last (ι := Fin 8 × Fin 1024) (fun n h p => (outsAt0 m dev n h).2.2.2 (ix2 p.1 p.2)) 16 (fun _ => 0)
    (fun t p => if p.1.val = 0 then ((∑ r, berr (part X t) (part T t) W r p.2 * (1 / 1024)
      * (part X t r p.2 * inv 1024 (part X t r)) : ℝ) : EReal) else 0)
    (fun t h p => by
      show (outsAt0 m dev t.val t.isLt).2.2.2 (ix2 p.1 p.2) = _
      rw [outsAt0_A m dev t h]
      frame_out
      erw [RowStore.canon_row, View.canon_cons_unit_lit inb_S8x1024_S8x1024_0_0 _ _ (by decide),
        View.readCov_fill _ inb_S8x1024_S8x1024_0_0 _ [] _ (by decide)]
      have hz : ∀ j, k0_pay5 (F := Ideal) j = 0 := fun j => by pointwise [k0_pay5]
      by_cases h : p.1.val = 0
      · rw [if_pos h, if_pos h, pay1 (blk_x m dev hX t) (blk_w m dev hW t) (blk_t m dev hT t)]
        erw [RowStore.ld_row _ 0 _ 0 p.2 p.1 h, hz]
      · rw [if_neg h, if_neg h, add_zero, hz])
    (fun t h p => by
      show (outsAt0 m dev t.val t.isLt).2.2.2 (ix2 p.1 p.2) = _
      rw [outsAt0_B m dev t h]
      frame_out
      erw [RowStore.read_row]
      by_cases h : p.1.val = 0
      · rw [if_pos h, if_pos h, pay1 (blk_x m dev hX t) (blk_w m dev hW t) (blk_t m dev hT t)]
        erw [RowStore.ld_row _ 0 _ 0 p.2 p.1 h]
      · rw [if_neg h, if_neg h, add_zero]
        erw [(hs0_6 t).read_unread])
    (le_of_eq N_0) t0_15 rfl (a, c), zero_add]
  by_cases h : a.val = 0
  · simp only [if_pos h]
    rw [← coe_sum]
    refine congrArg Real.toEReal ?_
    exact Fin.sum_mul_add_fin 16 512 fun r => dy X T W r c * xh X r c
  · simp only [if_neg h, Finset.sum_const_zero]

theorem final6 (hX : ∀ r c, m ((dev : Thread nD τ).loc main_arg0) (ix2 r c) = (X r c : EReal))
    (hW : ∀ c, m ((dev : Thread nD τ).loc main_arg1) (ix1 c) = (W c : EReal))
    (hT : ∀ r c, m ((dev : Thread nD τ).loc main_arg2) (ix2 r c) = (T r c : EReal)) :
    (dats m 0 dev).arrAt 6 cfg0.N = fun j => if (j 0).val = 0 then ((dw X T W (j 1) : ℝ) : EReal) else 0 := by
  refine (dats m 0 dev).arrAt_eq_of_after_last 6 t0_15 (by decide +kernel) _ fun j => ?_
  blk_simp
  rw [after0_6]
  refine Eq.trans (congrArg _ ?_) (dw_sum m dev hX hW hT (j 0) (j 1))
  blk_ext

/-! ### The activations' derivative -/

theorem dx_block (t : Fin cfg0.N) : (outsAt0 m dev t.val t.isLt).2.1 = k0_pay2 (k0_pay6 (iblk m dev 0 t))
    (k0_pay7 (iblk m dev 0 t)) (k0_pay8 (iblk m dev 1 t)) (k0_pay11 (iblk m dev 0 t) (iblk m dev 1 t) (iblk m dev 2 t)) := by
  by_cases h : t.val % 16 = 0
  · rw [outsAt0_A m dev t h]
    frame_out
  · rw [outsAt0_B m dev t h]
    frame_out

theorem dxb_block (t : Fin cfg0.N) : (outsAt0 m dev t.val t.isLt).2.2.1 = (outsAt0 m dev t.val t.isLt).2.1 := by
  rw [dx_block]
  by_cases h : t.val % 16 = 0
  · rw [outsAt0_A m dev t h]
    frame_out
    rfl
  · rw [outsAt0_B m dev t h]
    frame_out
    rfl

theorem final4 (hX : ∀ r c, m ((dev : Thread nD τ).loc main_arg0) (ix2 r c) = (X r c : EReal))
    (hW : ∀ c, m ((dev : Thread nD τ).loc main_arg1) (ix1 c) = (W c : EReal))
    (hT : ∀ r c, m ((dev : Thread nD τ).loc main_arg2) (ix2 r c) = (T r c : EReal)) :
    (dats m 0 dev).arrAt 4 cfg0.N = fun j => ((dx X T W (j 0) (j 1) : ℝ) : EReal) := by
  refine (dats m 0 dev).arrAt_eq_of_covers 4 _ (by decide +kernel) fun t hf y => ?_
  blk_simp
  rw [after0_4]
  have hy : ((win0_4.blk t).view.emb y) = ix2 ⟨t.val * 512 + (y 0).val, row_lt t (y 0)⟩ (y 1) := by
    blk_ext [idx t]
  rw [hy]
  exact (congrFun (dx_block m dev t) y).trans (Eq.trans (congrArg _ (eq_ix2 y))
    (pay2 (blk_x m dev hX t) (blk_w m dev hW t) (blk_t m dev hT t) (y 0) (y 1)))

theorem final5 (hX : ∀ r c, m ((dev : Thread nD τ).loc main_arg0) (ix2 r c) = (X r c : EReal))
    (hW : ∀ c, m ((dev : Thread nD τ).loc main_arg1) (ix1 c) = (W c : EReal))
    (hT : ∀ r c, m ((dev : Thread nD τ).loc main_arg2) (ix2 r c) = (T r c : EReal)) :
    (dats m 0 dev).arrAt 5 cfg0.N = fun j => ((dx X T W (j 0) (j 1) : ℝ) : EReal) := by
  refine (dats m 0 dev).arrAt_eq_of_covers 5 _ (by decide +kernel) fun t hf y => ?_
  blk_simp
  rw [after0_5]
  have hy : ((win0_5.blk t).view.emb y) = ix2 ⟨t.val * 512 + (y 0).val, row_lt t (y 0)⟩ (y 1) := by
    blk_ext [idx t]
  rw [hy]
  exact (congrFun ((dxb_block m dev t).trans (dx_block m dev t)) y).trans (Eq.trans (congrArg _ (eq_ix2 y))
    (pay2 (blk_x m dev hX t) (blk_w m dev hW t) (blk_t m dev hT t) (y 0) (y 1)))

end Grid

end Cert.LossKernel

end
-- ==== Proof.ActKernel.lean ====
/-
  The two calls of the squared ReLU's gradient, block by block: the first takes 512 normalized rows times the up-projection,
  eight blocks of columns at a time; the second takes 512 rows of cotangents times the down-projection, four blocks at a
  time, and multiplies by the ReLU's derivative at the first call's result.
-/
module

public import proofs.«01_k».proof.Proof.ActSpec
public import proofs.«01_k».proof.Proof.LossKernel
public import proofs.«01_k».proof.Proof.Gen.ActIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ActKernel

open Idealize.ShloMosaic Idealize.ShloMosaic.TcCoe Cert.ActIdeal Cert.ActIdeal.Gen Cert.RmsRow Cert.ActSpec

/-! ## The first call's block -/

section First

variable {B : Fin 512 → Fin 1024 → EReal} {W : Fin 1024 → EReal} {M : Fin 1024 → Fin 4096 → EReal}
  {x : Vec Ideal S512x1024 .f32} {w : Vec Ideal S1x1024 .f32} {p : Vec Ideal S8x1024x512 .bf16}

theorem pay1 (hx : ∀ r c, x (ix2 r c) = B r c) (hw : ∀ z c, w (ix2 z c) = W c) (r : Fin 512) (c : Fin 1024) :
    k0_pay1 (F := Ideal) x w (ix2 r c) = row B W r c := by
  pointwise [k0_pay1]
  simp only [hx, hw, word_1024, eps_word]
  rfl

/-- Block `b` of the matrix. -/
theorem ld_mat (hp : ∀ (b : Fin 8) c (k : Fin 512), p (ix3 b c k) = M c ⟨b.val * 512 + k.val, by omega⟩) (b : Fin 8) (inb)
    (z : Fin 1) (c : Fin 1024) (k : Fin 512) :
    View.ld p (Rect.unit (s := S8x1024x512) ![b.val, 0, 0] ![1, 1024, 512] inb) (ix3 z c k) = M c ⟨b.val * 512 + k.val, by omega⟩ := by
  rw [← hp b c k]
  refine congrArg p (funext fun a => Fin.ext ?_)
  match a with
  | ⟨0, _⟩ => show b.val + 1 * z.val = b.val; omega
  | ⟨1, _⟩ => show 0 + 1 * c.val = c.val; omega
  | ⟨2, _⟩ => show 0 + 1 * k.val = k.val; omega

/-- One block of columns of the product. -/
theorem cols {h : FVec Ideal S512x1024 .bf16} {v : Vec Ideal S1x1024x512 .bf16} {C : Fin 1024 → Fin 512 → EReal}
    (hh : ∀ r c, h (ix2 r c) = row B W r c) (hv : ∀ z c k, v (ix3 z c k) = C c k) (r k : Fin 512) :
    k0_pay5 (F := Ideal) h v (ix2 r k) = ∑ c, row B W r c * C c k := by
  pointwise [k0_pay5]
  simp only [hh, hv]

/-- What the point leaves of the product. -/
theorem out (hx : ∀ r c, x (ix2 r c) = B r c) (hw : ∀ z c, w (ix2 z c) = W c)
    (hp : ∀ (b : Fin 8) c (k : Fin 512), p (ix3 b c k) = M c ⟨b.val * 512 + k.val, by omega⟩) (r : Fin 512) (k : Fin 4096) :
    out0_3 (F := Ideal) x w p (ix2 r k) = up B W M r k := by
  have ld0 : View.ld x r0_0 = x := by
    refine View.ld_unit_zero ?_ _ _
    funext a; fin_cases a <;> rfl
  have ld1 : View.ld w r0_1 = w := by
    refine View.ld_unit_zero ?_ _ _
    funext a; fin_cases a <;> rfl
  have piece (b : Fin 8) (inb inb') (j : S512x512.Idx) :
      k0_pay5 (F := Ideal) (k0_pay1 x w) (View.ld p (Rect.unit (s := S8x1024x512) ![b.val, 0, 0] ![1, 1024, 512] inb)) j
        = (fun i : S512x4096.Idx => up B W M (i 0) (i 1)) ((Rect.unit (s := S512x4096) ![0, b.val * 512] ![512, 512] inb').emb j) := by
    refine (congrArg _ (LossKernel.eq_ix2 j)).trans ((cols (pay1 hx hw) (ld_mat hp b inb) (j 0) (j 1)).trans ?_)
    refine congrArg₂ (up B W M) (Fin.ext ?_) (Fin.ext ?_)
    · show (j 0).val = 0 + 1 * (j 0).val; omega
    · show b.val * 512 + (j 1).val = b.val * 512 + 1 * (j 1).val; omega
  unfold out0_3 k0_pay10
  rw [ld0, ld1]
  refine View.canon_apply_of_pieces (Val := Elt Ideal) (e := .bf16) (fun i : S512x4096.Idx => (up B W M (i 0) (i 1))) _ ?_ (ix2 r k) (cover0_3 _ _ _ _ _ _ _ _ _)
  simp only [List.forall_mem_cons, List.not_mem_nil, false_implies, implies_true, and_true]
  exact ⟨piece 7 _ _, piece 6 _ _, piece 5 _ _, piece 4 _ _, piece 3 _ _, piece 2 _ _, piece 1 _ _, piece 0 _ _⟩

end First

/-! ## The second call's block -/

section Second

variable {Y : Fin 512 → Fin 1024 → EReal} {P : Fin 4096 → Fin 1024 → EReal} {U : Fin 512 → Fin 4096 → EReal}
  {y : Vec Ideal S512x1024 .bf16} {q : Vec Ideal S4096x1024 .bf16} {u : Vec Ideal S512x4096 .bf16}

theorem ld_rows (hq : ∀ k c, q (ix2 k c) = P k c) (b : Fin 4) (inb) (k c : Fin 1024) :
    View.ld q (Rect.unit (s := S4096x1024) ![b.val * 1024, 0] ![1024, 1024] inb) (ix2 k c) = P ⟨b.val * 1024 + k.val, by omega⟩ c := by
  rw [← hq]
  refine congrArg q (funext fun a => Fin.ext ?_)
  match a with
  | ⟨0, _⟩ => show b.val * 1024 + 1 * k.val = b.val * 1024 + k.val; omega
  | ⟨1, _⟩ => show 0 + 1 * c.val = c.val; omega

theorem ld_up (hu : ∀ r k, u (ix2 r k) = U r k) (b : Fin 4) (inb) (r : Fin 512) (k : Fin 1024) :
    View.ld u (Rect.unit (s := S512x4096) ![0, b.val * 1024] ![512, 1024] inb) (ix2 r k) = U r ⟨b.val * 1024 + k.val, by omega⟩ := by
  rw [← hu]
  refine congrArg u (funext fun a => Fin.ext ?_)
  match a with
  | ⟨0, _⟩ => show 0 + 1 * r.val = r.val; omega
  | ⟨1, _⟩ => show b.val * 1024 + 1 * k.val = b.val * 1024 + k.val; omega

/-- One block of columns of the gradient. -/
theorem grad {a : Vec Ideal S1024x1024 .bf16} {v : Vec Ideal S512x1024 .bf16} {C : Fin 1024 → Fin 1024 → EReal} {V : Fin 512 → Fin 1024 → EReal}
    (hy : ∀ r c, y (ix2 r c) = Y r c) (ha : ∀ k c, a (ix2 k c) = C k c) (hv : ∀ r k, v (ix2 r k) = V r k) (r : Fin 512) (k : Fin 1024) :
    k1_pay4 (F := Ideal) y a v (ix2 r k) = relu2 (∑ c, Y r c * C k c) (V r k) := by
  pointwise [k1_pay4, k1_pay3]
  simp only [hy, ha, hv, word_two]
  rfl

/-- What the point leaves of the gradient. -/
theorem out_du (hy : ∀ r c, y (ix2 r c) = Y r c) (hq : ∀ k c, q (ix2 k c) = P k c) (hu : ∀ r k, u (ix2 r k) = U r k) (r : Fin 512)
    (k : Fin 4096) : out1_3 (F := Ideal) y q u (ix2 r k) = relu2 (back P Y r k) (U r k) := by
  have ld0 : View.ld y r1_0 = y := by
    refine View.ld_unit_zero ?_ _ _
    funext a; fin_cases a <;> rfl
  have piece (b : Fin 4) (inb inb' inb'') (j : S512x1024.Idx) :
      k1_pay4 (F := Ideal) y (View.ld q (Rect.unit (s := S4096x1024) ![b.val * 1024, 0] ![1024, 1024] inb))
          (View.ld u (Rect.unit (s := S512x4096) ![0, b.val * 1024] ![512, 1024] inb')) j
        = (fun i : S512x4096.Idx => relu2 (back P Y (i 0) (i 1)) (U (i 0) (i 1)))
            ((Rect.unit (s := S512x4096) ![0, b.val * 1024] ![512, 1024] inb'').emb j) := by
    refine (congrArg _ (LossKernel.eq_ix2 j)).trans ((grad hy (ld_rows hq b inb) (ld_up hu b inb') (j 0) (j 1)).trans ?_)
    have e : (Rect.unit (s := S512x4096) ![0, b.val * 1024] ![512, 1024] inb'').emb j
        = ix2 (j 0) ⟨b.val * 1024 + (j 1).val, by have := (j 1).isLt; have : S512x1024.size 1 = 1024 := rfl; omega⟩ := by
      refine funext fun a => Fin.ext ?_
      match a with
      | ⟨0, _⟩ => show 0 + 1 * (j 0).val = (j 0).val; omega
      | ⟨1, _⟩ => show b.val * 1024 + 1 * (j 1).val = b.val * 1024 + (j 1).val; omega
    rw [e]
    rfl
  unfold out1_3
  rw [ld0]
  refine View.canon_apply_of_pieces (Val := Elt Ideal) (e := .bf16) (fun i : S512x4096.Idx => (relu2 (back P Y (i 0) (i 1)) (U (i 0) (i 1)))) _ ?_ (ix2 r k)
    (cover1_3 _ _ _ _ _)
  simp only [List.forall_mem_cons, List.not_mem_nil, false_implies, implies_true, and_true]
  exact ⟨piece 3 _ _ _, piece 2 _ _ _, piece 1 _ _ _, piece 0 _ _ _⟩

end Second

end Cert.ActKernel

end
-- ==== Proof.ActGrid.lean ====
/-
  The squared ReLU's gradient over its two grids: what each call reads, and what the second call's result array ends holding.
-/
module

public import proofs.«01_k».proof.Proof.ActKernel

@[expose] public section

set_option maxRecDepth 16384

noncomputable section

namespace Cert.ActGrid

open Idealize.ShloMosaic Idealize.ShloMosaic.TcCoe Cert.ActIdeal Cert.ActIdeal.Gen Cert.ActSpec

variable (m : (ℓ : Loc nD τ sig) → Buf (Elt Ideal) ℓ) (ρ : Dev nD → PrngReg) (dev : Dev nD)

/-! ## The arguments, entry by entry -/

def X (r : Fin 8192) (c : Fin 1024) : EReal := m ((dev : Thread nD τ).loc main_arg0) (ix2 r c)
def W (c : Fin 1024) : EReal := m ((dev : Thread nD τ).loc main_arg1) (ix1 c)
def M (c : Fin 1024) (k : Fin 4096) : EReal := m ((dev : Thread nD τ).loc main_arg2) (ix2 c k)
def P (k : Fin 4096) (c : Fin 1024) : EReal := m ((dev : Thread nD τ).loc main_arg3) (ix2 k c)
def Y (r : Fin 8192) (c : Fin 1024) : EReal := m ((dev : Thread nD τ).loc main_arg4) (ix2 r c)

/-! ## The first call -/

theorem idx0 : ∀ t : Fin cfg0.N, win0_0.index t = ![t.val, 0] ∧ win0_1.index t = ![0, 0] ∧ win0_2.index t = ![0, 0, 0]
    ∧ win0_3.index t = ![t.val, 0] := by
  decide +kernel

theorem row_lt0 (t : Fin cfg0.N) (a : Fin 512) : t.val * 512 + a.val < 8192 := by
  have ht : t.val < 16 := lt_of_lt_of_eq t.isLt N_0
  omega

/-- Row `a` of point `t`'s block of rows. -/
def part0 {n : Nat} (A : Fin 8192 → Fin n → EReal) (t : Fin cfg0.N) (a : Fin 512) (k : Fin n) : EReal :=
  A ⟨t.val * 512 + a.val, row_lt0 t a⟩ k

theorem entry_w (c : Dev nD) (z : Fin 1) (k : Fin 1024) : V1 m ρ c main_v0 (ix2 z k) = W m c k := by
  show StableHlo.after hostOps0 (W0 m ρ c) (Proc.devRef .tc main_v0) (ix2 z k) = _
  unfold W
  entry_read
  pointwise

theorem entry_p (c : Dev nD) (b : Fin 8) (i : Fin 1024) (k : Fin 512) :
    V1 m ρ c main_v3 (ix3 b i k) = M m c i ⟨b.val * 512 + k.val, by omega⟩ := by
  show StableHlo.after hostOps0 (W0 m ρ c) (Proc.devRef .tc main_v3) (ix3 b i k) = _
  unfold M
  entry_read
  pointwise

theorem blk_x (t : Fin cfg0.N) (a : Fin 512) (k : Fin 1024) : iblk0 (V1 m ρ) dev 0 t (ix2 a k) = part0 (X m dev) t a k := by
  have e : (win0_0.blk t).view.emb (ix2 a k) = ix2 ⟨t.val * 512 + a.val, row_lt0 t a⟩ k := by blk_ext [idx0 t]
  exact (congrFun (W1_args m ρ dev main_arg0 (by decide)) _).trans (congrArg (m ((dev : Thread nD τ).loc main_arg0)) e)

theorem blk_w (t : Fin cfg0.N) (z : Fin 1) (k : Fin 1024) : iblk0 (V1 m ρ) dev 1 t (ix2 z k) = W m dev k := by
  have e : (win0_1.blk t).view.emb (ix2 z k) = ix2 z k := by blk_ext [idx0 t]
  exact (congrArg (V1 m ρ dev main_v0) e).trans (entry_w m ρ dev z k)

theorem blk_p (t : Fin cfg0.N) (b : Fin 8) (c : Fin 1024) (k : Fin 512) :
    iblk0 (V1 m ρ) dev 2 t (ix3 b c k) = M m dev c ⟨b.val * 512 + k.val, by omega⟩ := by
  have e : (win0_2.blk t).view.emb (ix3 b c k) = ix3 b c k := by blk_ext [idx0 t]
  exact (congrArg (V1 m ρ dev main_v3) e).trans (entry_p m ρ dev b c k)

/-- The product, whole. -/
theorem final_up : (dat0 (V1 m ρ) dev).arrAt 3 cfg0.N = fun j => up (X m dev) (W m dev) (M m dev) (j 0) (j 1) := by
  refine (dat0 (V1 m ρ) dev).arrAt_eq_of_covers 3 _ (by decide +kernel) fun t hf y => ?_
  blk_simp
  rw [after0_3]
  have hy : ((win0_3.blk t).view.emb y) = ix2 ⟨t.val * 512 + (y 0).val, row_lt0 t (y 0)⟩ (y 1) := by
    blk_ext [idx0 t]
  rw [hy]
  exact Eq.trans (congrArg _ (LossKernel.eq_ix2 y)) (ActKernel.out (blk_x m ρ dev t) (blk_w m ρ dev t) (blk_p m ρ dev t) (y 0) (y 1))

/-! ## The second call -/

theorem idx1 : ∀ t : Fin cfg1.N, win1_0.index t = ![t.val, 0] ∧ win1_1.index t = ![0, 0] ∧ win1_2.index t = ![t.val, 0]
    ∧ win1_3.index t = ![t.val, 0] := by
  decide +kernel

theorem row_lt1 (t : Fin cfg1.N) (a : Fin 512) : t.val * 512 + a.val < 8192 := by
  have ht : t.val < 16 := lt_of_lt_of_eq t.isLt N_1
  omega

/-- Row `a` of point `t`'s block of rows. -/
def part1 {n : Nat} (A : Fin 8192 → Fin n → EReal) (t : Fin cfg1.N) (a : Fin 512) (k : Fin n) : EReal :=
  A ⟨t.val * 512 + a.val, row_lt1 t a⟩ k

theorem entry_y (c : Dev nD) (j : S8192x1024.Idx) : V3 m ρ c main_v5 j = m ((c : Thread nD τ).loc main_arg4) j := by
  rw [← W2_args m ρ c main_arg4 (by decide)]
  show StableHlo.after hostOps1 (W2 m ρ c) (Proc.devRef .tc main_v5) j = _
  entry_read
  pointwise

theorem entry_q (c : Dev nD) (j : S4096x1024.Idx) : V3 m ρ c main_v6 j = m ((c : Thread nD τ).loc main_arg3) j := by
  rw [← W2_args m ρ c main_arg3 (by decide)]
  show StableHlo.after hostOps1 (W2 m ρ c) (Proc.devRef .tc main_v6) j = _
  entry_read
  pointwise

theorem entry_u (c : Dev nD) (j : S8192x4096.Idx) : V3 m ρ c main_v4_0 j = up (X m c) (W m c) (M m c) (j 0) (j 1) :=
  congrFun (((W3_of m ρ c main_v4_0 (by decide)).trans (W2_arr m ρ c 3)).trans (final_up m ρ c)) j

theorem blk_y (t : Fin cfg1.N) (a : Fin 512) (k : Fin 1024) : iblk1 (V3 m ρ) dev 0 t (ix2 a k) = part1 (Y m dev) t a k := by
  have e : (win1_0.blk t).view.emb (ix2 a k) = ix2 ⟨t.val * 512 + a.val, row_lt1 t a⟩ k := by blk_ext [idx1 t]
  exact (entry_y m ρ dev _).trans (congrArg (m ((dev : Thread nD τ).loc main_arg4)) e)

theorem blk_q (t : Fin cfg1.N) (k : Fin 4096) (c : Fin 1024) : iblk1 (V3 m ρ) dev 1 t (ix2 k c) = P m dev k c := by
  have e : (win1_1.blk t).view.emb (ix2 k c) = ix2 k c := by blk_ext [idx1 t]
  exact (entry_q m ρ dev _).trans (congrArg (m ((dev : Thread nD τ).loc main_arg3)) e)

theorem blk_u (t : Fin cfg1.N) (a : Fin 512) (k : Fin 4096) :
    iblk1 (V3 m ρ) dev 2 t (ix2 a k) = part1 (up (X m dev) (W m dev) (M m dev)) t a k := by
  have e : (win1_2.blk t).view.emb (ix2 a k) = ix2 ⟨t.val * 512 + a.val, row_lt1 t a⟩ k := by blk_ext [idx1 t]
  exact (entry_u m ρ dev _).trans (congrArg (fun j : S8192x4096.Idx => up (X m dev) (W m dev) (M m dev) (j 0) (j 1)) e)

/-- The gradient, whole. -/
theorem final : (dat1 (V3 m ρ) dev).arrAt 3 cfg1.N
    = fun j => du (X m dev) (W m dev) (M m dev) (P m dev) (Y m dev) (j 0) (j 1) := by
  refine (dat1 (V3 m ρ) dev).arrAt_eq_of_covers 3 _ (by decide +kernel) fun t hf y => ?_
  blk_simp
  rw [after1_3]
  have hy : ((win1_3.blk t).view.emb y) = ix2 ⟨t.val * 512 + (y 0).val, row_lt1 t (y 0)⟩ (y 1) := by
    blk_ext [idx1 t]
  rw [hy]
  exact Eq.trans (congrArg _ (LossKernel.eq_ix2 y)) (ActKernel.out_du (blk_y m ρ dev t) (blk_q m ρ dev t) (blk_u m ρ dev t) (y 0) (y 1))

end Cert.ActGrid

end
-- ==== Proof.ActRun.lean ====
/-
  The run of the two calls, with what the result ends holding beside what the frame says.
-/
module

public import proofs.«01_k».proof.Proof.Gen.ActIdeal.Frame

@[expose] public section

noncomputable section

namespace Cert.ActRun

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ActIdeal Cert.ActIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch of the two regions, the last region's result array read at the end. -/
theorem run : θ_run defs (onTc (τ := τ) (main (F := F))) ⟨m, fun _ => 0, ρ⟩ (fun r => ∀ c : Dev nD,
      r.2.mem ((c.tc : Thread nD τ).loc main_v7) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v7 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.ActRun

end
-- ==== Proof.ActClaim.lean ====
/-
  The claims about the squared ReLU's gradient: the frame of the reference, and that the two calls end with the reference's
  result.
-/
module

public import proofs.«01_k».proof.Defs
public import proofs.«01_k».proof.Proof.ActRef
public import proofs.«01_k».proof.Proof.ActGrid
public import proofs.«01_k».proof.Proof.ActRun
public import Idealize.ShloMosaic.Adequacy
public import Idealize.ShloMosaic.Init

@[expose] public section

noncomputable section

namespace Cert.ActClaim

open Idealize.ShloMosaic Idealize.SL.Sem Cert.ActSpec

theorem frame_reference (m : (ℓ : Loc ActRefIdeal.nD ActRefIdeal.τ ActRefIdeal.sig) → Buf (Elt Ideal) ℓ)
    (ρ : Dev ActRefIdeal.nD → PrngReg) :
    θ_run ActRefIdeal.defs (onTc (τ := ActRefIdeal.τ) ActRefIdeal.main) ⟨m, fun _ => 0, ρ⟩ (fun r => (∀ c : Dev ActRefIdeal.nD,
      r.2.mem (c.tc.loc ActRefIdeal.main_arg0) = m (c.tc.loc ActRefIdeal.main_arg0)
      ∧ r.2.mem (c.tc.loc ActRefIdeal.main_arg1) = m (c.tc.loc ActRefIdeal.main_arg1)
      ∧ r.2.mem (c.tc.loc ActRefIdeal.main_arg2) = m (c.tc.loc ActRefIdeal.main_arg2)
      ∧ r.2.mem (c.tc.loc ActRefIdeal.main_arg3) = m (c.tc.loc ActRefIdeal.main_arg3)
      ∧ r.2.mem (c.tc.loc ActRefIdeal.main_arg4) = m (c.tc.loc ActRefIdeal.main_arg4)) ∧ r.2.sem = fun _ => 0) :=
  (θ_run ActRefIdeal.defs _ _).mono (fun r h => ⟨fun c => (h c).2, sem_eq_zero_of_no_sems (by decide) r.2⟩)
    (ActRefIdeal.Value.run (F := Ideal) m ρ)

theorem algebraic : Cert.algebraic_ActIdeal_ActRefIdeal := by
  intro m g m' g' _ hagree
  refine ⟨fun c j => du (ActGrid.X m c) (ActGrid.W m c) (ActGrid.M m c) (ActGrid.P m c) (ActGrid.Y m c) (j 0) (j 1), ?_, ?_⟩
  · refine (θ_run ActIdeal.defs _ _).mono (fun r h c => ?_) (ActRun.run (F := Ideal) m g)
    exact ⟨(h c).1.trans (ActGrid.final m g c), (h c).2⟩
  · refine (θ_run ActRefIdeal.defs _ _).mono (fun r h c => ?_) (ActRefIdeal.Value.run (F := Ideal) m' g')
    obtain ⟨h0, hargs⟩ := h c
    refine ⟨(h0.trans (ActRefIdeal.Read.val_main_v26_eq ..)).trans (funext fun j => ?_), hargs⟩
    rw [(hagree c).1, (hagree c).2.1, (hagree c).2.2.1, (hagree c).2.2.2.1, (hagree c).2.2.2.2, LossKernel.eq_ix2 j]
    exact ActRef.v26 _ _ _ _ _ _ _

end Cert.ActClaim

end
-- ==== Proof.AdamWKernel.lean ====
/-
  The optimiser's step over one array as the kernel computes it: the eight slots of the gradient are added up, and the moments
  and the update follow entry by entry. The kernel sees each array as rows of 128 entries.
-/
module

public import proofs.«01_k».proof.Proof.LossKernel
public import proofs.«01_k».proof.Proof.Gen.AdamWIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamWKernel

open Idealize.ShloMosaic Idealize.ShloMosaic.TcCoe Cert.AdamWIdeal Cert.AdamWIdeal.Gen

/-- The bits of a constant, read as a real. -/
abbrev lit (b : BitVec 32) : EReal := Scalar.ofBits (F := Ideal) .f32 b

def total (s : Fin 8 → EReal) : EReal := ∑ k, s k

def mean (s : Fin 8 → EReal) (m : EReal) : EReal := lit 0x3F666666#32 * m + lit 0x3DCCCCCD#32 * total s

def spread (s : Fin 8 → EReal) (v : EReal) : EReal := lit 0x3F7FBE77#32 * v + lit 0x3A83126F#32 * (total s * total s)

def delta (w : EReal) (s : Fin 8 → EReal) (m v : EReal) : EReal :=
  lit 0xBA83126F#32 * (Ideal.div (Ideal.div (mean s m) (lit 0x3F26BD02#32))
    (Ideal.sqrt (Ideal.div (spread s v) (lit 0x3C231ACC#32)) + lit 0x322BCC77#32) + lit 0x3C23D70A#32 * w)

section Block

variable {x a b : Vec Ideal S12x128 .f32} {s : Vec Ideal S8x12x128 .f32}

theorem ld_whole (x : Vec Ideal S12x128 .f32) : View.ld x r0_8 = x := by
  refine View.ld_unit_zero ?_ _ _
  funext a; fin_cases a <;> rfl

theorem pay5 (r : Fin 12) (c : Fin 128) : k0_pay5 (F := Ideal) x s a b (ix2 r c) = total fun k => s (ix3 k r c) := by
  unfold total
  rw [Fin.sum_univ_eight]
  pointwise [k0_pay5, k0_pay3]

theorem pay6 (r : Fin 12) (c : Fin 128) : k0_pay6 (F := Ideal) x s a b (ix2 r c) = mean (fun k => s (ix3 k r c)) (a (ix2 r c)) := by
  have h := pay5 (x := x) (a := a) (b := b) (s := s) r c
  unfold k0_pay5 at h
  unfold k0_pay6 mean
  rw [ld_whole, ← h]
  pointwise [k0_pay4]

theorem pay1 {g : FVec Ideal S12x128 .f32} {G : Fin 12 → Fin 128 → Fin 8 → EReal} (hg : ∀ r c, g (ix2 r c) = total (G r c)) (r : Fin 12)
    (c : Fin 128) : k0_pay1 (F := Ideal) g b (ix2 r c) = spread (G r c) (b (ix2 r c)) := by
  pointwise [k0_pay1]
  rw [hg]
  rfl

theorem pay2 {g n : FVec Ideal S12x128 .f32} {G : Fin 12 → Fin 128 → Fin 8 → EReal} (hg : ∀ r c, g (ix2 r c) = total (G r c))
    (hn : ∀ r c, n (ix2 r c) = mean (G r c) (a (ix2 r c))) (r : Fin 12) (c : Fin 128) :
    k0_pay2 (F := Ideal) g n b x (ix2 r c) = delta (x (ix2 r c)) (G r c) (a (ix2 r c)) (b (ix2 r c)) := by
  pointwise [k0_pay2]
  rw [pay1 hg, hn]
  rfl

theorem canon_whole (p : Vec Ideal S12x128 .f32) : View.canon (Val := Elt Ideal) (e := .f32) [⟨r0_8, p⟩] = p :=
  View.canon_cons_unit_lit inb_S12x128_S12x128_0_0 _ _ (by decide)

end Block

/-! ## The one point -/

variable (m : (ℓ : Loc nD τ sig) → Buf (Elt Ideal) ℓ) (dev : Dev nD)

/-- Row `r` of 128 entries among four layers of three rows. -/
def lay (r : Fin 12) : Fin 4 := ⟨r.val / 3, by omega⟩

def sub (r : Fin 12) : Fin 3 := ⟨r.val % 3, by omega⟩

def Wt (r : Fin 12) (c : Fin 128) : EReal := m ((dev : Thread nD τ).loc main_arg0) (ix3 (lay r) (sub r) c)

def Sl (r : Fin 12) (c : Fin 128) (k : Fin 8) : EReal := m ((dev : Thread nD τ).loc main_arg1) (ix4 k (lay r) (sub r) c)

def Mo (r : Fin 12) (c : Fin 128) : EReal := m ((dev : Thread nD τ).loc main_arg2) (ix3 (lay r) (sub r) c)

def Va (r : Fin 12) (c : Fin 128) : EReal := m ((dev : Thread nD τ).loc main_arg3) (ix3 (lay r) (sub r) c)

theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] := by
  decide +kernel

theorem blk_w (t : Fin cfg0.N) (r : Fin 12) (c : Fin 128) : iblk m dev 0 t (ix2 r c) = Wt m dev r c := by
  unfold Wt
  blk_simp [iblk, idx t]
  entry_read
  pointwise
  blk_ext [idx t, lay, sub]

theorem blk_m (t : Fin cfg0.N) (r : Fin 12) (c : Fin 128) : iblk m dev 2 t (ix2 r c) = Mo m dev r c := by
  unfold Mo
  blk_simp [iblk, idx t]
  entry_read
  pointwise
  blk_ext [idx t, lay, sub]

theorem blk_v (t : Fin cfg0.N) (r : Fin 12) (c : Fin 128) : iblk m dev 3 t (ix2 r c) = Va m dev r c := by
  unfold Va
  blk_simp [iblk, idx t]
  entry_read
  pointwise
  blk_ext [idx t, lay, sub]

theorem blk_s (t : Fin cfg0.N) (k : Fin 8) (r : Fin 12) (c : Fin 128) : iblk m dev 1 t (ix3 k r c) = Sl m dev r c k := by
  unfold Sl
  blk_simp [iblk, idx t]
  entry_read
  pointwise
  blk_ext [idx t, lay, sub]

theorem blk_g (t : Fin cfg0.N) (r : Fin 12) (c : Fin 128) :
    k0_pay5 (iblk m dev 0 t) (iblk m dev 1 t) (iblk m dev 2 t) (iblk m dev 3 t) (ix2 r c) = total (Sl m dev r c) :=
  (pay5 r c).trans (congrArg total (funext fun k => blk_s m dev t k r c))

theorem blk_n (t : Fin cfg0.N) (r : Fin 12) (c : Fin 128) :
    k0_pay6 (iblk m dev 0 t) (iblk m dev 1 t) (iblk m dev 2 t) (iblk m dev 3 t) (ix2 r c) = mean (Sl m dev r c) (iblk m dev 2 t (ix2 r c)) :=
  (pay6 r c).trans (congrArg (fun s => mean s _) (funext fun k => blk_s m dev t k r c))

theorem blk_d (t : Fin cfg0.N) (r : Fin 12) (c : Fin 128) :
    k0_pay2 (k0_pay5 (iblk m dev 0 t) (iblk m dev 1 t) (iblk m dev 2 t) (iblk m dev 3 t))
        (k0_pay6 (iblk m dev 0 t) (iblk m dev 1 t) (iblk m dev 2 t) (iblk m dev 3 t)) (iblk m dev 3 t) (iblk m dev 0 t) (ix2 r c)
      = delta (Wt m dev r c) (Sl m dev r c) (Mo m dev r c) (Va m dev r c) := by
  rw [pay2 (blk_g m dev t) (blk_n m dev t), blk_w, blk_m, blk_v]

theorem blk_m' (t : Fin cfg0.N) (r : Fin 12) (c : Fin 128) :
    k0_pay6 (iblk m dev 0 t) (iblk m dev 1 t) (iblk m dev 2 t) (iblk m dev 3 t) (ix2 r c) = mean (Sl m dev r c) (Mo m dev r c) := by
  rw [blk_n, blk_m]

theorem blk_v' (t : Fin cfg0.N) (r : Fin 12) (c : Fin 128) :
    k0_pay1 (k0_pay5 (iblk m dev 0 t) (iblk m dev 1 t) (iblk m dev 2 t) (iblk m dev 3 t)) (iblk m dev 3 t) (ix2 r c)
      = spread (Sl m dev r c) (Va m dev r c) := by
  rw [pay1 (blk_g m dev t), blk_v]

theorem final4 : (dats m 0 dev).arrAt 4 cfg0.N = fun j => total (Sl m dev (j 0) (j 1)) := by
  refine (dats m 0 dev).arrAt_eq_of_covers 4 _ (by decide +kernel) fun t hf y => ?_
  blk_simp
  rw [after0_4]
  have hy : ((win0_4.blk t).view.emb y) = y := by blk_ext [idx t]
  rw [hy]
  unfold out0_4
  rw [canon_whole]
  exact (congrArg _ (LossKernel.eq_ix2 y)).trans (blk_g m dev t (y 0) (y 1))

theorem final5 : (dats m 0 dev).arrAt 5 cfg0.N
    = fun j => delta (Wt m dev (j 0) (j 1)) (Sl m dev (j 0) (j 1)) (Mo m dev (j 0) (j 1)) (Va m dev (j 0) (j 1)) := by
  refine (dats m 0 dev).arrAt_eq_of_covers 5 _ (by decide +kernel) fun t hf y => ?_
  blk_simp
  rw [after0_5]
  have hy : ((win0_5.blk t).view.emb y) = y := by blk_ext [idx t]
  rw [hy]
  unfold out0_5
  rw [canon_whole, ld_whole, ld_whole]
  exact (congrArg _ (LossKernel.eq_ix2 y)).trans (blk_d m dev t (y 0) (y 1))

theorem final6 : (dats m 0 dev).arrAt 6 cfg0.N = fun j => mean (Sl m dev (j 0) (j 1)) (Mo m dev (j 0) (j 1)) := by
  refine (dats m 0 dev).arrAt_eq_of_covers 6 _ (by decide +kernel) fun t hf y => ?_
  blk_simp
  rw [after0_6]
  have hy : ((win0_6.blk t).view.emb y) = y := by blk_ext [idx t]
  rw [hy]
  unfold out0_6
  rw [canon_whole]
  exact (congrArg _ (LossKernel.eq_ix2 y)).trans (blk_m' m dev t (y 0) (y 1))

theorem final7 : (dats m 0 dev).arrAt 7 cfg0.N = fun j => spread (Sl m dev (j 0) (j 1)) (Va m dev (j 0) (j 1)) := by
  refine (dats m 0 dev).arrAt_eq_of_covers 7 _ (by decide +kernel) fun t hf y => ?_
  blk_simp
  rw [after0_7]
  have hy : ((win0_7.blk t).view.emb y) = y := by blk_ext [idx t]
  rw [hy]
  unfold out0_7
  rw [canon_whole, ld_whole]
  exact (congrArg _ (LossKernel.eq_ix2 y)).trans (blk_v' m dev t (y 0) (y 1))

end Cert.AdamWKernel

end
-- ==== Proof.AdamLKernel.lean ====
/-
  The optimiser's step over the layers' rows as the kernel computes it: a point of the grid holds 128 rows of one layer's array, takes
  that layer's slots out of the four it is given, adds them up, and the moments and the update follow entry by entry.
-/
module

public import proofs.«01_k».proof.Proof.AdamWKernel
public import proofs.«01_k».proof.Proof.Gen.AdamLIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AdamLKernel

open Idealize.ShloMosaic Idealize.ShloMosaic.TcCoe Cert.AdamLIdeal Cert.AdamLIdeal.Gen
open Cert.AdamWKernel (lit total mean spread delta)

section Block

/-- The sum of the slots, from one layer's 128 rows of them. -/
def grad (x : Vec Ideal S8x128x768 .bf16) : FVec Ideal S128x706 .f32 :=
  k0_pay9 (F := Ideal) (View.ld x (Rect.unit ![0, 0, 0] ![1, 128, 706] inb_S8x128x768_S1x128x706_0_0_0))
    (View.ld x (Rect.unit ![1, 0, 0] ![1, 128, 706] inb_S8x128x768_S1x128x706_1_0_0))
    (View.ld x (Rect.unit ![2, 0, 0] ![1, 128, 706] inb_S8x128x768_S1x128x706_2_0_0))
    (View.ld x (Rect.unit ![3, 0, 0] ![1, 128, 706] inb_S8x128x768_S1x128x706_3_0_0))
    (View.ld x (Rect.unit ![4, 0, 0] ![1, 128, 706] inb_S8x128x768_S1x128x706_4_0_0))
    (View.ld x (Rect.unit ![5, 0, 0] ![1, 128, 706] inb_S8x128x768_S1x128x706_5_0_0))
    (View.ld x (Rect.unit ![6, 0, 0] ![1, 128, 706] inb_S8x128x768_S1x128x706_6_0_0))
    (View.ld x (Rect.unit ![7, 0, 0] ![1, 128, 706] inb_S8x128x768_S1x128x706_7_0_0))

/-- A column of the array, as a column of its padded copy. -/
def wide (c : Fin 706) : Fin 768 := ⟨c.val, by omega⟩

variable {x : Vec Ideal S8x128x768 .bf16} {w a v : Vec Ideal S1x128x706 .f32} {S : Fin 128 → Fin 706 → Fin 8 → EReal}
  (hs : ∀ k r c, x (ix3 k r (wide c)) = S r c k)

theorem nine {s₀ s₁ s₂ s₃ s₄ s₅ s₆ s₇ : Vec Ideal S1x128x706 .bf16} (r : Fin 128) (c : Fin 706) :
    k0_pay9 (F := Ideal) s₀ s₁ s₂ s₃ s₄ s₅ s₆ s₇ (ix2 r c) = s₀ (ix3 0 r c) + s₁ (ix3 0 r c) + s₂ (ix3 0 r c) + s₃ (ix3 0 r c)
      + s₄ (ix3 0 r c) + s₅ (ix3 0 r c) + s₆ (ix3 0 r c) + s₇ (ix3 0 r c) := by
  pointwise [k0_pay9]

theorem slot (k : ℕ) (h : ∀ a, ![k, 0, 0] a + ![1, 128, 706] a ≤ S8x128x768.size a) (hk : k < 8) (r : Fin 128) (c : Fin 706) :
    View.ld x (Rect.unit ![k, 0, 0] ![1, 128, 706] h) (ix3 0 r c) = x (ix3 ⟨k, hk⟩ r (wide c)) := by
  refine congrArg x (funext fun i => Fin.ext ?_)
  fin_cases i
  · exact Nat.add_zero k
  · exact (Nat.zero_add _).trans (Nat.one_mul _)
  · exact (Nat.zero_add _).trans (Nat.one_mul _)

include hs

theorem grad_eq (r : Fin 128) (c : Fin 706) : grad x (ix2 r c) = total (S r c) := by
  unfold total
  rw [Fin.sum_univ_eight]
  refine (nine r c).trans ?_
  rw [slot 0 _ (by decide), slot 1 _ (by decide), slot 2 _ (by decide), slot 3 _ (by decide), slot 4 _ (by decide), slot 5 _ (by decide),
    slot 6 _ (by decide), slot 7 _ (by decide)]
  simp only [hs]
  rfl

/-- What a point leaves in its four results. -/
theorem four (z : Fin 1) (r : Fin 128) (c : Fin 706) :
    k0_pay13 (F := Ideal) (grad x) (ix3 z r c) = total (S r c)
    ∧ k0_pay14 (F := Ideal) (grad x) (k0_pay10 a) v w (ix3 z r c) = delta (w (ix3 0 r c)) (S r c) (a (ix3 0 r c)) (v (ix3 0 r c))
    ∧ k0_pay1 (F := Ideal) (k0_pay11 (grad x) (k0_pay10 a)) (ix3 z r c) = mean (S r c) (a (ix3 0 r c))
    ∧ k0_pay2 (F := Ideal) (k0_pay12 (grad x) v) (ix3 z r c) = spread (S r c) (v (ix3 0 r c)) := by
  refine ⟨?_, ?_, ?_, ?_⟩
  · pointwise [k0_pay13]
    exact grad_eq hs r c
  · pointwise [k0_pay14, k0_pay11, k0_pay12, k0_pay10]
    rw [grad_eq hs]
    rfl
  · pointwise [k0_pay1, k0_pay11, k0_pay10]
    rw [grad_eq hs]
    rfl
  · pointwise [k0_pay2, k0_pay12]
    rw [grad_eq hs]
    rfl

end Block

/-! ## The grid -/

variable (m : (ℓ : Loc nD τ sig) → Buf (Elt Ideal) ℓ) (dev : Dev nD)

def Wt (l : Fin 4) (r : Fin 1024) (c : Fin 706) : EReal := m ((dev : Thread nD τ).loc main_arg0) (ix3 l r c)

def Sl (l : Fin 4) (r : Fin 1024) (c : Fin 706) (k : Fin 8) : EReal := m ((dev : Thread nD τ).loc main_arg1) (ix4 k l r c)

def Mo (l : Fin 4) (r : Fin 1024) (c : Fin 706) : EReal := m ((dev : Thread nD τ).loc main_arg2) (ix3 l r c)

def Va (l : Fin 4) (r : Fin 1024) (c : Fin 706) : EReal := m ((dev : Thread nD τ).loc main_arg3) (ix3 l r c)

theorem idx : ∀ t : Fin cfg0.N, win0_0.index t = ![t.val / 8, t.val % 8, 0] ∧ win0_5.index t = ![t.val / 8, t.val % 8, 0]
    ∧ win0_6.index t = ![t.val / 8, t.val % 8, 0] ∧ win0_7.index t = ![t.val / 8, t.val % 8, 0]
    ∧ win0_8.index t = ![t.val / 8, t.val % 8, 0] ∧ win0_9.index t = ![t.val / 8, t.val % 8, 0]
    ∧ win0_10.index t = ![t.val / 8, t.val % 8, 0] := by
  decide +kernel

/-- The slots' block is the point's rows when the point is the layer's. -/
theorem idx_slot : ∀ t : Fin cfg0.N, (t.val / 8 = 0 → win0_1.index t = ![0, t.val % 8, 0]) ∧ (t.val / 8 = 1 → win0_2.index t = ![0, t.val % 8, 0])
    ∧ (t.val / 8 = 2 → win0_3.index t = ![0, t.val % 8, 0]) ∧ (t.val / 8 = 3 → win0_4.index t = ![0, t.val % 8, 0]) := by
  decide +kernel

theorem lay_lt (t : Fin cfg0.N) : t.val / 8 < 4 := by
  have ht : t.val < 32 := lt_of_lt_of_eq t.isLt N_0
  omega

theorem row_lt (t : Fin cfg0.N) (r : Fin 128) : t.val % 8 * 128 + r.val < 1024 := by omega

/-- The layer and the row that point `t` holds as its row `r`. -/
def lay_ (t : Fin cfg0.N) : Fin 4 := ⟨t.val / 8, lay_lt t⟩

def row_ (t : Fin cfg0.N) (r : Fin 128) : Fin 1024 := ⟨t.val % 8 * 128 + r.val, row_lt t r⟩

theorem blk_w (t : Fin cfg0.N) (r : Fin 128) (c : Fin 706) : iblk m dev 0 t (ix3 0 r c) = Wt m dev (lay_ t) (row_ t r) c := by
  unfold Wt lay_ row_
  blk_ext [iblk, V, idx t]

theorem blk_m (t : Fin cfg0.N) (r : Fin 128) (c : Fin 706) : iblk m dev 5 t (ix3 0 r c) = Mo m dev (lay_ t) (row_ t r) c := by
  unfold Mo lay_ row_
  blk_ext [iblk, V, idx t]

theorem blk_v (t : Fin cfg0.N) (r : Fin 128) (c : Fin 706) : iblk m dev 6 t (ix3 0 r c) = Va m dev (lay_ t) (row_ t r) c := by
  unfold Va lay_ row_
  blk_ext [iblk, V, idx t]

/-- The padded copies hold the layers' slots in their first columns. -/
theorem entry_slots (k : Fin 8) (r : Fin 1024) (c : Fin 706) : V m dev main_v3 (ix3 k r (wide c)) = Sl m dev 0 r c k
    ∧ V m dev main_v5 (ix3 k r (wide c)) = Sl m dev 1 r c k ∧ V m dev main_v7 (ix3 k r (wide c)) = Sl m dev 2 r c k
    ∧ V m dev main_v9 (ix3 k r (wide c)) = Sl m dev 3 r c k := by
  show StableHlo.after hostOps0 _ (Proc.devRef .tc main_v3) (ix3 k r (wide c)) = _
    ∧ StableHlo.after hostOps0 _ (Proc.devRef .tc main_v5) (ix3 k r (wide c)) = _
    ∧ StableHlo.after hostOps0 _ (Proc.devRef .tc main_v7) (ix3 k r (wide c)) = _
    ∧ StableHlo.after hostOps0 _ (Proc.devRef .tc main_v9) (ix3 k r (wide c)) = _
  unfold Sl
  refine ⟨?_, ?_, ?_, ?_⟩ <;> entry_read <;> pointwise <;> exact dif_pos c.isLt

theorem emb_slots (t : Fin cfg0.N) (k : Fin 8) (r : Fin 128) (c : Fin 706) :
    (t.val / 8 = 0 → (win0_1.blk t).view.emb (ix3 k r (wide c)) = ix3 k (row_ t r) (wide c))
    ∧ (t.val / 8 = 1 → (win0_2.blk t).view.emb (ix3 k r (wide c)) = ix3 k (row_ t r) (wide c))
    ∧ (t.val / 8 = 2 → (win0_3.blk t).view.emb (ix3 k r (wide c)) = ix3 k (row_ t r) (wide c))
    ∧ (t.val / 8 = 3 → (win0_4.blk t).view.emb (ix3 k r (wide c)) = ix3 k (row_ t r) (wide c)) := by
  unfold row_ wide
  obtain ⟨i1, i2, i3, i4⟩ := idx_slot t
  refine ⟨fun h => ?_, fun h => ?_, fun h => ?_, fun h => ?_⟩
  · blk_ext [i1 h]
  · blk_ext [i2 h]
  · blk_ext [i3 h]
  · blk_ext [i4 h]

theorem read_1 (X : S8x1024x768.Idx → Elt Ideal .bf16) (t : Fin cfg0.N) (k : Fin 8) (r : Fin 128) (c : Fin 706) (h : t.val / 8 = 0) :
    ((cfg0.win 1).blk t).view.read (Elt Ideal) X (ix3 k r (wide c)) = X (ix3 k (row_ t r) (wide c)) :=
  congrArg X ((emb_slots t k r c).1 h)

theorem read_2 (X : S8x1024x768.Idx → Elt Ideal .bf16) (t : Fin cfg0.N) (k : Fin 8) (r : Fin 128) (c : Fin 706) (h : t.val / 8 = 1) :
    ((cfg0.win 2).blk t).view.read (Elt Ideal) X (ix3 k r (wide c)) = X (ix3 k (row_ t r) (wide c)) :=
  congrArg X ((emb_slots t k r c).2.1 h)

theorem read_3 (X : S8x1024x768.Idx → Elt Ideal .bf16) (t : Fin cfg0.N) (k : Fin 8) (r : Fin 128) (c : Fin 706) (h : t.val / 8 = 2) :
    ((cfg0.win 3).blk t).view.read (Elt Ideal) X (ix3 k r (wide c)) = X (ix3 k (row_ t r) (wide c)) :=
  congrArg X ((emb_slots t k r c).2.2.1 h)

theorem read_4 (X : S8x1024x768.Idx → Elt Ideal .bf16) (t : Fin cfg0.N) (k : Fin 8) (r : Fin 128) (c : Fin 706) (h : t.val / 8 = 3) :
    ((cfg0.win 4).blk t).view.read (Elt Ideal) X (ix3 k r (wide c)) = X (ix3 k (row_ t r) (wide c)) :=
  congrArg X ((emb_slots t k r c).2.2.2 h)

theorem blk_slots (t : Fin cfg0.N) (k : Fin 8) (r : Fin 128) (c : Fin 706) :
    (t.val / 8 = 0 → iblk m dev 1 t (ix3 k r (wide c)) = Sl m dev (lay_ t) (row_ t r) c k)
    ∧ (t.val / 8 = 1 → iblk m dev 2 t (ix3 k r (wide c)) = Sl m dev (lay_ t) (row_ t r) c k)
    ∧ (t.val / 8 = 2 → iblk m dev 3 t (ix3 k r (wide c)) = Sl m dev (lay_ t) (row_ t r) c k)
    ∧ (t.val / 8 = 3 → iblk m dev 4 t (ix3 k r (wide c)) = Sl m dev (lay_ t) (row_ t r) c k) := by
  obtain ⟨s1, s2, s3, s4⟩ := entry_slots m dev k (row_ t r) c
  unfold iblk
  refine ⟨fun h => ?_, fun h => ?_, fun h => ?_, fun h => ?_⟩
  · rw [show lay_ t = 0 from Fin.ext h, ← s1]
    exact read_1 _ t k r c h
  · rw [show lay_ t = 1 from Fin.ext h, ← s2]
    exact read_2 _ t k r c h
  · rw [show lay_ t = 2 from Fin.ext h, ← s3]
    exact read_3 _ t k r c h
  · rw [show lay_ t = 3 from Fin.ext h, ← s4]
    exact read_4 _ t k r c h

/-- What the points leave, in the blocks they hold. -/
theorem point (t : Fin cfg0.N) (z : Fin 1) (r : Fin 128) (c : Fin 706) :
    (outsAt0 m dev t.val t.isLt).1 (ix3 z r c) = total (Sl m dev (lay_ t) (row_ t r) c)
    ∧ (outsAt0 m dev t.val t.isLt).2.1 (ix3 z r c)
      = delta (Wt m dev (lay_ t) (row_ t r) c) (Sl m dev (lay_ t) (row_ t r) c) (Mo m dev (lay_ t) (row_ t r) c)
        (Va m dev (lay_ t) (row_ t r) c)
    ∧ (outsAt0 m dev t.val t.isLt).2.2.1 (ix3 z r c) = mean (Sl m dev (lay_ t) (row_ t r) c) (Mo m dev (lay_ t) (row_ t r) c)
    ∧ (outsAt0 m dev t.val t.isLt).2.2.2 (ix3 z r c) = spread (Sl m dev (lay_ t) (row_ t r) c) (Va m dev (lay_ t) (row_ t r) c) := by
  rw [← blk_w, ← blk_m, ← blk_v]
  have hl := lay_lt t
  rcases (by omega : t.val / 8 = 0 ∨ t.val / 8 = 1 ∨ t.val / 8 = 2 ∨ t.val / 8 = 3) with h | h | h | h
  · rw [outsAt0_A m dev t (by omega) (by omega) (by omega) (by omega)]
    frame_out
    exact four (fun k r c => (blk_slots m dev t k r c).1 h) z r c
  · rw [outsAt0_B m dev t (by omega) (by omega) (by omega) (by omega)]
    frame_out
    exact four (fun k r c => (blk_slots m dev t k r c).2.1 h) z r c
  · rw [outsAt0_C m dev t (by omega) (by omega) (by omega) (by omega)]
    frame_out
    exact four (fun k r c => (blk_slots m dev t k r c).2.2.1 h) z r c
  · rw [outsAt0_D m dev t (by omega) (by omega) (by omega) (by omega)]
    frame_out
    exact four (fun k r c => (blk_slots m dev t k r c).2.2.2 h) z r c

theorem eq_ix3 {a b c : ℕ} (y : (⟨3, ![a, b, c]⟩ : Shape).Idx) : y = ix3 (y 0) (y 1) (y 2) := by
  funext i
  fin_cases i <;> rfl

theorem final7 : (dats m 0 dev).arrAt 7 cfg0.N
    = fun j => total (Sl m dev (j 0) (j 1) (j 2)) := by
  refine (dats m 0 dev).arrAt_eq_of_covers 7 _ (by decide +kernel) fun t hf y => ?_
  blk_simp
  rw [after0_7]
  have hy : ((win0_7.blk t).view.emb y) = ix3 (lay_ t) (row_ t (y 1)) (y 2) := by
    unfold lay_ row_
    blk_ext [idx t]
  rw [hy]
  exact (congrArg _ (eq_ix3 y)).trans (point m dev t (y 0) (y 1) (y 2)).1

theorem final8 : (dats m 0 dev).arrAt 8 cfg0.N
    = fun j => delta (Wt m dev (j 0) (j 1) (j 2)) (Sl m dev (j 0) (j 1) (j 2)) (Mo m dev (j 0) (j 1) (j 2)) (Va m dev (j 0) (j 1) (j 2)) := by
  refine (dats m 0 dev).arrAt_eq_of_covers 8 _ (by decide +kernel) fun t hf y => ?_
  blk_simp
  rw [after0_8]
  have hy : ((win0_8.blk t).view.emb y) = ix3 (lay_ t) (row_ t (y 1)) (y 2) := by
    unfold lay_ row_
    blk_ext [idx t]
  rw [hy]
  exact (congrArg _ (eq_ix3 y)).trans (point m dev t (y 0) (y 1) (y 2)).2.1

theorem final9 : (dats m 0 dev).arrAt 9 cfg0.N
    = fun j => mean (Sl m dev (j 0) (j 1) (j 2)) (Mo m dev (j 0) (j 1) (j 2)) := by
  refine (dats m 0 dev).arrAt_eq_of_covers 9 _ (by decide +kernel) fun t hf y => ?_
  blk_simp
  rw [after0_9]
  have hy : ((win0_9.blk t).view.emb y) = ix3 (lay_ t) (row_ t (y 1)) (y 2) := by
    unfold lay_ row_
    blk_ext [idx t]
  rw [hy]
  exact (congrArg _ (eq_ix3 y)).trans (point m dev t (y 0) (y 1) (y 2)).2.2.1

theorem final10 : (dats m 0 dev).arrAt 10 cfg0.N
    = fun j => spread (Sl m dev (j 0) (j 1) (j 2)) (Va m dev (j 0) (j 1) (j 2)) := by
  refine (dats m 0 dev).arrAt_eq_of_covers 10 _ (by decide +kernel) fun t hf y => ?_
  blk_simp
  rw [after0_10]
  have hy : ((win0_10.blk t).view.emb y) = ix3 (lay_ t) (row_ t (y 1)) (y 2) := by
    unfold lay_ row_
    blk_ext [idx t]
  rw [hy]
  exact (congrArg _ (eq_ix3 y)).trans (point m dev t (y 0) (y 1) (y 2)).2.2.2

end Cert.AdamLKernel

end
-- ==== Proof.AdamLClaim.lean ====
/-
  The claims about the optimiser's step over the layers' rows: the frame of the reference, and that the kernel's four results are the
  reference's.
-/
module

public import proofs.«01_k».proof.Defs
public import proofs.«01_k».proof.Proof.AdamLKernel
public import proofs.«01_k».proof.Proof.Gen.AdamLRefIdeal.Read
public import proofs.«01_k».proof.Proof.Gen.AdamLRefIdeal.Run
public import Idealize.ShloMosaic.Adequacy
public import Idealize.ShloMosaic.Init

@[expose] public section

noncomputable section

namespace Cert.AdamLClaim

open Idealize.ShloMosaic Idealize.ShloMosaic.Pointwise Idealize.SL.Sem Cert.AdamLRefIdeal Cert.AdamLRefIdeal.Read Cert.AdamLKernel
open Cert.AdamWKernel (total mean spread delta lit)

section Reference

variable (w m v : (⟨S4x1024x706, .f32⟩ : BufTy).Contents (Elt Ideal)) (s : (⟨S8x4x1024x706, .f32⟩ : BufTy).Contents (Elt Ideal))
  (a : Fin 4) (b : Fin 1024) (c : Fin 706)

theorem ref_total : val_main_v0 (F := Ideal) s (ix3 a b c) = total fun k => s (ix4 k a b c) := by
  pointwise [val_main_v0, val_main_cst]
  rfl

theorem ref_mean : val_main_v5 (F := Ideal) s m (ix3 a b c) = mean (fun k => s (ix4 k a b c)) (m (ix3 a b c)) := by
  pointwise [val_main_v5, val_main_v4, val_main_v3, val_main_v2, val_main_v1, val_main_cst_0, val_main_cst_1]
  rw [ref_total]
  rfl

theorem ref_spread : val_main_v11 (F := Ideal) s v (ix3 a b c) = spread (fun k => s (ix4 k a b c)) (v (ix3 a b c)) := by
  pointwise [val_main_v11, val_main_v10, val_main_v9, val_main_v8, val_main_v7, val_main_v6, val_main_cst_2, val_main_cst_3]
  rw [ref_total]
  rfl

theorem ref_delta : val_main_v24 (F := Ideal) w s m v (ix3 a b c)
    = delta (w (ix3 a b c)) (fun k => s (ix4 k a b c)) (m (ix3 a b c)) (v (ix3 a b c)) := by
  pointwise [val_main_v24, val_main_v23, val_main_v22, val_main_v21, val_main_v20, val_main_v19, val_main_v18, val_main_v17,
    val_main_v16, val_main_v15, val_main_v14, val_main_v13, val_main_v12, val_main_cst_4, val_main_cst_5, val_main_cst_6, val_main_cst_7,
    val_main_cst_8]
  rw [ref_mean, ref_spread]
  rfl

end Reference

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3))
      ∧ r.2.sem = fun _ => 0) :=
  (θ_run defs _ _).mono (fun r h => ⟨fun c => (h c).2.2.2.2, sem_eq_zero_of_no_sems (by decide) r.2⟩) (Value.run (F := Ideal) m ρ)

theorem algebraic : Cert.algebraic_AdamLIdeal_AdamLRefIdeal := by
  intro m g m' g' _ hagree
  refine ⟨fun c j => total (Sl m c (j 0) (j 1) (j 2)),
    fun c j => delta (Wt m c (j 0) (j 1) (j 2)) (Sl m c (j 0) (j 1) (j 2)) (Mo m c (j 0) (j 1) (j 2)) (Va m c (j 0) (j 1) (j 2)),
    fun c j => mean (Sl m c (j 0) (j 1) (j 2)) (Mo m c (j 0) (j 1) (j 2)),
    fun c j => spread (Sl m c (j 0) (j 1) (j 2)) (Va m c (j 0) (j 1) (j 2)), ?_, ?_⟩
  · refine (θ_run AdamLIdeal.defs _ _).mono (fun r h c => ?_) (AdamLIdeal.Value.run_blocks (F := Ideal) m g)
    obtain ⟨h7, h8, h9, h10, hargs⟩ := h c
    exact ⟨h7.trans (final7 m c), h8.trans (final8 m c), h9.trans (final9 m c), h10.trans (final10 m c), hargs⟩
  · refine (θ_run defs _ _).mono (fun r h c => ?_) (Value.run (F := Ideal) m' g')
    obtain ⟨h0, h1, h2, h3, hargs⟩ := h c
    obtain ⟨e0, e1, e2, e3⟩ := hagree c
    have q0 (l : Fin 4) (a : Fin 1024) (b : Fin 706) : m' (c.tc.loc main_arg0) (ix3 l a b) = Wt m c l a b := congrFun e0 (ix3 l a b)
    have q1 (l : Fin 4) (a : Fin 1024) (b : Fin 706) : (fun k => m' (c.tc.loc main_arg1) (ix4 k l a b)) = Sl m c l a b :=
      funext fun k => congrFun e1 (ix4 k l a b)
    have q2 (l : Fin 4) (a : Fin 1024) (b : Fin 706) : m' (c.tc.loc main_arg2) (ix3 l a b) = Mo m c l a b := congrFun e2 (ix3 l a b)
    have q3 (l : Fin 4) (a : Fin 1024) (b : Fin 706) : m' (c.tc.loc main_arg3) (ix3 l a b) = Va m c l a b := congrFun e3 (ix3 l a b)
    refine ⟨(h0.trans (val_main_v0_eq ..)).trans (funext fun j => ?_), (h1.trans (val_main_v24_eq ..)).trans (funext fun j => ?_),
      (h2.trans (val_main_v5_eq ..)).trans (funext fun j => ?_), (h3.trans (val_main_v11_eq ..)).trans (funext fun j => ?_), hargs⟩
    all_goals rw [AdamLKernel.eq_ix3 j]
    · exact (ref_total _ _ _ _).trans (congrArg total (q1 _ _ _))
    · exact (ref_delta _ _ _ _ _ _ _).trans (congr (congr (congr (congrArg delta (q0 _ _ _)) (q1 _ _ _)) (q2 _ _ _)) (q3 _ _ _))
    · exact (ref_mean _ _ _ _ _).trans (congr (congrArg mean (q1 _ _ _)) (q2 _ _ _))
    · exact (ref_spread _ _ _ _ _).trans (congr (congrArg spread (q1 _ _ _)) (q3 _ _ _))

end Cert.AdamLClaim

end
-- ==== Proof.AdamWClaim.lean ====
/-
  The claims about the optimiser's step: the frame of the reference, and that the kernel's four results are the reference's.
-/
module

public import proofs.«01_k».proof.Defs
public import proofs.«01_k».proof.Proof.AdamWKernel
public import proofs.«01_k».proof.Proof.Gen.AdamWRefIdeal.Read
public import proofs.«01_k».proof.Proof.Gen.AdamWRefIdeal.Run
public import Idealize.ShloMosaic.Adequacy
public import Idealize.ShloMosaic.Init

@[expose] public section

noncomputable section

namespace Cert.AdamWClaim

open Idealize.ShloMosaic Idealize.ShloMosaic.Pointwise Idealize.SL.Sem Cert.AdamWRefIdeal Cert.AdamWRefIdeal.Read Cert.AdamWKernel

section Reference

variable (w m v : (⟨S4x3x128, .f32⟩ : BufTy).Contents (Elt Ideal)) (s : (⟨S8x4x3x128, .f32⟩ : BufTy).Contents (Elt Ideal))
  (a : Fin 4) (b : Fin 3) (c : Fin 128)

theorem ref_total : val_main_v0 (F := Ideal) s (ix3 a b c) = total fun k => s (ix4 k a b c) := by
  pointwise [val_main_v0, val_main_cst]
  rfl

theorem ref_mean : val_main_v5 (F := Ideal) s m (ix3 a b c) = mean (fun k => s (ix4 k a b c)) (m (ix3 a b c)) := by
  pointwise [val_main_v5, val_main_v4, val_main_v3, val_main_v2, val_main_v1, val_main_cst_0, val_main_cst_1]
  rw [ref_total]
  rfl

theorem ref_spread : val_main_v11 (F := Ideal) s v (ix3 a b c) = spread (fun k => s (ix4 k a b c)) (v (ix3 a b c)) := by
  pointwise [val_main_v11, val_main_v10, val_main_v9, val_main_v8, val_main_v7, val_main_v6, val_main_cst_2, val_main_cst_3]
  rw [ref_total]
  rfl

theorem ref_delta : val_main_v24 (F := Ideal) w s m v (ix3 a b c)
    = delta (w (ix3 a b c)) (fun k => s (ix4 k a b c)) (m (ix3 a b c)) (v (ix3 a b c)) := by
  pointwise [val_main_v24, val_main_v23, val_main_v22, val_main_v21, val_main_v20, val_main_v19, val_main_v18, val_main_v17,
    val_main_v16, val_main_v15, val_main_v14, val_main_v13, val_main_v12, val_main_cst_4, val_main_cst_5, val_main_cst_6, val_main_cst_7,
    val_main_cst_8]
  rw [ref_mean, ref_spread]
  rfl

/-- An array of four layers, seen as rows of 128 entries. -/
theorem flat (f : (⟨S4x3x128, .f32⟩ : BufTy).Contents (Elt Ideal)) (r : Fin 12) (c : Fin 128) :
    shapeCast S12x128 f Gen.shapeCasts_S4x3x128_S12x128 (ix2 r c) = f (ix3 (lay r) (sub r) c) := by
  pointwise
  rfl

end Reference

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3))
      ∧ r.2.sem = fun _ => 0) :=
  (θ_run defs _ _).mono (fun r h => ⟨fun c => (h c).2.2.2.2, sem_eq_zero_of_no_sems (by decide) r.2⟩) (Value.run (F := Ideal) m ρ)

theorem algebraic : Cert.algebraic_AdamWIdeal_AdamWRefIdeal := by
  intro m g m' g' _ hagree
  refine ⟨fun c j => total (Sl m c (j 0) (j 1)),
    fun c j => delta (Wt m c (j 0) (j 1)) (Sl m c (j 0) (j 1)) (Mo m c (j 0) (j 1)) (Va m c (j 0) (j 1)),
    fun c j => mean (Sl m c (j 0) (j 1)) (Mo m c (j 0) (j 1)), fun c j => spread (Sl m c (j 0) (j 1)) (Va m c (j 0) (j 1)), ?_, ?_⟩
  · refine (θ_run AdamWIdeal.defs _ _).mono (fun r h c => ?_) (AdamWIdeal.Value.run_blocks (F := Ideal) m g)
    obtain ⟨h4, h5, h6, h7, hargs⟩ := h c
    exact ⟨h4.trans (final4 m c), h5.trans (final5 m c), h6.trans (final6 m c), h7.trans (final7 m c), hargs⟩
  · refine (θ_run defs _ _).mono (fun r h c => ?_) (Value.run (F := Ideal) m' g')
    obtain ⟨h0, h1, h2, h3, hargs⟩ := h c
    obtain ⟨e0, e1, e2, e3⟩ := hagree c
    have q0 (a : Fin 12) (b : Fin 128) : m' (c.tc.loc main_arg0) (ix3 (lay a) (sub a) b) = Wt m c a b := congrFun e0 (ix3 (lay a) (sub a) b)
    have q1 (a : Fin 12) (b : Fin 128) : (fun k => m' (c.tc.loc main_arg1) (ix4 k (lay a) (sub a) b)) = Sl m c a b :=
      funext fun k => congrFun e1 (ix4 k (lay a) (sub a) b)
    have q2 (a : Fin 12) (b : Fin 128) : m' (c.tc.loc main_arg2) (ix3 (lay a) (sub a) b) = Mo m c a b := congrFun e2 (ix3 (lay a) (sub a) b)
    have q3 (a : Fin 12) (b : Fin 128) : m' (c.tc.loc main_arg3) (ix3 (lay a) (sub a) b) = Va m c a b := congrFun e3 (ix3 (lay a) (sub a) b)
    refine ⟨(h0.trans (val_main_v25_eq ..)).trans (funext fun j => ?_), (h1.trans (val_main_v26_eq ..)).trans (funext fun j => ?_),
      (h2.trans (val_main_v27_eq ..)).trans (funext fun j => ?_), (h3.trans (val_main_v28_eq ..)).trans (funext fun j => ?_), hargs⟩
    all_goals rw [LossKernel.eq_ix2 j]; refine (flat _ _ _).trans ?_
    · exact (ref_total _ _ _ _).trans (congrArg total (q1 _ _))
    · exact (ref_delta _ _ _ _ _ _ _).trans (congr (congr (congr (congrArg delta (q0 _ _)) (q1 _ _)) (q2 _ _)) (q3 _ _))
    · exact (ref_mean _ _ _ _ _).trans (congr (congrArg mean (q1 _ _)) (q2 _ _))
    · exact (ref_spread _ _ _ _ _).trans (congr (congrArg spread (q1 _ _)) (q3 _ _))

end Cert.AdamWClaim

end
-- ==== Proof.CutKernel.lean ====
/-
  The input projection's gradient cut into eight parts as the kernel cuts it: each part of 706 columns is picked out of the columns
  around it by a product with a matrix of zeros and ones, and 62 columns of zeros are put after it.
-/
module

public import proofs.«01_k».proof.Proof.LossKernel
public import proofs.«01_k».proof.Proof.Gen.CutIdeal.Value
public import Idealize.ShloMosaic.Lib.Pointwise
public import Idealize.ShloMosaic.Lib.WordCmp
public import Idealize.ShloMosaic.Lib.Pipeline.ValueKit
public import Idealize.ShloMosaic.Lib.Pipeline.ReadBack

@[expose] public section

set_option maxRecDepth 16384

noncomputable section

namespace Cert.CutKernel

open Idealize.ShloMosaic Idealize.ShloMosaic.TcCoe Cert.CutIdeal Cert.CutIdeal.Gen

/-! ## One part -/

/-- The kernel's test: column `q` of the window is the one that column `c` of the part takes. -/
def test (s : ℕ) (q c : ℕ) : BitVec 1 :=
  IntOp.andi (IntOp.cmpi .eq (BitVec.ofNat 32 q) (IntOp.addi (BitVec.ofNat 32 c) (BitVec.ofNat 32 s)))
    (IntOp.cmpi .slt (BitVec.ofNat 32 c) (BitVec.ofNat 32 706))

theorem test_eq {s q c : ℕ} (hs : s < 1000) (hq : q < 1000) (hc : c < 1000) : test s q c = if q = c + s ∧ c < 706 then 1#1 else 0#1 := by
  have e : IntOp.addi (BitVec.ofNat 32 c) (BitVec.ofNat 32 s) = BitVec.ofNat 32 (c + s) := (BitVec.ofNat_add ..).symm
  unfold test
  rw [e, WordCmp.cmpi_eq_ofNat (by omega) (by omega), WordCmp.cmpi_slt_ofNat (by omega) (by omega)]
  by_cases h1 : q = c + s <;> by_cases h2 : c < 706 <;> simp [h1, h2, IntOp.andi]

/-- Column `c` of a part that starts at column `s` of its window: 706 columns of the window, then zeros. -/
def taken {n : ℕ} (f : Fin n → EReal) (s : ℕ) (hs : s + 706 ≤ n) (c : Fin 768) : EReal :=
  if h : c.val < 706 then f ⟨s + c.val, by omega⟩ else 0

/-- Adding up over the window what passes the test leaves the one column taken, or nothing. -/
theorem pick {n : ℕ} (f : Fin n → EReal) (s : ℕ) (hs : s + 706 ≤ n) (hn : n < 1000) (c : Fin 768) :
    (∑ q, Scalar.select (test s q.val c.val) (f q) 0) = taken f s hs c := by
  have hc := c.isLt
  have hsel (q : Fin n) : Scalar.select (test s q.val c.val) (f q) 0 = if q.val = c.val + s ∧ c.val < 706 then f q else 0 := by
    have hq := q.isLt
    rw [test_eq (by omega) (by omega) (by omega)]
    by_cases h : q.val = c.val + s ∧ c.val < 706 <;> simp [h, Scalar.select]
  unfold taken
  rw [Finset.sum_congr rfl fun q _ => hsel q]
  by_cases h : c.val < 706
  · rw [dif_pos h, Finset.sum_eq_single ⟨s + c.val, by omega⟩]
    · simp [h, Nat.add_comm]
    · intro q _ hne
      refine if_neg fun hq => hne (Fin.ext ?_)
      show q.val = s + c.val
      omega
    · intro hne; exact absurd (Finset.mem_univ _) hne
  · rw [dif_neg h]
    exact Finset.sum_eq_zero fun q _ => if_neg fun hq => h hq.2

section Block

/-- The parts taken out of a window of 768 columns. -/
theorem narrow (v : Vec Ideal S256x768 .bf16) (u : Fin 1) (r : Fin 256) (c : Fin 768) :
    k0_pay1 (F := Ideal) v (ix3 u r c) = taken (fun q => v (ix2 r q)) 0 (by decide) c
    ∧ k0_pay3 (F := Ideal) v (ix3 u r c) = taken (fun q => v (ix2 r q)) 4 (by decide) c
    ∧ k0_pay5 (F := Ideal) v (ix3 u r c) = taken (fun q => v (ix2 r q)) 8 (by decide) c
    ∧ k0_pay7 (F := Ideal) v (ix3 u r c) = taken (fun q => v (ix2 r q)) 12 (by decide) c := by
  refine ⟨?_, ?_, ?_, ?_⟩ <;> pointwise [k0_pay1, k0_pay3, k0_pay5, k0_pay7] <;> exact pick (fun q => v (ix2 r q)) _ _ (by decide) c

/-- The parts taken out of a window of 896 columns. -/
theorem wide (v : Vec Ideal S256x896 .bf16) (u : Fin 1) (r : Fin 256) (c : Fin 768) :
    k0_pay2 (F := Ideal) v (ix3 u r c) = taken (fun q => v (ix2 r q)) 66 (by decide) c
    ∧ k0_pay4 (F := Ideal) v (ix3 u r c) = taken (fun q => v (ix2 r q)) 70 (by decide) c
    ∧ k0_pay6 (F := Ideal) v (ix3 u r c) = taken (fun q => v (ix2 r q)) 74 (by decide) c
    ∧ k0_pay8 (F := Ideal) v (ix3 u r c) = taken (fun q => v (ix2 r q)) 78 (by decide) c := by
  refine ⟨?_, ?_, ?_, ?_⟩ <;> pointwise [k0_pay2, k0_pay4, k0_pay6, k0_pay8] <;> exact pick (fun q => v (ix2 r q)) _ _ (by decide) c

/-- Part `z` of a row: its 706 columns, then zeros. -/
def part (f : Fin 5760 → EReal) (z : Fin 8) (c : Fin 768) : EReal :=
  if h : c.val < 706 then f ⟨706 * z.val + c.val, by omega⟩ else 0

variable {x : Vec Ideal S256x5760 .bf16} {X : Fin 256 → Fin 5760 → EReal}

/-- What is stored as part `z`, taken out of the window that starts at column `a`. -/
theorem stored (hx : ∀ r c, x (ix2 r c) = X r c) {n : ℕ} (a s : ℕ) (z : Fin 8) (inb inb') (hs : s + 706 ≤ n) (hz : a + s = 706 * z.val)
    (p : Vec Ideal S1x256x768 .bf16)
    (hp : ∀ u r c, p (ix3 u r c) = taken (fun q => View.ld x (Rect.unit (s := S256x5760) ![0, a] ![256, n] inb) (ix2 r q)) s hs c)
    (j : S1x256x768.Idx) :
    p j = (fun i : S8x256x768.Idx => part (X (i 1)) (i 0) (i 2)) ((Rect.unit (s := S8x256x768) ![z.val, 0, 0] ![1, 256, 768] inb').emb j) := by
  have hj : (j 0).val < 1 := (j 0).isLt
  have e : (Rect.unit (s := S8x256x768) ![z.val, 0, 0] ![1, 256, 768] inb').emb j = ix3 z (j 1) (j 2) := by
    refine funext fun b => Fin.ext ?_
    match b with
    | ⟨0, _⟩ => show z.val + 1 * (j 0).val = z.val; omega
    | ⟨1, _⟩ => show 0 + 1 * (j 1).val = (j 1).val; omega
    | ⟨2, _⟩ => show 0 + 1 * (j 2).val = (j 2).val; omega
  rw [e]
  refine ((congrArg p (eq_ix3 j)).trans (hp _ _ _)).trans ?_
  show taken _ s hs (j 2) = part (X (j 1)) z (j 2)
  unfold taken part
  refine dite_congr rfl (fun h => ?_) fun _ => rfl
  refine Eq.trans ?_ (hx (j 1) ⟨706 * z.val + (j 2).val, _⟩)
  refine congrArg x (funext fun b => Fin.ext ?_)
  match b with
  | ⟨0, _⟩ => show 0 + 1 * (j 1).val = (j 1).val; omega
  | ⟨1, _⟩ => show a + 1 * (s + (j 2).val) = 706 * z.val + (j 2).val; omega

theorem whole (hx : ∀ r c, x (ix2 r c) = X r c) (z : Fin 8) (r : Fin 256) (c : Fin 768) :
    out0_1 (F := Ideal) x (ix3 z r c) = part (X r) z c := by
  unfold out0_1
  refine View.canon_apply_of_pieces (Val := Elt Ideal) (e := .bf16) (fun i : S8x256x768.Idx => part (X (i 1)) (i 0) (i 2)) _ ?_ (ix3 z r c)
    (cover0_1 _ _ _ _ _ _ _ _ _)
  simp only [List.forall_mem_cons, List.not_mem_nil, false_implies, implies_true, and_true]
  exact ⟨stored hx 4864 78 7 _ _ (by decide) rfl _ fun u r c => (wide _ u r c).2.2.2,
    stored hx 4224 12 6 _ _ (by decide) rfl _ fun u r c => (narrow _ u r c).2.2.2,
    stored hx 3456 74 5 _ _ (by decide) rfl _ fun u r c => (wide _ u r c).2.2.1,
    stored hx 2816 8 4 _ _ (by decide) rfl _ fun u r c => (narrow _ u r c).2.2.1,
    stored hx 2048 70 3 _ _ (by decide) rfl _ fun u r c => (wide _ u r c).2.1,
    stored hx 1408 4 2 _ _ (by decide) rfl _ fun u r c => (narrow _ u r c).2.1,
    stored hx 640 66 1 _ _ (by decide) rfl _ fun u r c => (wide _ u r c).1,
    stored hx 0 0 0 _ _ (by decide) rfl _ fun u r c => (narrow _ u r c).1⟩

end Block

/-! ## The grid -/

variable (m : (ℓ : Loc nD τ sig) → Buf (Elt Ideal) ℓ) (dev : Dev nD)

/-- The gradient, with the columns of zeros behind it. -/
def Gr (r : Fin 1024) (c : Fin 5760) : EReal :=
  if h : c.val < 5648 then m ((dev : Thread nD τ).loc main_arg0) (ix2 r ⟨c.val, h⟩) else 0

theorem idx : ∀ t : Fin cfg0.N, win0_0.index t = ![t.val, 0] ∧ win0_1.index t = ![0, t.val, 0] := by
  decide +kernel

theorem row_lt (t : Fin cfg0.N) (a : Fin 256) : t.val * 256 + a.val < 1024 := by
  have ht : t.val < 4 := lt_of_lt_of_eq t.isLt N_0
  omega

/-- The row that point `t` holds as its row `a`. -/
def at_ (t : Fin cfg0.N) (a : Fin 256) : Fin 1024 := ⟨t.val * 256 + a.val, row_lt t a⟩

theorem blk_g (t : Fin cfg0.N) (a : Fin 256) (c : Fin 5760) : iblk m dev 0 t (ix2 a c) = Gr m dev (at_ t a) c := by
  have e : (win0_0.blk t).view.emb (ix2 a c) = ix2 (at_ t a) c := by
    unfold at_
    blk_ext [idx t]
  unfold Gr
  blk_simp [iblk]
  rw [e]
  entry_read
  pointwise

theorem final : (dats m 0 dev).arrAt 1 cfg0.N = fun j => part (Gr m dev (j 1)) (j 0) (j 2) := by
  refine (dats m 0 dev).arrAt_eq_of_covers 1 _ (by decide +kernel) fun t hf y => ?_
  blk_simp
  rw [after0_1]
  have hy : ((win0_1.blk t).view.emb y) = ix3 (y 0) (at_ t (y 1)) (y 2) := by
    unfold at_
    blk_ext [idx t]
  rw [hy]
  exact (congrArg _ (eq_ix3 y)).trans (whole (X := fun a => Gr m dev (at_ t a)) (blk_g m dev t) (y 0) (y 1) (y 2))

end Cert.CutKernel

end
-- ==== Proof.CutClaim.lean ====
/-
  The claims about cutting the input projection's gradient: the frame of the reference, and that the kernel's eight parts are the
  reference's.
-/
module

public import proofs.«01_k».proof.Defs
public import proofs.«01_k».proof.Proof.CutKernel
public import proofs.«01_k».proof.Proof.Gen.CutRefIdeal.Read
public import proofs.«01_k».proof.Proof.Gen.CutRefIdeal.Run
public import Idealize.ShloMosaic.Adequacy
public import Idealize.ShloMosaic.Init

@[expose] public section

noncomputable section

namespace Cert.CutClaim

open Idealize.ShloMosaic Idealize.ShloMosaic.Pointwise Idealize.SL.Sem Cert.CutRefIdeal Cert.CutRefIdeal.Read Cert.CutKernel

/-- A row of the gradient with zeros behind it. -/
def padded (f : Fin 5648 → EReal) (c : Fin 5760) : EReal := if h : c.val < 5648 then f ⟨c.val, h⟩ else 0

theorem ref_part (x : (⟨S1024x5648, .f32⟩ : BufTy).Contents (Elt Ideal)) (z : Fin 8) (r : Fin 1024) (c : Fin 768) :
    val_main_v4 (F := Ideal) x (ix3 z r c) = part (padded fun q => x (ix2 r q)) z c := by
  pointwise [val_main_v4, val_main_v3, val_main_v2, val_main_v1, val_main_v0, val_main_cst]
  unfold part padded
  refine dite_congr rfl (fun h => ?_) fun _ => rfl
  have hz := z.isLt
  have hq : 706 * z.val + c.val < 5648 := by have h' : c.val < 706 := h; omega
  refine Eq.trans ?_ (dif_pos hq).symm
  refine congrArg (fun q => x (ix2 r q)) (Fin.ext ?_)
  show z.val * 706 + c.val = 706 * z.val + c.val
  omega

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0)) ∧ r.2.sem = fun _ => 0) :=
  (θ_run defs _ _).mono (fun r h => ⟨fun c => (h c).2, sem_eq_zero_of_no_sems (by decide) r.2⟩) (Value.run (F := Ideal) m ρ)

theorem algebraic : Cert.algebraic_CutIdeal_CutRefIdeal := by
  intro m g m' g' _ hagree
  refine ⟨fun c j => part (Gr m c (j 1)) (j 0) (j 2), ?_, ?_⟩
  · refine (θ_run CutIdeal.defs _ _).mono (fun r h c => ?_) (CutIdeal.Value.run_blocks (F := Ideal) m g)
    exact ⟨(h c).1.trans (final m c), (h c).2⟩
  · refine (θ_run defs _ _).mono (fun r h c => ?_) (Value.run (F := Ideal) m' g')
    refine ⟨((h c).1.trans (val_main_v4_eq ..)).trans (funext fun j => ?_), (h c).2⟩
    have e : (padded fun q => m' (c.tc.loc main_arg0) (ix2 (j 1) q)) = Gr m c (j 1) := by
      unfold padded Gr
      exact funext fun q => dite_congr rfl (fun _ => congrFun (hagree c) (ix2 (j 1) _)) fun _ => rfl
    refine (congrArg _ (eq_ix3 j)).trans ((ref_part _ _ _ _).trans ?_)
    exact congrArg (fun f => part f (j 0) (j 2)) e

end Cert.CutClaim

end
-- ==== Proof.DownKernel.lean ====
/-
  The down-projection of the squared ReLU as the kernel computes it: each point adds to 512 rows of the residual the product of
  as many rows of squares with the matrix.
-/
module

public import proofs.«01_k».proof.Proof.LossKernel
public import proofs.«01_k».proof.Proof.Gen.DownIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DownKernel

open Idealize.ShloMosaic Idealize.ShloMosaic.TcCoe Cert.DownIdeal Cert.DownIdeal.Gen

/-- A row of the residual and the product added to it. -/
def down {κ : Type} (X : κ → Fin 1024 → EReal) (U : κ → Fin 4096 → EReal) (M : Fin 4096 → Fin 1024 → EReal) (r : κ) (c : Fin 1024) : EReal :=
  X r c + ∑ k, max (U r k) 0 * max (U r k) 0 * M k c

theorem pay1 {X : Fin 512 → Fin 1024 → EReal} {U : Fin 512 → Fin 4096 → EReal} {M : Fin 4096 → Fin 1024 → EReal}
    {x : Vec Ideal S512x1024 .f32} {u : Vec Ideal S512x4096 .bf16} {p : Vec Ideal S4096x1024 .bf16} (hx : ∀ r c, x (ix2 r c) = X r c)
    (hu : ∀ r k, u (ix2 r k) = U r k) (hp : ∀ k c, p (ix2 k c) = M k c) (r : Fin 512) (c : Fin 1024) :
    k0_pay1 (F := Ideal) u x p (ix2 r c) = down X U M r c := by
  pointwise [k0_pay1]
  simp only [hx, hu, hp]
  rfl

variable (m : (ℓ : Loc nD τ sig) → Buf (Elt Ideal) ℓ) (dev : Dev nD)

/-- The arguments as functions of the indices. -/
def X (r : Fin 8192) (c : Fin 1024) : EReal := m ((dev : Thread nD τ).loc main_arg0) (ix2 r c)

def U (r : Fin 8192) (k : Fin 4096) : EReal := m ((dev : Thread nD τ).loc main_arg1) (ix2 r k)

def M (k : Fin 4096) (c : Fin 1024) : EReal := m ((dev : Thread nD τ).loc main_arg2) (ix2 k c)

theorem idx : ∀ t : Fin cfg0.N, win0_0.index t = ![t.val, 0] ∧ win0_1.index t = ![0, 0] ∧ win0_2.index t = ![t.val, 0]
    ∧ win0_3.index t = ![t.val, 0] := by
  decide +kernel

theorem row_lt (t : Fin cfg0.N) (a : Fin 512) : t.val * 512 + a.val < 8192 := by
  have ht : t.val < 16 := lt_of_lt_of_eq t.isLt N_0
  omega

/-- The row that point `t` holds as its row `a`. -/
def at_ (t : Fin cfg0.N) (a : Fin 512) : Fin 8192 := ⟨t.val * 512 + a.val, row_lt t a⟩

theorem blk_u (t : Fin cfg0.N) (a : Fin 512) (k : Fin 4096) : iblk m dev 0 t (ix2 a k) = U m dev (at_ t a) k := by
  unfold U at_
  blk_simp [iblk, idx t]
  entry_read
  pointwise
  blk_ext [idx t]

theorem blk_m (t : Fin cfg0.N) (k : Fin 4096) (c : Fin 1024) : iblk m dev 1 t (ix2 k c) = M m dev k c := by
  unfold M
  blk_simp [iblk, idx t]
  entry_read
  pointwise
  blk_ext [idx t]

theorem blk_x (t : Fin cfg0.N) (a : Fin 512) (c : Fin 1024) : iblk m dev 2 t (ix2 a c) = X m dev (at_ t a) c := by
  unfold X at_
  blk_ext [iblk, V, idx t]

theorem out (x : Vec Ideal S512x1024 .f32) (u : Vec Ideal S512x4096 .bf16) (p : Vec Ideal S4096x1024 .bf16) :
    out0_3 (F := Ideal) u p x = k0_pay1 u x p := by
  have ld0 : View.ld u r0_0 = u := by
    refine View.ld_unit_zero ?_ _ _
    funext a; fin_cases a <;> rfl
  have ld1 : View.ld x r0_1 = x := by
    refine View.ld_unit_zero ?_ _ _
    funext a; fin_cases a <;> rfl
  have ld2 : View.ld p r0_2 = p := by
    refine View.ld_unit_zero ?_ _ _
    funext a; fin_cases a <;> rfl
  unfold out0_3
  rw [ld0, ld1, ld2]
  exact View.canon_cons_unit_lit inb_S512x1024_S512x1024_0_0 _ _ (by decide)

theorem final : (dats m 0 dev).arrAt 3 cfg0.N = fun j => down (X m dev) (U m dev) (M m dev) (j 0) (j 1) := by
  refine (dats m 0 dev).arrAt_eq_of_covers 3 _ (by decide +kernel) fun t hf y => ?_
  blk_simp
  rw [after0_3]
  have hy : ((win0_3.blk t).view.emb y) = ix2 (at_ t (y 0)) (y 1) := by
    unfold at_
    blk_ext [idx t]
  rw [hy, out]
  exact (congrArg _ (LossKernel.eq_ix2 y)).trans
    (pay1 (X := fun a => X m dev (at_ t a)) (U := fun a => U m dev (at_ t a)) (blk_x m dev t) (blk_u m dev t) (blk_m m dev t) (y 0) (y 1))

end Cert.DownKernel

end
-- ==== Proof.DownClaim.lean ====
/-
  The claims about the down-projection of the squared ReLU: the frame of the reference, and that the kernel's result is the
  reference's.
-/
module

public import proofs.«01_k».proof.Defs
public import proofs.«01_k».proof.Proof.DownKernel
public import proofs.«01_k».proof.Proof.Gen.DownRefIdeal.Read
public import proofs.«01_k».proof.Proof.Gen.DownRefIdeal.Run
public import Idealize.ShloMosaic.Adequacy
public import Idealize.ShloMosaic.Init

@[expose] public section

noncomputable section

namespace Cert.DownClaim

open Idealize.ShloMosaic Idealize.ShloMosaic.Pointwise Idealize.SL.Sem Cert.DownRefIdeal Cert.DownRefIdeal.Read Cert.DownKernel

theorem ref_down (x : (⟨S8192x1024, .f32⟩ : BufTy).Contents (Elt Ideal)) (u : (⟨S8192x4096, .f32⟩ : BufTy).Contents (Elt Ideal))
    (p : (⟨S4096x1024, .f32⟩ : BufTy).Contents (Elt Ideal)) (r : Fin 8192) (c : Fin 1024) :
    val_main_v3 (F := Ideal) x u p (ix2 r c) = down (fun r c => x (ix2 r c)) (fun r k => u (ix2 r k)) (fun k c => p (ix2 k c)) r c := by
  pointwise [val_main_v3, val_main_v2, val_main_v1, val_main_v0, val_main_call0_v0, val_main_call0_cst]
  rfl

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2)) ∧ r.2.sem = fun _ => 0) :=
  (θ_run defs _ _).mono (fun r h => ⟨fun c => (h c).2, sem_eq_zero_of_no_sems (by decide) r.2⟩) (Value.run (F := Ideal) m ρ)

theorem algebraic : Cert.algebraic_DownIdeal_DownRefIdeal := by
  intro m g m' g' _ hagree
  refine ⟨fun c j => down (X m c) (U m c) (DownKernel.M m c) (j 0) (j 1),
    (θ_run DownIdeal.defs _ _).mono (fun r h c => ⟨(h c).1.trans (final m c), (h c).2⟩) (DownIdeal.Value.run_blocks (F := Ideal) m g),
    (θ_run defs _ _).mono (fun r h c => ⟨?_, (h c).2⟩) (Value.run (F := Ideal) m' g')⟩
  obtain ⟨e0, e1, e2⟩ := hagree c
  have q0 : (fun r k => m' (c.tc.loc main_arg0) (ix2 r k)) = X m c := funext fun r => funext fun k => congrFun e0 (ix2 r k)
  have q1 : (fun r k => m' (c.tc.loc main_arg1) (ix2 r k)) = U m c := funext fun r => funext fun k => congrFun e1 (ix2 r k)
  have q2 : (fun r k => m' (c.tc.loc main_arg2) (ix2 r k)) = DownKernel.M m c := funext fun r => funext fun k => congrFun e2 (ix2 r k)
  refine ((h c).1.trans (val_main_v3_eq ..)).trans (funext fun j => ?_)
  rw [LossKernel.eq_ix2 j]
  exact (ref_down _ _ _ _ _).trans (congrFun (congrFun (congr (congr (congrArg down q0) q1) q2) (j 0)) (j 1))

end Cert.DownClaim

end
-- ==== Proof.DwDownKernel.lean ====
/-
  The down-projection's gradient as the kernel computes it: for every block of 1024 columns of the activations, the products of the
  four blocks of 2048 tokens are added up, one block at a point of the grid, and the sum is written at the last.
-/
module

public import proofs.«01_k».proof.Proof.ActSpec
public import proofs.«01_k».proof.Proof.LossKernel
public import proofs.«01_k».proof.Proof.Gen.DwDownIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwDownKernel

open Idealize.ShloMosaic Idealize.ShloMosaic.TcCoe Cert.DwDownIdeal Cert.DwDownIdeal.Gen Cert.RmsRow Cert.ActSpec

/-- The squared ReLU of `U`, transposed, times `Y`. -/
def dwn {ρ κ γ : Type} [Fintype ρ] (U : ρ → κ → EReal) (Y : ρ → γ → EReal) (k : κ) (c : γ) : EReal :=
  ∑ r, max (U r k) 0 * max (U r k) 0 * Y r c

/-- A block of tokens' share of it. -/
theorem pay1 {U : Fin 2048 → Fin 1024 → EReal} {Y : Fin 2048 → Fin 1024 → EReal} {u y : Vec Ideal S2048x1024 .bf16}
    (hu : ∀ r k, u (ix2 r k) = U r k) (hy : ∀ r c, y (ix2 r c) = Y r c) (k c : Fin 1024) :
    k0_pay1 (F := Ideal) u y (ix2 k c) = dwn U Y k c := by
  pointwise [k0_pay1]
  simp only [hu, hy]
  rfl

section Block

variable {U : Fin 2048 → Fin 1024 → EReal} {Y : Fin 2048 → Fin 1024 → EReal} {u y : Vec Ideal S2048x1024 .bf16}
  (hu : ∀ r k, u (ix2 r k) = U r k) (hy : ∀ r c, y (ix2 r c) = Y r c)

include hu hy

theorem pay2 (k c : Fin 1024) : k0_pay2 (F := Ideal) u y (ix2 k c) = dwn U Y k c := by
  pointwise [k0_pay2]
  exact pay1 hu hy k c

theorem pay3 (v : Vec Ideal S1024x1024 .f32) (k c : Fin 1024) :
    k0_pay3 (F := Ideal) u y v (ix2 k c) = v (ix2 k c) + dwn U Y k c := by
  pointwise [k0_pay3]
  rw [pay1 hu hy]

end Block

/-! ## The grid -/

variable (m : (ℓ : Loc nD τ sig) → Buf (Elt Ideal) ℓ) (dev : Dev nD)

/-- The arguments as functions of the indices. -/
def X (r : Fin 8192) (c : Fin 1024) : EReal := m ((dev : Thread nD τ).loc main_arg0) (ix2 r c)

def W (c : Fin 1024) : EReal := m ((dev : Thread nD τ).loc main_arg1) (ix1 c)

def M (c : Fin 1024) (k : Fin 4096) : EReal := m ((dev : Thread nD τ).loc main_arg2) (ix2 c k)

def Y (r : Fin 8192) (c : Fin 1024) : EReal := m ((dev : Thread nD τ).loc main_arg4) (ix2 r c)

theorem idx : ∀ t : Fin cfg0.N, win0_0.index t = ![t.val % 4, t.val / 4] ∧ win0_1.index t = ![t.val % 4, 0]
    ∧ win0_2.index t = ![t.val / 4, 0] := by
  decide +kernel

theorem row_lt (t : Fin cfg0.N) (a : Fin 2048) : t.val % 4 * 2048 + a.val < 8192 := by omega

theorem col_lt (t : Fin cfg0.N) (k : Fin 1024) : t.val / 4 * 1024 + k.val < 4096 := by
  have ht : t.val < 16 := lt_of_lt_of_eq t.isLt N_0
  omega

/-- The token that point `t` holds as its row `a`. -/
def row_ (t : Fin cfg0.N) (a : Fin 2048) : Fin 8192 := ⟨t.val % 4 * 2048 + a.val, row_lt t a⟩

/-- The column of the activations that point `t` holds as its column `k`. -/
def col_ (t : Fin cfg0.N) (k : Fin 1024) : Fin 4096 := ⟨t.val / 4 * 1024 + k.val, col_lt t k⟩

theorem entry_fac (c : Dev nD) (r : Fin 8192) (k : Fin 4096) : V m c main_v14 (ix2 r k) = up (X m c) (W m c) (M m c) r k := by
  show StableHlo.after hostOps0 _ (Proc.devRef .tc main_v14) (ix2 r k) = _
  unfold X W M
  entry_read
  pointwise
  simp only [word_1024, eps_word, zero_add]
  rfl

theorem blk_u (t : Fin cfg0.N) (a : Fin 2048) (k : Fin 1024) :
    iblk m dev 0 t (ix2 a k) = up (X m dev) (W m dev) (M m dev) (row_ t a) (col_ t k) := by
  have e : (win0_0.blk t).view.emb (ix2 a k) = ix2 (row_ t a) (col_ t k) := by
    unfold row_ col_
    blk_ext [idx t]
  exact (congrArg (V m dev main_v14) e).trans (entry_fac m dev _ _)

theorem blk_y (t : Fin cfg0.N) (a : Fin 2048) (c : Fin 1024) : iblk m dev 1 t (ix2 a c) = Y m dev (row_ t a) c := by
  unfold Y row_
  blk_simp [iblk, idx t]
  entry_read
  pointwise
  blk_ext [idx t]

/-- A point's share. -/
abbrev part (t : Fin cfg0.N) (p : Fin 1024 × Fin 1024) : EReal :=
  dwn (fun a k => up (X m dev) (W m dev) (M m dev) (row_ t a) (col_ t k)) (fun a c => Y m dev (row_ t a) c) p.1 p.2

theorem first (t : Fin cfg0.N) (h : t.val % 4 = 0) (p : Fin 1024 × Fin 1024) :
    (outsAt0 m dev t.val t.isLt).2 (ix2 p.1 p.2) = 0 + part m dev t p := by
  rw [outsAt0_A m dev t h (by omega) (by omega), zero_add]
  frame_out
  exact pay2 (blk_u m dev t) (blk_y m dev t) p.1 p.2

theorem next (t : Fin cfg0.N) (h : ¬t.val % 4 = 0) (p : Fin 1024 × Fin 1024) :
    (outsAt0 m dev t.val t.isLt).2 (ix2 p.1 p.2)
      = (outsAt0 m dev (t.val - 1) (Nat.lt_of_le_of_lt (Nat.sub_le _ _) t.isLt)).2 (ix2 p.1 p.2) + part m dev t p := by
  by_cases h3 : t.val % 4 = 3
  · rw [outsAt0_C m dev t h (by omega) h3]
    frame_out
    rw [pay3 (blk_u m dev t) (blk_y m dev t)]
    erw [(Memref.isWhole_whole cc0_scratch0).read_unread]
  · rw [outsAt0_B m dev t h (by omega) h3]
    frame_out
    rw [pay3 (blk_u m dev t) (blk_y m dev t)]
    erw [(Memref.isWhole_whole cc0_scratch0).read_unread]

/-- At the last block of tokens the sum is complete. -/
theorem sum (t : Fin cfg0.N) (h : t.val % 4 = 3) (p : Fin 1024 × Fin 1024) :
    (outsAt0 m dev t.val t.isLt).2 (ix2 p.1 p.2)
      = dwn (up (X m dev) (W m dev) (M m dev)) (Y m dev) (col_ t p.1) p.2 := by
  rw [Pipeline.eq_sum_fin_of_reset_step_apply_of_flush (ι := Fin 1024 × Fin 1024) (fun n h p => (outsAt0 m dev n h).2 (ix2 p.1 p.2)) 4
    (fun _ => 0) (part m dev) (first m dev) (next m dev) t h p, zero_add]
  refine Eq.trans (Finset.sum_congr rfl fun s _ => ?_) (Fin.sum_mul_add_fin 4 2048 fun r =>
    max (up (X m dev) (W m dev) (M m dev) r (col_ t p.1)) 0 * max (up (X m dev) (W m dev) (M m dev) r (col_ t p.1)) 0 * Y m dev r p.2)
  have hr (q : Fin cfg0.N) (hq : q.val = 4 * (t.val / 4) + s.val) (a : Fin 2048) : row_ q a = ⟨s.val * 2048 + a.val, by omega⟩ :=
    Fin.ext (by unfold row_; show q.val % 4 * 2048 + a.val = s.val * 2048 + a.val; omega)
  have hc (q : Fin cfg0.N) (hq : q.val = 4 * (t.val / 4) + s.val) : col_ q p.1 = col_ t p.1 :=
    Fin.ext (by unfold col_; show q.val / 4 * 1024 + p.1.val = t.val / 4 * 1024 + p.1.val; omega)
  refine Finset.sum_congr rfl fun a _ => ?_
  beta_reduce
  rw [hr _ rfl, hc _ rfl]

theorem written (t : Fin cfg0.N) (h : t.val % 4 = 3) (j : S1024x1024.Idx) :
    (outsAt0 m dev t.val t.isLt).1 j = (outsAt0 m dev t.val t.isLt).2 j := by
  rw [outsAt0_C m dev t (by omega) (by omega) h]
  frame_out
  rfl

theorem final : (dats m 0 dev).arrAt 2 cfg0.N
    = fun j => dwn (up (X m dev) (W m dev) (M m dev)) (Y m dev) (j 0) (j 1) := by
  refine (dats m 0 dev).arrAt_eq_of_covers 2 _ (by decide +kernel) fun t hf y => ?_
  have h3 : t.val % 4 = 3 := (flush0_2 t).mp hf
  blk_simp
  rw [after0_2]
  have hy : ((win0_2.blk t).view.emb y) = ix2 (col_ t (y 0)) (y 1) := by
    unfold col_
    blk_ext [idx t]
  rw [hy, written m dev t h3]
  exact (congrArg _ (LossKernel.eq_ix2 y)).trans (sum m dev t h3 (y 0, y 1))

end Cert.DwDownKernel

end
-- ==== Proof.DwDownClaim.lean ====
/-
  The claims about the down-projection's gradient: the frame of the reference, and that the kernel's result is the reference's.
-/
module

public import proofs.«01_k».proof.Defs
public import proofs.«01_k».proof.Proof.DwDownKernel
public import proofs.«01_k».proof.Proof.Gen.DwDownRefIdeal.Read
public import proofs.«01_k».proof.Proof.Gen.DwDownRefIdeal.Run
public import Idealize.ShloMosaic.Adequacy
public import Idealize.ShloMosaic.Init

@[expose] public section

noncomputable section

namespace Cert.DwDownClaim

open Idealize.ShloMosaic Idealize.ShloMosaic.Pointwise Idealize.SL.Sem Cert.DwDownRefIdeal Cert.DwDownRefIdeal.Read Cert.RmsRow Cert.ActSpec
open Cert.DwDownKernel (dwn)

section Reference

variable (x : (⟨S8192x1024, .f32⟩ : BufTy).Contents (Elt Ideal)) (w : (⟨S1024, .f32⟩ : BufTy).Contents (Elt Ideal))
  (p : (⟨S1024x4096, .f32⟩ : BufTy).Contents (Elt Ideal)) (y : (⟨S8192x1024, .f32⟩ : BufTy).Contents (Elt Ideal))

theorem ref_norm (r : Fin 8192) (c : Fin 1024) :
    val_main_v12 (F := Ideal) x w (ix2 r c) = row (fun r c => x (ix2 r c)) (fun c => w (ix1 c)) r c := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  simp only [word_1024, eps_word, zero_add]
  rfl

theorem ref_act (r : Fin 8192) (k : Fin 4096) : val_main_v14 (F := Ideal) x w p (ix2 r k)
    = max (up (fun r c => x (ix2 r c)) (fun c => w (ix1 c)) (fun c k => p (ix2 c k)) r k) 0 := by
  pointwise [val_main_v14, val_main_v13, val_main_call0_v0, val_main_call0_cst]
  simp only [ref_norm]
  rfl

/-- The reference multiplies by the cotangent from the left. -/
theorem ref_dwn (k : Fin 4096) (c : Fin 1024) : val_main_v19 (F := Ideal) x w p y (ix2 k c)
    = dwn (up (fun r c => x (ix2 r c)) (fun c => w (ix1 c)) (fun c k => p (ix2 c k))) (fun r c => y (ix2 r c)) k c := by
  pointwise [val_main_v19, val_main_v18, val_main_v17, val_main_v15]
  simp only [ref_act]
  exact Finset.sum_congr rfl fun r _ => mul_comm _ _

end Reference

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) ∧ r.2.sem = fun _ => 0) :=
  (θ_run defs _ _).mono (fun r h => ⟨fun c => (h c).2, sem_eq_zero_of_no_sems (by decide) r.2⟩) (Value.run (F := Ideal) m ρ)

theorem algebraic : Cert.algebraic_DwDownIdeal_DwDownRefIdeal := by
  intro m g m' g' _ hagree
  refine ⟨fun c j => dwn (up (DwDownKernel.X m c) (DwDownKernel.W m c) (DwDownKernel.M m c)) (DwDownKernel.Y m c) (j 0) (j 1),
    (θ_run DwDownIdeal.defs _ _).mono (fun r h c => ⟨(h c).1.trans (DwDownKernel.final m c), (h c).2⟩)
      (DwDownIdeal.Value.run_blocks (F := Ideal) m g),
    (θ_run defs _ _).mono (fun r h c => ⟨?_, (h c).2⟩) (Value.run (F := Ideal) m' g')⟩
  obtain ⟨e0, e1, e2, _, e4⟩ := hagree c
  have q0 : (fun r k => m' (c.tc.loc main_arg0) (ix2 r k)) = DwDownKernel.X m c := funext fun r => funext fun k => congrFun e0 (ix2 r k)
  have q1 : (fun k => m' (c.tc.loc main_arg1) (ix1 k)) = DwDownKernel.W m c := funext fun k => congrFun e1 (ix1 k)
  have q2 : (fun r k => m' (c.tc.loc main_arg2) (ix2 r k)) = DwDownKernel.M m c := funext fun r => funext fun k => congrFun e2 (ix2 r k)
  have q4 : (fun r k => m' (c.tc.loc main_arg4) (ix2 r k)) = DwDownKernel.Y m c := funext fun r => funext fun k => congrFun e4 (ix2 r k)
  refine ((h c).1.trans (val_main_v19_eq ..)).trans (funext fun j => ?_)
  rw [LossKernel.eq_ix2 j]
  exact (ref_dwn _ _ _ _ _ _).trans
    (congrFun (congrFun (congr (congrArg dwn (congr (congr (congrArg up q0) q1) q2)) q4) (j 0)) (j 1))

end Cert.DwDownClaim

end
-- ==== Proof.DwInKernel.lean ====
/-
  The input projection's gradient as the kernel computes it: for every block of 1152 of the widened columns the products of the two
  blocks of 4096 tokens are added up, and the sum is written at the second. The columns of zeros come out as zeros.
-/
module

public import proofs.«01_k».proof.Proof.ActSpec
public import proofs.«01_k».proof.Proof.LossKernel
public import proofs.«01_k».proof.Proof.Gen.DwInIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DwInKernel

open Idealize.ShloMosaic Idealize.ShloMosaic.TcCoe Cert.DwInIdeal Cert.DwInIdeal.Gen Cert.RmsRow Cert.ActSpec

/-- The product with the transposed `H`. -/
def tn {ρ κ γ : Type} [Fintype ρ] (H : ρ → κ → EReal) (Y : ρ → γ → EReal) (k : κ) (c : γ) : EReal := ∑ r, H r k * Y r c

/-- A row widened by zeros. -/
def wide (f : Fin 5648 → EReal) (k : Fin 5760) : EReal := if h : k.val < 5648 then f ⟨k.val, h⟩ else 0

section Block

variable {H : Fin 4096 → Fin 1024 → EReal} {Y : Fin 4096 → Fin 1152 → EReal} {u : Vec Ideal S4096x1024 .bf16} {y : Vec Ideal S4096x1152 .bf16}
  (hu : ∀ r k, u (ix2 r k) = H r k) (hy : ∀ r c, y (ix2 r c) = Y r c)

include hu hy

/-- A block of tokens' share of it. -/
theorem pay1 (k : Fin 1024) (c : Fin 1152) : k0_pay1 (F := Ideal) u y (ix2 k c) = tn H Y k c := by
  pointwise [k0_pay1]
  simp only [hu, hy]
  rfl

theorem pay2 (k : Fin 1024) (c : Fin 1152) : k0_pay2 (F := Ideal) u y (ix2 k c) = tn H Y k c := by
  pointwise [k0_pay2]
  exact pay1 hu hy k c

theorem pay3 (v : Vec Ideal S1024x1152 .f32) (k : Fin 1024) (c : Fin 1152) :
    k0_pay3 (F := Ideal) u y v (ix2 k c) = v (ix2 k c) + tn H Y k c := by
  pointwise [k0_pay3]
  rw [pay1 hu hy]

end Block

/-! ## The grid -/

variable (m : (ℓ : Loc nD τ sig) → Buf (Elt Ideal) ℓ) (dev : Dev nD)

/-- The arguments as functions of the indices. -/
def X (r : Fin 8192) (c : Fin 1024) : EReal := m ((dev : Thread nD τ).loc main_arg0) (ix2 r c)

def W (c : Fin 1024) : EReal := m ((dev : Thread nD τ).loc main_arg1) (ix1 c)

def Y (r : Fin 8192) (k : Fin 5648) : EReal := m ((dev : Thread nD τ).loc main_arg3) (ix2 r k)

theorem idx : ∀ t : Fin cfg0.N, win0_0.index t = ![t.val % 2, 0] ∧ win0_1.index t = ![t.val % 2, t.val / 2]
    ∧ win0_2.index t = ![0, t.val / 2] := by
  decide +kernel

theorem row_lt (t : Fin cfg0.N) (a : Fin 4096) : t.val % 2 * 4096 + a.val < 8192 := by omega

theorem col_lt (t : Fin cfg0.N) (k : Fin 1152) : t.val / 2 * 1152 + k.val < 5760 := by
  have ht : t.val < 10 := lt_of_lt_of_eq t.isLt N_0
  omega

/-- The token that point `t` holds as its row `a`. -/
def row_ (t : Fin cfg0.N) (a : Fin 4096) : Fin 8192 := ⟨t.val % 2 * 4096 + a.val, row_lt t a⟩

/-- The widened column that point `t` holds as its column `k`. -/
def col_ (t : Fin cfg0.N) (k : Fin 1152) : Fin 5760 := ⟨t.val / 2 * 1152 + k.val, col_lt t k⟩

theorem entry_h (c : Dev nD) (r : Fin 8192) (k : Fin 1024) : V m c main_v13 (ix2 r k) = row (X m c) (W m c) r k := by
  show StableHlo.after hostOps0 _ (Proc.devRef .tc main_v13) (ix2 r k) = _
  unfold X W
  entry_read
  pointwise
  simp only [word_1024, eps_word, zero_add]
  rfl

theorem entry_y (c : Dev nD) (r : Fin 8192) (k : Fin 5760) : V m c main_v15 (ix2 r k) = wide (Y m c r) k := by
  show StableHlo.after hostOps0 _ (Proc.devRef .tc main_v15) (ix2 r k) = _
  unfold Y wide
  entry_read
  pointwise

theorem blk_h (t : Fin cfg0.N) (a : Fin 4096) (k : Fin 1024) : iblk m dev 0 t (ix2 a k) = row (X m dev) (W m dev) (row_ t a) k := by
  have e : (win0_0.blk t).view.emb (ix2 a k) = ix2 (row_ t a) k := by
    unfold row_
    blk_ext [idx t]
  exact (congrArg (V m dev main_v13) e).trans (entry_h m dev _ _)

theorem blk_y (t : Fin cfg0.N) (a : Fin 4096) (c : Fin 1152) : iblk m dev 1 t (ix2 a c) = wide (Y m dev (row_ t a)) (col_ t c) := by
  have e : (win0_1.blk t).view.emb (ix2 a c) = ix2 (row_ t a) (col_ t c) := by
    unfold row_ col_
    blk_ext [idx t]
  exact (congrArg (V m dev main_v15) e).trans (entry_y m dev _ _)

/-- A point's share. -/
abbrev part (t : Fin cfg0.N) (p : Fin 1024 × Fin 1152) : EReal :=
  tn (fun a => row (X m dev) (W m dev) (row_ t a)) (fun a c => wide (Y m dev (row_ t a)) (col_ t c)) p.1 p.2

theorem first (t : Fin cfg0.N) (h : t.val % 2 = 0) (p : Fin 1024 × Fin 1152) :
    (outsAt0 m dev t.val t.isLt).2 (ix2 p.1 p.2) = 0 + part m dev t p := by
  rw [outsAt0_A m dev t h (by omega) (by omega), zero_add]
  frame_out
  exact pay2 (blk_h m dev t) (blk_y m dev t) p.1 p.2

theorem next (t : Fin cfg0.N) (h : ¬t.val % 2 = 0) (p : Fin 1024 × Fin 1152) :
    (outsAt0 m dev t.val t.isLt).2 (ix2 p.1 p.2)
      = (outsAt0 m dev (t.val - 1) (Nat.lt_of_le_of_lt (Nat.sub_le _ _) t.isLt)).2 (ix2 p.1 p.2) + part m dev t p := by
  rw [outsAt0_B m dev t h (by omega) (by omega)]
  frame_out
  rw [pay3 (blk_h m dev t) (blk_y m dev t)]
  erw [(Memref.isWhole_whole cc0_scratch0).read_unread]

/-- At the second block of tokens the sum is complete. -/
theorem sum (t : Fin cfg0.N) (h : t.val % 2 = 1) (p : Fin 1024 × Fin 1152) :
    (outsAt0 m dev t.val t.isLt).2 (ix2 p.1 p.2)
      = tn (row (X m dev) (W m dev)) (fun r => wide (Y m dev r)) p.1 (col_ t p.2) := by
  rw [Pipeline.eq_sum_fin_of_reset_step_apply_of_flush (ι := Fin 1024 × Fin 1152) (fun n h p => (outsAt0 m dev n h).2 (ix2 p.1 p.2)) 2
    (fun _ => 0) (part m dev) (first m dev) (next m dev) t h p, zero_add]
  refine Eq.trans (Finset.sum_congr rfl fun s _ => ?_) (Fin.sum_mul_add_fin 2 4096 fun r =>
    row (X m dev) (W m dev) r p.1 * wide (Y m dev r) (col_ t p.2))
  have hr (q : Fin cfg0.N) (hq : q.val = 2 * (t.val / 2) + s.val) (a : Fin 4096) : row_ q a = ⟨s.val * 4096 + a.val, by omega⟩ :=
    Fin.ext (by unfold row_; show q.val % 2 * 4096 + a.val = s.val * 4096 + a.val; omega)
  have hc (q : Fin cfg0.N) (hq : q.val = 2 * (t.val / 2) + s.val) : col_ q p.2 = col_ t p.2 :=
    Fin.ext (by unfold col_; show q.val / 2 * 1152 + p.2.val = t.val / 2 * 1152 + p.2.val; omega)
  refine Finset.sum_congr rfl fun a _ => ?_
  beta_reduce
  rw [hr _ rfl, hc _ rfl]

theorem written (t : Fin cfg0.N) (h : t.val % 2 = 1) (j : S1024x1152.Idx) :
    (outsAt0 m dev t.val t.isLt).1 j = (outsAt0 m dev t.val t.isLt).2 j := by
  rw [outsAt0_B m dev t (by omega) h h]
  frame_out
  rfl

theorem final : (dats m 0 dev).arrAt 2 cfg0.N
    = fun j => tn (row (X m dev) (W m dev)) (fun r => wide (Y m dev r)) (j 0) (j 1) := by
  refine (dats m 0 dev).arrAt_eq_of_covers 2 _ (by decide +kernel) fun t hf y => ?_
  have h1 : t.val % 2 = 1 := (flush0_2 t).mp hf
  blk_simp
  rw [after0_2]
  have hy : ((win0_2.blk t).view.emb y) = ix2 (y 0) (col_ t (y 1)) := by
    unfold col_
    blk_ext [idx t]
  rw [hy, written m dev t h1]
  exact (congrArg _ (LossKernel.eq_ix2 y)).trans (sum m dev t h1 (y 0, y 1))

end Cert.DwInKernel

end
-- ==== Proof.DwInClaim.lean ====
/-
  The claims about the input projection's gradient: the frame of the reference, and that the kernel's result is the reference's.
-/
module

public import proofs.«01_k».proof.Defs
public import proofs.«01_k».proof.Proof.DwInKernel
public import proofs.«01_k».proof.Proof.Gen.DwInRefIdeal.Read
public import proofs.«01_k».proof.Proof.Gen.DwInRefIdeal.Run
public import Idealize.ShloMosaic.Adequacy
public import Idealize.ShloMosaic.Init

@[expose] public section

noncomputable section

namespace Cert.DwInClaim

open Idealize.ShloMosaic Idealize.ShloMosaic.Pointwise Idealize.SL.Sem Cert.DwInRefIdeal Cert.DwInRefIdeal.Read Cert.RmsRow Cert.ActSpec
open Cert.DwInKernel (tn wide)

section Reference

variable (x : (⟨S8192x1024, .f32⟩ : BufTy).Contents (Elt Ideal)) (w : (⟨S1024, .f32⟩ : BufTy).Contents (Elt Ideal))
  (y : (⟨S8192x5648, .f32⟩ : BufTy).Contents (Elt Ideal))

theorem ref_norm (r : Fin 8192) (c : Fin 1024) :
    val_main_v12 (F := Ideal) x w (ix2 r c) = row (fun r c => x (ix2 r c)) (fun c => w (ix1 c)) r c := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  simp only [word_1024, eps_word, zero_add]
  rfl

/-- The reference multiplies by the cotangent from the left, and the columns it adds are zeros. -/
theorem ref_tn (k : Fin 1024) (c : Fin 5760) : val_main_v18 (F := Ideal) x w y (ix2 k c)
    = tn (row (fun r c => x (ix2 r c)) (fun c => w (ix1 c))) (fun r => wide (fun c => y (ix2 r c))) k c := by
  unfold tn wide
  pointwise [val_main_v18, val_main_v17, val_main_v16, val_main_v15, val_main_v14, val_main_cst_2]
  by_cases h : c.val < 5648
  · simp only [dif_pos h, ref_norm]
    exact Finset.sum_congr rfl fun r _ => mul_comm _ _
  · simp only [dif_neg h, mul_zero, Finset.sum_const_zero]

end Reference

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)) ∧ r.2.sem = fun _ => 0) :=
  (θ_run defs _ _).mono (fun r h => ⟨fun c => (h c).2, sem_eq_zero_of_no_sems (by decide) r.2⟩) (Value.run (F := Ideal) m ρ)

theorem algebraic : Cert.algebraic_DwInIdeal_DwInRefIdeal := by
  intro m g m' g' _ hagree
  refine ⟨fun c j => tn (row (DwInKernel.X m c) (DwInKernel.W m c)) (fun r => wide (DwInKernel.Y m c r)) (j 0) (j 1),
    (θ_run DwInIdeal.defs _ _).mono (fun r h c => ⟨(h c).1.trans (DwInKernel.final m c), (h c).2⟩)
      (DwInIdeal.Value.run_blocks (F := Ideal) m g),
    (θ_run defs _ _).mono (fun r h c => ⟨?_, (h c).2⟩) (Value.run (F := Ideal) m' g')⟩
  obtain ⟨e0, e1, _, e3⟩ := hagree c
  have q0 : (fun r k => m' (c.tc.loc main_arg0) (ix2 r k)) = DwInKernel.X m c := funext fun r => funext fun k => congrFun e0 (ix2 r k)
  have q1 : (fun k => m' (c.tc.loc main_arg1) (ix1 k)) = DwInKernel.W m c := funext fun k => congrFun e1 (ix1 k)
  have q3 : (fun r k => m' (c.tc.loc main_arg3) (ix2 r k)) = DwInKernel.Y m c := funext fun r => funext fun k => congrFun e3 (ix2 r k)
  refine ((h c).1.trans (val_main_v18_eq ..)).trans (funext fun j => ?_)
  rw [LossKernel.eq_ix2 j]
  exact (ref_tn _ _ _ _ _).trans (congrFun (congrFun (congr (congrArg tn (congr (congrArg row q0) q1))
    (congrArg (fun (y : Fin 8192 → Fin 5648 → EReal) r => wide (y r)) q3)) (j 0)) (j 1))

end Cert.DwInClaim

end
-- ==== Proof.Finite.lean ====
/-
  What the finiteness precondition says of an array: its entries are real numbers.
-/
module

public import proofs.«01_k».proof.Proof.RmsRow
public import Idealize.ShloMosaic.Lib.Pointwise

@[expose] public section

noncomputable section

namespace Cert.Finite

open Idealize.ShloMosaic

/-- Where the comparison of `|x|` with infinity says yes, `x` is real. -/
theorem entry {s : Shape} {x : FVec Ideal s .f32} {hb : (⟨0, ![]⟩ : Shape).BroadcastsInDim s (![] : Fin 0 → Fin s.rank)}
    (h : cmpf .olt (Host.absf x) (broadcastInDim s ![] hb (constant ⟨0, ![]⟩ .f32 0x7F800000#32)) = fun _ => 1#1) (j : s.Idx) :
    ∃ r : ℝ, x j = (r : EReal) := by
  have h1 : Ideal.cmp .olt (max (x j) (-(x j))) (Ideal.ofBits .f32 0x7F800000#32) = 1#1 := congrFun h j
  have top : Ideal.ofBits .f32 0x7F800000#32 = ⊤ := by simp [Ideal.ofBits, Ideal.ieee]
  rw [top] at h1
  refine RmsRow.real_of_abs_lt_top (a := x j) ?_
  by_contra hlt
  simp [Ideal.cmp, hlt] at h1

/-- An array of real entries is its real parts. -/
theorem coe_toReal {s : Shape} {x : FVec Ideal s .f32} (h : ∀ j, ∃ r : ℝ, x j = (r : EReal)) (j : s.Idx) :
    x j = ((EReal.toReal (x j) : ℝ) : EReal) := by
  obtain ⟨r, hr⟩ := h j
  rw [hr, EReal.toReal_coe]

end Cert.Finite

end
-- ==== Proof.NormSpec.lean ====
/-
  What the two calls that fuse a product with a norm's gradient compute: the residual's cotangent plus the
  norm's gradient at the product, and the weight's derivative.
-/
module

public import proofs.«01_k».proof.Proof.RmsRow

@[expose] public section

noncomputable section

namespace Cert.NormSpec

open Cert.RmsRow

variable {ι κ : Type} [Fintype ι] [Fintype κ] (X : κ → Fin 1024 → ℝ) (R : κ → Fin 1024 → EReal) (W : Fin 1024 → ℝ) (M : Fin 1024 → ι → ℝ) (U : κ → ι → ℝ)

/-- The cotangent of the norm's result: the cotangent `U` of the product, times the matrix `M` transposed. -/
def dh (r : κ) (c : Fin 1024) : ℝ := ∑ k, U r k * M c k

/-- The derivative by the activations, the residual's cotangent `R` added. -/
def dx (r : κ) (c : Fin 1024) : EReal := R r c + ((normGrad 1024 (X r) (fun k => dh M U r k * W k) c : ℝ) : EReal)

/-- The derivative by the norm's weight. -/
def dw (c : Fin 1024) : ℝ := ∑ r, dh M U r c * (X r c * inv 1024 (X r))

end Cert.NormSpec

end
-- ==== Proof.InDxRef.lean ====
/-
  The first norm's gradient through the input projection, as the reference differentiates it, read at an index.
-/
module

public import proofs.«01_k».proof.Proof.NormSpec
public import proofs.«01_k».proof.Proof.Gen.InDxRefIdeal.Read
public import Idealize.ShloMosaic.Lib.Pointwise

@[expose] public section

set_option maxRecDepth 16384

noncomputable section

namespace Cert.InDxRef

open Idealize.ShloMosaic Idealize.ShloMosaic.Pointwise Cert.InDxRefIdeal Cert.InDxRefIdeal.Read Cert.RmsRow Cert.NormSpec

variable {X : Fin 8192 → Fin 1024 → ℝ} {R : Fin 8192 → Fin 1024 → EReal} {W : Fin 1024 → ℝ} {M : Fin 1024 → Fin 5648 → ℝ} {U : Fin 8192 → Fin 5648 → ℝ}
  {x s : (⟨S8192x1024, .f32⟩ : BufTy).Contents (Elt Ideal)} {w : (⟨S1024, .f32⟩ : BufTy).Contents (Elt Ideal)}
  {p : (⟨S1024x5648, .f32⟩ : BufTy).Contents (Elt Ideal)} {u : (⟨S8192x5648, .f32⟩ : BufTy).Contents (Elt Ideal)}

theorem v6 (hx : ∀ r c, x (ix2 r c) = (X r c : EReal)) (r : Fin 8192) (z : Fin 1) :
    val_main_v6 (F := Ideal) x (ix2 r z) = ((under 1024 (X r) : ℝ) : EReal) := by
  pointwise [val_main_v6, val_main_v5, val_main_v4, val_main_v3, val_main_v2, val_main_v1, val_main_v0,
    val_main_cst, val_main_cst_0, val_main_cst_1]
  simp only [hx, word_1024, eps_word, zero_add]
  exact under_eq (by norm_num) (X r)

theorem v7 (hx : ∀ r c, x (ix2 r c) = (X r c : EReal)) (r : Fin 8192) (z : Fin 1) :
    val_main_v7 (F := Ideal) x (ix2 r z) = ((inv 1024 (X r) : ℝ) : EReal) := by
  pointwise [val_main_v7]
  rw [v6 hx]
  exact rsqrt_under (by norm_num) (X r)

theorem v10 (hx : ∀ r c, x (ix2 r c) = (X r c : EReal)) (r : Fin 8192) (z : Fin 1) :
    val_main_v10 (F := Ideal) x (ix2 r z)
      = ((-(1 / 2) : ℝ) : EReal) * Ideal.div ((inv 1024 (X r) : ℝ) : EReal) ((under 1024 (X r) : ℝ) : EReal) := by
  pointwise [val_main_v10, val_main_v9, val_main_v8, val_main_cst_2]
  rw [v6 hx, v7 hx, word_neg_half]

/-- The product's cotangent brought back. -/
theorem v17 (hp : ∀ c k, p (ix2 c k) = (M c k : EReal)) (hu : ∀ r k, u (ix2 r k) = (U r k : EReal)) (r : Fin 8192) (c : Fin 1024) :
    val_main_v17 (F := Ideal) p u (ix2 r c) = ((dh M U r c : ℝ) : EReal) := by
  pointwise [val_main_v17]
  simp only [hp, hu, ← EReal.coe_mul, ← coe_sum]
  rfl

theorem v22 (hw : ∀ c, w (ix1 c) = (W c : EReal)) (hp : ∀ c k, p (ix2 c k) = (M c k : EReal))
    (hu : ∀ r k, u (ix2 r k) = (U r k : EReal)) (r : Fin 8192) (c : Fin 1024) :
    val_main_v22 (F := Ideal) w p u (ix2 r c) = ((dh M U r c * W c : ℝ) : EReal) := by
  pointwise [val_main_v22, val_main_v21, val_main_v13]
  rw [v17 hp hu, hw, ← EReal.coe_mul]

/-- The share of an entry in the derivative of the row's factor. -/
theorem v34 (hx : ∀ r c, x (ix2 r c) = (X r c : EReal)) (hw : ∀ c, w (ix1 c) = (W c : EReal))
    (hp : ∀ c k, p (ix2 c k) = (M c k : EReal)) (hu : ∀ r k, u (ix2 r k) = (U r k : EReal)) (r : Fin 8192) (c : Fin 1024) :
    val_main_v34 (F := Ideal) x w p u (ix2 r c) = ((rootShare 1024 (X r) (fun k => dh M U r k * W k) : ℝ) : EReal) := by
  pointwise [val_main_v34, val_main_v33, val_main_v32, val_main_v31, val_main_v30, val_main_v26, val_main_v25,
    val_main_v24, val_main_cst_5, val_main_cst_6, val_main_cst_7]
  simp only [Fin.sum_univ_one, hx, v22 hw hp hu, v10 hx, word_1024]
  exact rootShare_eq (show (0 : ℝ) < 1024 by norm_num) (X r) fun k => dh M U r k * W k

/-- The derivative by the activations. -/
theorem v38 (hx : ∀ r c, x (ix2 r c) = (X r c : EReal)) (hw : ∀ c, w (ix1 c) = (W c : EReal))
    (hp : ∀ c k, p (ix2 c k) = (M c k : EReal)) (hu : ∀ r k, u (ix2 r k) = (U r k : EReal))
    (hs : ∀ r c, s (ix2 r c) = R r c) (r : Fin 8192) (c : Fin 1024) :
    val_main_v38 (F := Ideal) x w p u s (ix2 r c) = dx X R W M U r c := by
  pointwise [val_main_v38, val_main_v37, val_main_v36, val_main_v35, val_main_v29, val_main_v28, val_main_v27]
  rw [hx, hs, v22 hw hp hu, v34 hx hw hp hu, v7 hx, add_assoc, add_assoc, ← add_assoc (_ * _),
    normGrad_vjp (show (0 : ℝ) < 1024 by norm_num) (X r) (fun k => dh M U r k * W k) c]
  rfl

theorem v39 (hx : ∀ r c, x (ix2 r c) = (X r c : EReal)) (hw : ∀ c, w (ix1 c) = (W c : EReal))
    (hp : ∀ c k, p (ix2 c k) = (M c k : EReal)) (hu : ∀ r k, u (ix2 r k) = (U r k : EReal))
    (hs : ∀ r c, s (ix2 r c) = R r c) (r : Fin 8192) (c : Fin 1024) :
    val_main_v39 (F := Ideal) x w p u s (ix2 r c) = dx X R W M U r c := by
  pointwise [val_main_v39]
  exact v38 hx hw hp hu hs r c

/-- The derivative by the weight, above seven rows of zeros. -/
theorem v42 (hx : ∀ r c, x (ix2 r c) = (X r c : EReal)) (hp : ∀ c k, p (ix2 c k) = (M c k : EReal))
    (hu : ∀ r k, u (ix2 r k) = (U r k : EReal)) (a : Fin 8) (c : Fin 1024) :
    val_main_v42 (F := Ideal) x p u (ix2 a c) = if a.val = 0 then ((dw X M U c : ℝ) : EReal) else 0 := by
  pointwise [val_main_v42, val_main_v41, val_main_v40, val_main_v23, val_main_v20, val_main_v19, val_main_v18, val_main_v12,
    val_main_v11, val_main_cst_3, val_main_cst_4, val_main_cst_8]
  simp only [Fin.sum_univ_one, hx, v7 hx, v17 hp hu, ← EReal.coe_mul, ← coe_sum]
  have hs : (∑ r, X r c * inv 1024 (X r) * dh M U r c) = dw X M U c := Finset.sum_congr rfl fun r _ => mul_comm _ _
  rw [hs]
  by_cases h : a.val = 0
  · rw [if_pos h, dif_pos (by omega)]
  · rw [if_neg h, dif_neg (by omega)]

end Cert.InDxRef

end
-- ==== Proof.InDxKernel.lean ====
/-
  The first norm's gradient through the input projection, as the kernel computes it: the rows of cotangents and the matrix
  are widened by columns of zeros, which add nothing to the products.
-/
module

public import proofs.«01_k».proof.Proof.NormSpec
public import proofs.«01_k».proof.Proof.RowStore
public import proofs.«01_k».proof.Proof.LossKernel
public import proofs.«01_k».proof.Proof.Gen.InDxIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InDxKernel

open Idealize.ShloMosaic Idealize.ShloMosaic.TcCoe Cert.InDxIdeal Cert.InDxIdeal.Gen Cert.RmsRow Cert.NormSpec

/-- A row widened by zeros. -/
def wide (f : Fin 5648 → ℝ) (k : Fin 5760) : ℝ := if h : k.val < 5648 then f ⟨k.val, h⟩ else 0

theorem wide_of_lt (f : Fin 5648 → ℝ) (k : Fin 5760) (h : k.val < 5648) : wide f k = f ⟨k.val, h⟩ := dif_pos h

theorem wide_of_not_lt (f : Fin 5648 → ℝ) (k : Fin 5760) (h : ¬ k.val < 5648) : wide f k = 0 := dif_neg h

theorem sum_wide (f g : Fin 5648 → ℝ) : ∑ k, wide f k * wide g k = ∑ k, f k * g k := by
  have h := Fin.sum_univ_add (a := 5648) (b := 112) fun k => wide f k * wide g k
  refine h.trans ?_
  have hr : ∑ i : Fin 112, wide f (Fin.natAdd 5648 i) * wide g (Fin.natAdd 5648 i) = 0 := Finset.sum_eq_zero fun i _ => by
    have hi : ¬ (Fin.natAdd 5648 i).val < 5648 := by simp
    simp only [wide, dif_neg hi, mul_zero]
  rw [hr, add_zero]
  refine Finset.sum_congr rfl fun i _ => ?_
  have hi : (Fin.castAdd 112 i).val < 5648 := i.isLt
  simp only [wide, dif_pos hi]
  rfl

/-! ## One block of rows -/

section Block

variable {B : Fin 512 → Fin 1024 → ℝ} {Q : Fin 512 → Fin 1024 → EReal} {W : Fin 1024 → ℝ} {M : Fin 1024 → Fin 5648 → ℝ} {U : Fin 512 → Fin 5648 → ℝ}
  {x s : Vec Ideal S512x1024 .f32} {w : Vec Ideal S1x1024 .f32} {u : Vec Ideal S512x5760 .bf16} {p : Vec Ideal S1024x5760 .bf16}

theorem pay4 (hu : ∀ r k, u (ix2 r k) = (wide (U r) k : EReal)) (hp : ∀ c k, p (ix2 c k) = (wide (M c) k : EReal)) (r : Fin 512)
    (c : Fin 1024) : k0_pay4 (F := Ideal) u p (ix2 r c) = ((dh M U r c : ℝ) : EReal) := by
  pointwise [k0_pay4]
  simp only [hu, hp, ← EReal.coe_mul, ← coe_sum, sum_wide]
  rfl

theorem pay5 (hx : ∀ r c, x (ix2 r c) = (B r c : EReal)) (r : Fin 512) (z : Fin 1) :
    k0_pay5 (F := Ideal) x (ix2 r z) = ((inv 1024 (B r) : ℝ) : EReal) := by
  pointwise [k0_pay5]
  simp only [hx, word_1024, eps_word]
  rw [under_eq (by norm_num) (B r)]
  exact rsqrt_under (by norm_num) (B r)

theorem pay6 (hx : ∀ r c, x (ix2 r c) = (B r c : EReal)) (r : Fin 512) (c : Fin 1024) :
    k0_pay6 (F := Ideal) x (ix2 r c) = ((B r c * inv 1024 (B r) : ℝ) : EReal) := by
  pointwise [k0_pay6]
  rw [pay5 hx, hx, ← EReal.coe_mul]

/-- A block's share of the weight's derivative. -/
theorem pay7 (hx : ∀ r c, x (ix2 r c) = (B r c : EReal)) (hu : ∀ r k, u (ix2 r k) = (wide (U r) k : EReal))
    (hp : ∀ c k, p (ix2 c k) = (wide (M c) k : EReal)) (v : Vec Ideal S1x1024 .f32) (z : Fin 1) (c : Fin 1024) :
    k0_pay7 (F := Ideal) u p x v (ix2 z c) = v (ix2 z c) + ((∑ r, dh M U r c * (B r c * inv 1024 (B r)) : ℝ) : EReal) := by
  pointwise [k0_pay7]
  simp only [pay6 hx, pay4 hu hp, ← EReal.coe_mul, ← coe_sum]

theorem pay8 (hu : ∀ r k, u (ix2 r k) = (wide (U r) k : EReal)) (hp : ∀ c k, p (ix2 c k) = (wide (M c) k : EReal))
    (hw : ∀ z c, w (ix2 z c) = (W c : EReal)) (r : Fin 512) (c : Fin 1024) :
    k0_pay8 (F := Ideal) u p w (ix2 r c) = ((dh M U r c * W c : ℝ) : EReal) := by
  pointwise [k0_pay8]
  rw [pay4 hu hp, hw, ← EReal.coe_mul]

/-- A block's derivative by the activations. -/
abbrev der (x s : Vec Ideal S512x1024 .f32) (w : Vec Ideal S1x1024 .f32) (u : Vec Ideal S512x5760 .bf16) (p : Vec Ideal S1024x5760 .bf16) :
    Vec Ideal S512x1024 .f32 :=
  k0_pay1 (k0_pay5 x) (k0_pay6 x) (k0_pay8 u p w) s (k0_pay9 u p x w) (Scalar.ofBits .f32 0x44800000#32)

theorem der_eq (hx : ∀ r c, x (ix2 r c) = (B r c : EReal)) (hu : ∀ r k, u (ix2 r k) = (wide (U r) k : EReal))
    (hp : ∀ c k, p (ix2 c k) = (wide (M c) k : EReal)) (hw : ∀ z c, w (ix2 z c) = (W c : EReal))
    (hs : ∀ r c, s (ix2 r c) = Q r c) (r : Fin 512) (c : Fin 1024) :
    der x s w u p (ix2 r c) = dx B Q W M U r c := by
  unfold dx
  pointwise [der, k0_pay1, k0_pay9]
  simp only [pay5 hx, pay6 hx, pay8 hu hp hw, hs, word_1024]
  have h := normGrad_kernel (show (0 : ℝ) < 1024 by norm_num) (B r) (fun k => dh M U r k * W k) c
  rw [← h]
  simp only [← EReal.coe_mul]

end Block

/-! ## The grid -/

section Grid

variable (m : (ℓ : Loc nD τ sig) → Buf (Elt Ideal) ℓ) (dev : Dev nD)
  {X : Fin 8192 → Fin 1024 → ℝ} {R : Fin 8192 → Fin 1024 → EReal} {W : Fin 1024 → ℝ} {M : Fin 1024 → Fin 5648 → ℝ} {U : Fin 8192 → Fin 5648 → ℝ}

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] := by
  decide +kernel

theorem row_lt (t : Fin cfg0.N) (a : Fin 512) : t.val * 512 + a.val < 8192 := by
  have ht : t.val < 16 := lt_of_lt_of_eq t.isLt N_0
  omega

/-- Row `a` of point `t`'s block of rows. -/
def part {α : Type} {n : Nat} (Y : Fin 8192 → Fin n → α) (t : Fin cfg0.N) (a : Fin 512) (k : Fin n) : α := Y ⟨t.val * 512 + a.val, row_lt t a⟩ k

variable (hX : ∀ r c, m ((dev : Thread nD τ).loc main_arg0) (ix2 r c) = (X r c : EReal))
  (hW : ∀ c, m ((dev : Thread nD τ).loc main_arg1) (ix1 c) = (W c : EReal))
  (hM : ∀ c k, m ((dev : Thread nD τ).loc main_arg2) (ix2 c k) = (M c k : EReal))
  (hU : ∀ r k, m ((dev : Thread nD τ).loc main_arg3) (ix2 r k) = (U r k : EReal))
  (hR : ∀ r c, m ((dev : Thread nD τ).loc main_arg4) (ix2 r c) = R r c)

include hX in
theorem blk_x (t : Fin cfg0.N) (a : Fin 512) (k : Fin 1024) : iblk m dev 2 t (ix2 a k) = ((part X t a k : ℝ) : EReal) := by
  unfold part
  rw [← hX]
  blk_ext [iblk, V, idx t]

include hR in
theorem blk_s (t : Fin cfg0.N) (a : Fin 512) (k : Fin 1024) : iblk m dev 4 t (ix2 a k) = part R t a k := by
  unfold part
  rw [← hR]
  blk_ext [iblk, V, idx t]

include hW in
theorem blk_w (t : Fin cfg0.N) (z : Fin 1) (k : Fin 1024) : iblk m dev 3 t (ix2 z k) = (W k : EReal) := by
  rw [← hW]
  blk_simp [iblk, idx t]
  entry_read
  pointwise
  blk_ext [idx t]

include hU in
theorem blk_u (t : Fin cfg0.N) (a : Fin 512) (k : Fin 5760) : iblk m dev 0 t (ix2 a k) = ((wide (part U t a) k : ℝ) : EReal) := by
  blk_simp [iblk, idx t]
  entry_read
  pointwise
  have e : (win0_0.blk t).view.emb (ix2 a k) = ix2 ⟨t.val * 512 + a.val, row_lt t a⟩ k := by blk_ext [idx t]
  refine Eq.trans (congrArg (fun j : S8192x5760.Idx => if h : (j 1).val < 5648 then
    (m ((dev : Thread nD τ).loc main_arg3) (ix2 (j 0) ⟨(j 1).val, h⟩) : EReal) else (0 : EReal)) e) ?_
  by_cases h : k.val < 5648
  · exact (dif_pos h).trans ((hU _ _).trans (congrArg Real.toEReal (wide_of_lt _ k h).symm))
  · exact (dif_neg h).trans (congrArg Real.toEReal (wide_of_not_lt _ k h).symm)

include hM in
theorem blk_p (t : Fin cfg0.N) (c : Fin 1024) (k : Fin 5760) : iblk m dev 1 t (ix2 c k) = ((wide (M c) k : ℝ) : EReal) := by
  blk_simp [iblk, idx t]
  entry_read
  pointwise
  have e : (win0_1.blk t).view.emb (ix2 c k) = ix2 c k := by blk_ext [idx t]
  refine Eq.trans (congrArg (fun j : S1024x5760.Idx => if h : (j 1).val < 5648 then
    (m ((dev : Thread nD τ).loc main_arg2) (ix2 (j 0) ⟨(j 1).val, h⟩) : EReal) else (0 : EReal)) e) ?_
  by_cases h : k.val < 5648
  · exact (dif_pos h).trans ((hM _ _).trans (congrArg Real.toEReal (wide_of_lt _ k h).symm))
  · exact (dif_neg h).trans (congrArg Real.toEReal (wide_of_not_lt _ k h).symm)

/-! ### The weight's derivative -/

include hX hU hM in
theorem dw_sum (a : Fin 8) (c : Fin 1024) :
    (outsAt0 m dev t0_15.val t0_15.isLt).2.2 (ix2 a c) = if a.val = 0 then ((dw X M U c : ℝ) : EReal) else 0 := by
  rw [Pipeline.eq_sum_fin_of_reset_step_apply_last (ι := Fin 8 × Fin 1024) (fun n h p => (outsAt0 m dev n h).2.2 (ix2 p.1 p.2)) 16
    (fun _ => 0)
    (fun t p => if p.1.val = 0 then ((∑ r, dh M (part U t) r p.2 * (part X t r p.2 * inv 1024 (part X t r)) : ℝ) : EReal) else 0)
    (fun t h p => by
      show (outsAt0 m dev t.val t.isLt).2.2 (ix2 p.1 p.2) = _
      rw [outsAt0_A m dev t h]
      frame_out
      erw [RowStore.canon_row, View.canon_cons_unit_lit inb_S8x1024_S8x1024_0_0 _ _ (by decide),
        View.readCov_fill _ inb_S8x1024_S8x1024_0_0 _ [] _ (by decide)]
      have hz : ∀ j, k0_pay3 (F := Ideal) j = 0 := fun j => by pointwise [k0_pay3]
      by_cases h : p.1.val = 0
      · rw [if_pos h, if_pos h, pay7 (blk_x m dev hX t) (blk_u m dev hU t) (blk_p m dev hM t)]
        erw [RowStore.ld_row _ 0 _ 0 p.2 p.1 h, hz]
      · rw [if_neg h, if_neg h, add_zero, hz])
    (fun t h p => by
      show (outsAt0 m dev t.val t.isLt).2.2 (ix2 p.1 p.2) = _
      rw [outsAt0_B m dev t h]
      frame_out
      erw [RowStore.read_row]
      by_cases h : p.1.val = 0
      · rw [if_pos h, if_pos h, pay7 (blk_x m dev hX t) (blk_u m dev hU t) (blk_p m dev hM t)]
        erw [RowStore.ld_row _ 0 _ 0 p.2 p.1 h]
      · rw [if_neg h, if_neg h, add_zero]
        erw [(hs0_7 t).read_unread])
    (le_of_eq N_0) t0_15 rfl (a, c), zero_add]
  by_cases h : a.val = 0
  · simp only [if_pos h]
    rw [← coe_sum]
    refine congrArg Real.toEReal ?_
    exact Fin.sum_mul_add_fin 16 512 fun r => dh M U r c * (X r c * inv 1024 (X r))
  · simp only [if_neg h, Finset.sum_const_zero]

include hX hU hM in
theorem final7 : (dats m 0 dev).arrAt 7 cfg0.N = fun j => if (j 0).val = 0 then ((dw X M U (j 1) : ℝ) : EReal) else 0 := by
  refine (dats m 0 dev).arrAt_eq_of_after_last 7 t0_15 (by decide +kernel) _ fun j => ?_
  blk_simp
  rw [after0_7]
  refine Eq.trans (congrArg _ ?_) (dw_sum m dev hX hM hU (j 0) (j 1))
  blk_ext

/-! ### The activations' derivative -/

theorem dx_block (t : Fin cfg0.N) : (outsAt0 m dev t.val t.isLt).1
    = der (iblk m dev 2 t) (iblk m dev 4 t) (iblk m dev 3 t) (iblk m dev 0 t) (iblk m dev 1 t) := by
  by_cases h : t.val % 16 = 0
  · rw [outsAt0_A m dev t h]
    frame_out
  · rw [outsAt0_B m dev t h]
    frame_out

theorem dxb_block (t : Fin cfg0.N) : (outsAt0 m dev t.val t.isLt).2.1 = (outsAt0 m dev t.val t.isLt).1 := by
  rw [dx_block]
  by_cases h : t.val % 16 = 0
  · rw [outsAt0_A m dev t h]
    frame_out
    rfl
  · rw [outsAt0_B m dev t h]
    frame_out
    rfl

include hX hW hM hU hR in
theorem final5 : (dats m 0 dev).arrAt 5 cfg0.N = fun j => dx X R W M U (j 0) (j 1) := by
  refine (dats m 0 dev).arrAt_eq_of_covers 5 _ (by decide +kernel) fun t hf y => ?_
  blk_simp
  rw [after0_5]
  have hy : ((win0_5.blk t).view.emb y) = ix2 ⟨t.val * 512 + (y 0).val, row_lt t (y 0)⟩ (y 1) := by
    blk_ext [idx t]
  rw [hy]
  exact (congrFun (dx_block m dev t) y).trans (Eq.trans (congrArg _ (LossKernel.eq_ix2 y))
    (der_eq (blk_x m dev hX t) (blk_u m dev hU t) (blk_p m dev hM t) (blk_w m dev hW t) (blk_s m dev hR t) (y 0) (y 1)))

include hX hW hM hU hR in
theorem final6 : (dats m 0 dev).arrAt 6 cfg0.N = fun j => dx X R W M U (j 0) (j 1) := by
  refine (dats m 0 dev).arrAt_eq_of_covers 6 _ (by decide +kernel) fun t hf y => ?_
  blk_simp
  rw [after0_6]
  have hy : ((win0_6.blk t).view.emb y) = ix2 ⟨t.val * 512 + (y 0).val, row_lt t (y 0)⟩ (y 1) := by
    blk_ext [idx t]
  rw [hy]
  exact (congrFun ((dxb_block m dev t).trans (dx_block m dev t)) y).trans (Eq.trans (congrArg _ (LossKernel.eq_ix2 y))
    (der_eq (blk_x m dev hX t) (blk_u m dev hU t) (blk_p m dev hM t) (blk_w m dev hW t) (blk_s m dev hR t) (y 0) (y 1)))

end Grid

end Cert.InDxKernel

end
-- ==== Proof.InDxClaim.lean ====
/-
  The claims about the first norm's gradient: the frame of the reference, and that the kernel's three results are the
  reference's.
-/
module

public import proofs.«01_k».proof.Defs
public import proofs.«01_k».proof.Proof.Finite
public import proofs.«01_k».proof.Proof.InDxRef
public import proofs.«01_k».proof.Proof.InDxKernel
public import proofs.«01_k».proof.Proof.Gen.Pre_finite3
public import Idealize.ShloMosaic.Adequacy
public import Idealize.ShloMosaic.Init

@[expose] public section

noncomputable section

namespace Cert.InDxClaim

open Idealize.ShloMosaic Idealize.SL.Sem Cert.NormSpec

theorem frame_reference (m : (ℓ : Loc InDxRefIdeal.nD InDxRefIdeal.τ InDxRefIdeal.sig) → Buf (Elt Ideal) ℓ)
    (ρ : Dev InDxRefIdeal.nD → PrngReg) :
    θ_run InDxRefIdeal.defs (onTc (τ := InDxRefIdeal.τ) InDxRefIdeal.main) ⟨m, fun _ => 0, ρ⟩ (fun r => (∀ c : Dev InDxRefIdeal.nD,
      r.2.mem (c.tc.loc InDxRefIdeal.main_arg0) = m (c.tc.loc InDxRefIdeal.main_arg0)
      ∧ r.2.mem (c.tc.loc InDxRefIdeal.main_arg1) = m (c.tc.loc InDxRefIdeal.main_arg1)
      ∧ r.2.mem (c.tc.loc InDxRefIdeal.main_arg2) = m (c.tc.loc InDxRefIdeal.main_arg2)
      ∧ r.2.mem (c.tc.loc InDxRefIdeal.main_arg3) = m (c.tc.loc InDxRefIdeal.main_arg3)
      ∧ r.2.mem (c.tc.loc InDxRefIdeal.main_arg4) = m (c.tc.loc InDxRefIdeal.main_arg4)) ∧ r.2.sem = fun _ => 0) :=
  (θ_run InDxRefIdeal.defs _ _).mono (fun r h => ⟨fun c => (h c).2.2.2, sem_eq_zero_of_no_sems (by decide) r.2⟩)
    (InDxRefIdeal.Value.run (F := Ideal) m ρ)

theorem algebraic : Cert.algebraic_InDxIdeal_InDxRefIdeal_pre_finite3 := by
  intro m g m' g' hpre hagree
  let X (c : Dev InDxIdeal.nD) (r : Fin 8192) (k : Fin 1024) : ℝ :=
    EReal.toReal (m ((c.tc : Thread InDxIdeal.nD InDxIdeal.τ).loc InDxIdeal.main_arg0) (ix2 r k))
  let W (c : Dev InDxIdeal.nD) (k : Fin 1024) : ℝ :=
    EReal.toReal (m ((c.tc : Thread InDxIdeal.nD InDxIdeal.τ).loc InDxIdeal.main_arg1) (ix1 k))
  let M (c : Dev InDxIdeal.nD) (a : Fin 1024) (k : Fin 5648) : ℝ :=
    EReal.toReal (m ((c.tc : Thread InDxIdeal.nD InDxIdeal.τ).loc InDxIdeal.main_arg2) (ix2 a k))
  let U (c : Dev InDxIdeal.nD) (r : Fin 8192) (k : Fin 5648) : ℝ :=
    EReal.toReal (m ((c.tc : Thread InDxIdeal.nD InDxIdeal.τ).loc InDxIdeal.main_arg3) (ix2 r k))
  let R (c : Dev InDxIdeal.nD) (r : Fin 8192) (k : Fin 1024) : EReal :=
    m ((c.tc : Thread InDxIdeal.nD InDxIdeal.τ).loc InDxIdeal.main_arg4) (ix2 r k)
  have hX (c : Dev InDxIdeal.nD) (r k) : m ((c.tc : Thread InDxIdeal.nD InDxIdeal.τ).loc InDxIdeal.main_arg0) (ix2 r k) = (X c r k : EReal) :=
    Finite.coe_toReal (Finite.entry (hpre c).1) (ix2 r k)
  have hW (c : Dev InDxIdeal.nD) (k) : m ((c.tc : Thread InDxIdeal.nD InDxIdeal.τ).loc InDxIdeal.main_arg1) (ix1 k) = (W c k : EReal) :=
    Finite.coe_toReal (Finite.entry (hpre c).2.1) (ix1 k)
  have hM (c : Dev InDxIdeal.nD) (a k) : m ((c.tc : Thread InDxIdeal.nD InDxIdeal.τ).loc InDxIdeal.main_arg2) (ix2 a k) = (M c a k : EReal) :=
    Finite.coe_toReal (Finite.entry (hpre c).2.2.1) (ix2 a k)
  have hU (c : Dev InDxIdeal.nD) (r k) : m ((c.tc : Thread InDxIdeal.nD InDxIdeal.τ).loc InDxIdeal.main_arg3) (ix2 r k) = (U c r k : EReal) :=
    Finite.coe_toReal (Finite.entry (hpre c).2.2.2) (ix2 r k)
  have hR (c : Dev InDxIdeal.nD) (r k) : m ((c.tc : Thread InDxIdeal.nD InDxIdeal.τ).loc InDxIdeal.main_arg4) (ix2 r k) = R c r k := rfl
  refine ⟨fun c j => dx (X c) (R c) (W c) (M c) (U c) (j 0) (j 1),
    fun c j => dx (X c) (R c) (W c) (M c) (U c) (j 0) (j 1),
    fun c j => if (j 0).val = 0 then ((dw (X c) (M c) (U c) (j 1) : ℝ) : EReal) else (0 : EReal), ?_, ?_⟩
  · refine (θ_run InDxIdeal.defs _ _).mono (fun r h c => ?_) (InDxIdeal.Value.run_blocks (F := Ideal) m g)
    obtain ⟨h5, h6, h7, hargs⟩ := h c
    exact ⟨h5.trans (InDxKernel.final5 m c (hX c) (hW c) (hM c) (hU c) (hR c)),
      h6.trans (InDxKernel.final6 m c (hX c) (hW c) (hM c) (hU c) (hR c)),
      h7.trans (InDxKernel.final7 m c (hX c) (hM c) (hU c)), hargs⟩
  · refine (θ_run InDxRefIdeal.defs _ _).mono (fun r h c => ?_) (InDxRefIdeal.Value.run (F := Ideal) m' g')
    obtain ⟨h0, h1, h2, hargs⟩ := h c
    have hX' := hX c
    have hW' := hW c
    have hM' := hM c
    have hU' := hU c
    have hR' := hR c
    obtain ⟨e0, e1, e2, e3, e4⟩ := hagree c
    rw [← e0] at hX'
    rw [← e1] at hW'
    rw [← e2] at hM'
    rw [← e3] at hU'
    rw [← e4] at hR'
    refine ⟨(h0.trans (InDxRefIdeal.Read.val_main_v38_eq ..)).trans (funext fun j => ?_),
      (h1.trans (InDxRefIdeal.Read.val_main_v39_eq ..)).trans (funext fun j => ?_),
      (h2.trans (InDxRefIdeal.Read.val_main_v42_eq ..)).trans (funext fun j => ?_), hargs⟩
    all_goals rw [LossKernel.eq_ix2 j]
    · exact InDxRef.v38 hX' hW' hM' hU' hR' _ _
    · exact InDxRef.v39 hX' hW' hM' hU' hR' _ _
    · exact InDxRef.v42 hX' hM' hU' _ _

end Cert.InDxClaim

end
-- ==== Proof.InProjKernel.lean ====
/-
  The input projection of the normalized activations as the kernel computes it: each point takes 512 rows, and leaves their product
  with the whole matrix, widened by columns of zeros, three blocks of 1536 columns and one of 1152 at a time, and the normalized
  rows themselves.
-/
module

public import proofs.«01_k».proof.Proof.ActKernel
public import proofs.«01_k».proof.Proof.Gen.InProjIdeal.Value

@[expose] public section

set_option maxRecDepth 16384

noncomputable section

namespace Cert.InProjKernel

open Idealize.ShloMosaic Idealize.ShloMosaic.TcCoe Cert.InProjIdeal Cert.InProjIdeal.Gen Cert.ActSpec

/-- A row widened by zeros. -/
def wide (f : Fin 5648 → EReal) (k : Fin 5760) : EReal := if h : k.val < 5648 then f ⟨k.val, h⟩ else 0

/-- The product of the normalized row with the matrix. -/
def proj {κ : Type} (X : κ → Fin 1024 → EReal) (W : Fin 1024 → EReal) (M : Fin 1024 → Fin 5760 → EReal) (r : κ) (k : Fin 5760) : EReal :=
  ∑ c, row X W r c * M c k

/-- A row of some of the rows is that row of all. -/
theorem row_rows {κ ι : Type} (X : κ → Fin 1024 → EReal) (W : Fin 1024 → EReal) (f : ι → κ) (r : ι) (c : Fin 1024) :
    row (fun a => X (f a)) W r c = row X W (f r) c := rfl

theorem proj_rows {κ ι : Type} (X : κ → Fin 1024 → EReal) (W : Fin 1024 → EReal) (M : Fin 1024 → Fin 5760 → EReal) (f : ι → κ) (r : ι)
    (k : Fin 5760) : proj (fun a => X (f a)) W M r k = proj X W M (f r) k := rfl

/-! ## One point -/

/-- A payload that is the normalized rows times `n` columns. -/
def Cols {n : ℕ} (pay : Vec Ideal S512x1024 .f32 → Vec Ideal S1x1024 .f32 → Vec Ideal ⟨2, ![1024, n]⟩ .bf16 → Vec Ideal ⟨2, ![512, n]⟩ .bf16) :
    Prop :=
  ∀ x w v r k, pay x w v (ix2 r k) = ∑ c, k0_pay2 (F := Ideal) x w (ix2 r c) * v (ix2 c k)

theorem cols : Cols (n := 1536) k0_pay3 ∧ Cols (n := 1536) k0_pay4 ∧ Cols (n := 1536) k0_pay5
    ∧ Cols (n := 1152) (fun x w => k0_pay1 (k0_pay2 x w)) := by
  refine ⟨?_, ?_, ?_, ?_⟩ <;> intro x w v r k <;> pointwise [k0_pay1, k0_pay3, k0_pay4, k0_pay5]

section Block

variable {B : Fin 512 → Fin 1024 → EReal} {W : Fin 1024 → EReal} {M : Fin 1024 → Fin 5760 → EReal}
  {x : Vec Ideal S512x1024 .f32} {w : Vec Ideal S1x1024 .f32} {p : Vec Ideal S1024x5760 .bf16}
  (hx : ∀ r c, x (ix2 r c) = B r c) (hw : ∀ z c, w (ix2 z c) = W c) (hp : ∀ c k, p (ix2 c k) = M c k)
  {a1 : Memref sig .tc .vmem S512x1024 .f32} {h1 : a1.IsWhole} {a2 : Memref sig .tc .vmem S1x1024 .f32} {h2 : a2.IsWhole}
  {a3 : Memref sig .tc .vmem S1024x5760 .bf16} {h3 : a3.IsWhole}

theorem rd_x (inb) : View.readAt (Elt Ideal) a1.view (Rect.unit (s := S512x1024) ![0, 0] S512x1024.size inb).toLoadRect (h1.unread x) = x := by
  rw [View.readAt_eq_ld, Memref.IsWhole.read_unread]
  exact View.ld_unit_lit inb x (by decide)

theorem rd_w (inb) : View.readAt (Elt Ideal) a2.view (Rect.unit (s := S1x1024) ![0, 0] S1x1024.size inb).toLoadRect (h2.unread w) = w := by
  rw [View.readAt_eq_ld, Memref.IsWhole.read_unread]
  exact View.ld_unit_lit inb w (by decide)

include hx hw hp in
/-- The store of a block of columns. -/
theorem piece {n : ℕ} (a : ℕ) {pay : Vec Ideal S512x1024 .f32 → Vec Ideal S1x1024 .f32 → Vec Ideal ⟨2, ![1024, n]⟩ .bf16 → Vec Ideal ⟨2, ![512, n]⟩ .bf16}
    (hpay : Cols pay) (i1 i2 inb inb') (j : (⟨2, ![512, n]⟩ : Shape).Idx) :
    pay (View.readAt (Elt Ideal) a1.view (Rect.unit (s := S512x1024) ![0, 0] S512x1024.size i1).toLoadRect (h1.unread x))
        (View.readAt (Elt Ideal) a2.view (Rect.unit (s := S1x1024) ![0, 0] S1x1024.size i2).toLoadRect (h2.unread w))
        (View.readAt (Elt Ideal) a3.view (Rect.unit (s := S1024x5760) ![0, a] ![1024, n] inb).toLoadRect (h3.unread p)) j
      = (fun i : S512x5760.Idx => proj B W M (i 0) (i 1)) ((Rect.unit (s := S512x5760) ![0, a] ![512, n] inb').emb j) := by
  have hin : a + n ≤ 5760 := inb 1
  have hj : (j 1).val < n := (j 1).isLt
  have e : (Rect.unit (s := S512x5760) ![0, a] ![512, n] inb').emb j = ix2 (j 0) ⟨a + (j 1).val, by omega⟩ := by
    refine funext fun b => Fin.ext ?_
    match b with
    | ⟨0, _⟩ => show 0 + 1 * (j 0).val = (j 0).val; omega
    | ⟨1, _⟩ => show a + 1 * (j 1).val = a + (j 1).val; omega
  have ep (c : Fin 1024) : View.readAt (Elt Ideal) a3.view (Rect.unit (s := S1024x5760) ![0, a] ![1024, n] inb).toLoadRect (h3.unread p) (ix2 c (j 1))
      = M c ⟨a + (j 1).val, by omega⟩ := by
    rw [View.readAt_eq_ld, Memref.IsWhole.read_unread, ← hp]
    refine congrArg p (funext fun b => Fin.ext ?_)
    match b with
    | ⟨0, _⟩ => show 0 + 1 * c.val = c.val; omega
    | ⟨1, _⟩ => show a + 1 * (j 1).val = a + (j 1).val; omega
  rw [e, rd_x, rd_w]
  refine (congrArg _ (LossKernel.eq_ix2 j)).trans ((hpay x w _ (j 0) (j 1)).trans ?_)
  exact Finset.sum_congr rfl fun c _ => congrArg₂ (· * ·) (ActKernel.pay1 hx hw (j 0) c) (ep c)

include hx hw hp in
theorem out3 (c i a4 h4 a5 h5) (r : Fin 512) (k : Fin 5760) :
    out0_A_3 (F := Ideal) c i a1 h1 a2 h2 a3 h3 a4 h4 a5 h5 x w p (ix2 r k) = proj B W M r k := by
  unfold out0_A_3
  rw [View.read_writes_junk_eq_canon]
  refine View.canon_apply_of_pieces (Val := Elt Ideal) (e := .bf16) (fun i : S512x5760.Idx => proj B W M (i 0) (i 1)) _ ?_ (ix2 r k)
    (cover0_A_3 c i a1 h1 a2 h2 a3 h3 a4 h4 a5 h5 x w p _)
  unfold kernelRun0_A
  dsimp only
  sl_unfold_words
  simp only [List.forall_mem_cons, List.not_mem_nil, false_implies, implies_true, and_true]
  exact ⟨piece hx hw hp 4608 cols.2.2.2 _ _ _ _, piece hx hw hp 3072 cols.2.2.1 _ _ _ _, piece hx hw hp 1536 cols.2.1 _ _ _ _,
    piece hx hw hp 0 cols.1 _ _ _ _⟩

include hx hw in
theorem out4 (c i a4 h4 a5 h5) (r : Fin 512) (k : Fin 1024) :
    out0_A_4 (F := Ideal) c i a1 h1 a2 h2 a3 h3 a4 h4 a5 h5 x w p (ix2 r k) = row B W r k := by
  unfold out0_A_4
  rw [View.read_writes_junk_eq_canon]
  unfold kernelRun0_A
  dsimp only
  sl_unfold_words
  rw [View.canon_cons_unit_lit]
  case h => decide
  rw [rd_x, rd_w]
  exact ActKernel.pay1 hx hw r k

end Block

/-! ## The grid -/

variable (m : (ℓ : Loc nD τ sig) → Buf (Elt Ideal) ℓ) (dev : Dev nD)

/-- The arguments as functions of the indices. -/
def X (r : Fin 8192) (c : Fin 1024) : EReal := m ((dev : Thread nD τ).loc main_arg0) (ix2 r c)

def W (c : Fin 1024) : EReal := m ((dev : Thread nD τ).loc main_arg1) (ix1 c)

def M (c : Fin 1024) (k : Fin 5648) : EReal := m ((dev : Thread nD τ).loc main_arg2) (ix2 c k)

theorem idx : ∀ t : Fin cfg0.N, win0_0.index t = ![t.val, 0] ∧ win0_1.index t = ![0, 0] ∧ win0_2.index t = ![0, 0]
    ∧ win0_3.index t = ![t.val, 0] ∧ win0_4.index t = ![t.val, 0] := by
  decide +kernel

theorem row_lt (t : Fin cfg0.N) (a : Fin 512) : t.val * 512 + a.val < 8192 := by
  have ht : t.val < 16 := lt_of_lt_of_eq t.isLt N_0
  omega

/-- The row of the activations that point `t` holds as its row `a`. -/
def at_ (t : Fin cfg0.N) (a : Fin 512) : Fin 8192 := ⟨t.val * 512 + a.val, row_lt t a⟩

theorem blk_x (t : Fin cfg0.N) (a : Fin 512) (c : Fin 1024) : iblk m dev 0 t (ix2 a c) = X m dev (at_ t a) c := by
  unfold X at_
  blk_ext [iblk, V, idx t]

theorem blk_w (t : Fin cfg0.N) (z : Fin 1) (c : Fin 1024) : iblk m dev 1 t (ix2 z c) = W m dev c := by
  unfold W
  blk_simp [iblk, idx t]
  entry_read
  pointwise
  blk_ext [idx t]

theorem blk_m (t : Fin cfg0.N) (c : Fin 1024) (k : Fin 5760) : iblk m dev 2 t (ix2 c k) = wide (M m dev c) k := by
  have e : (win0_2.blk t).view.emb (ix2 c k) = ix2 c k := by
    blk_ext [idx t]
  unfold M wide
  blk_simp [iblk]
  rw [e]
  entry_read
  pointwise

theorem point3 (t : Fin cfg0.N) (a : Fin 512) (k : Fin 5760) :
    (outsAt0 m dev t).1 (ix2 a k) = proj (X m dev) (W m dev) (fun c => wide (M m dev c)) (at_ t a) k := by
  unfold outsAt0
  have h := out3 (B := fun a => X m dev (at_ t a)) (W := W m dev) (M := fun c => wide (M m dev c)) (h1 := hs0_0 t) (h2 := hs0_1 t) (h3 := hs0_2 t)
    (blk_x m dev t) (blk_w m dev t) (blk_m m dev t) dev (grid0.coords t) (ms0_3 t) (hs0_3 t) (ms0_4 t) (hs0_4 t) a k
  refine Eq.trans ?_ (h.trans (proj_rows ..))
  dsimp only

theorem point4 (t : Fin cfg0.N) (a : Fin 512) (k : Fin 1024) : (outsAt0 m dev t).2 (ix2 a k) = row (X m dev) (W m dev) (at_ t a) k := by
  unfold outsAt0
  have h := out4 (B := fun a => X m dev (at_ t a)) (W := W m dev) (p := iblk m dev 2 t) (h1 := hs0_0 t) (h2 := hs0_1 t) (h3 := hs0_2 t)
    (blk_x m dev t) (blk_w m dev t) dev (grid0.coords t) (ms0_3 t) (hs0_3 t) (ms0_4 t) (hs0_4 t) a k
  refine Eq.trans ?_ (h.trans (row_rows ..))
  dsimp only

theorem emb3 (t : Fin cfg0.N) (y : S512x5760.Idx) : (win0_3.blk t).view.emb y = ix2 (at_ t (y 0)) (y 1) := by
  unfold at_
  blk_ext [idx t]

theorem emb4 (t : Fin cfg0.N) (y : S512x1024.Idx) : (win0_4.blk t).view.emb y = ix2 (at_ t (y 0)) (y 1) := by
  unfold at_
  blk_ext [idx t]

theorem final3 : (dats m 0 dev).arrAt 3 cfg0.N = fun j => proj (X m dev) (W m dev) (fun c => wide (M m dev c)) (j 0) (j 1) := by
  refine (dats m 0 dev).arrAt_eq_of_covers 3 _ (by decide +kernel) fun t hf y => ?_
  blk_simp
  rw [after0_3, emb3]
  exact (congrArg _ (LossKernel.eq_ix2 y)).trans (point3 m dev t (y 0) (y 1))

theorem final4 : (dats m 0 dev).arrAt 4 cfg0.N = fun j => row (X m dev) (W m dev) (j 0) (j 1) := by
  refine (dats m 0 dev).arrAt_eq_of_covers 4 _ (by decide +kernel) fun t hf y => ?_
  blk_simp
  rw [after0_4, emb4]
  exact (congrArg _ (LossKernel.eq_ix2 y)).trans (point4 m dev t (y 0) (y 1))

end Cert.InProjKernel

end
-- ==== Proof.InProjClaim.lean ====
/-
  The claims about the input projection of the normalized activations: the frame of the reference, and that the kernel's two results
  are the reference's.
-/
module

public import proofs.«01_k».proof.Defs
public import proofs.«01_k».proof.Proof.InProjKernel
public import proofs.«01_k».proof.Proof.Gen.InProjRefIdeal.Read
public import proofs.«01_k».proof.Proof.Gen.InProjRefIdeal.Run
public import Idealize.ShloMosaic.Adequacy
public import Idealize.ShloMosaic.Init

@[expose] public section

noncomputable section

namespace Cert.InProjClaim

open Idealize.ShloMosaic Idealize.ShloMosaic.Pointwise Idealize.SL.Sem Cert.InProjRefIdeal Cert.InProjRefIdeal.Read Cert.RmsRow Cert.ActSpec
open Cert.InProjKernel (proj wide)

section Reference

variable (x : (⟨S8192x1024, .f32⟩ : BufTy).Contents (Elt Ideal)) (w : (⟨S1024, .f32⟩ : BufTy).Contents (Elt Ideal))
  (p : (⟨S1024x5648, .f32⟩ : BufTy).Contents (Elt Ideal))

theorem ref_fac (r : Fin 8192) (z : Fin 1) : val_main_v7 (F := Ideal) x (ix2 r z) = fac (fun r c => x (ix2 r c)) r := by
  pointwise [val_main_v7, val_main_v6, val_main_v5, val_main_v4, val_main_v3, val_main_v2, val_main_v1, val_main_v0,
    val_main_cst, val_main_cst_0, val_main_cst_1]
  simp only [word_1024, eps_word, zero_add]
  rfl

theorem ref_norm (r : Fin 8192) (c : Fin 1024) :
    val_main_v12 (F := Ideal) x w (ix2 r c) = row (fun r c => x (ix2 r c)) (fun c => w (ix1 c)) r c := by
  pointwise [val_main_v12, val_main_v11, val_main_v10, val_main_v9, val_main_v8]
  simp only [ref_fac]
  rfl

theorem ref_rows (r : Fin 8192) (c : Fin 1024) :
    val_main_v17 (F := Ideal) x w (ix2 r c) = row (fun r c => x (ix2 r c)) (fun c => w (ix1 c)) r c := by
  pointwise [val_main_v17]
  exact ref_norm x w r c

theorem ref_proj (r : Fin 8192) (k : Fin 5760) : val_main_v16 (F := Ideal) x w p (ix2 r k)
    = proj (fun r c => x (ix2 r c)) (fun c => w (ix1 c)) (fun c => wide fun k => p (ix2 c k)) r k := by
  pointwise [val_main_v16, val_main_v15, val_main_v14, val_main_v13, val_main_cst_2]
  unfold proj wide
  by_cases h : k.val < 5648
  · simp only [h, dif_pos, ref_norm]
  · simp only [h, dif_neg, not_false_eq_true, mul_zero, Finset.sum_const_zero]

end Reference

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2)) ∧ r.2.sem = fun _ => 0) :=
  (θ_run defs _ _).mono (fun r h => ⟨fun c => (h c).2.2, sem_eq_zero_of_no_sems (by decide) r.2⟩) (Value.run (F := Ideal) m ρ)

theorem algebraic : Cert.algebraic_InProjIdeal_InProjRefIdeal := by
  intro m g m' g' _ hagree
  refine ⟨fun c j => proj (InProjKernel.X m c) (InProjKernel.W m c) (fun k => wide (InProjKernel.M m c k)) (j 0) (j 1),
    fun c j => row (InProjKernel.X m c) (InProjKernel.W m c) (j 0) (j 1), ?_, ?_⟩
  · refine (θ_run InProjIdeal.defs _ _).mono (fun r h c => ?_) (InProjIdeal.Value.run_blocks (F := Ideal) m g)
    obtain ⟨h3, h4, hargs⟩ := h c
    exact ⟨h3.trans (InProjKernel.final3 m c), h4.trans (InProjKernel.final4 m c), hargs⟩
  · refine (θ_run defs _ _).mono (fun r h c => ?_) (Value.run (F := Ideal) m' g')
    obtain ⟨h0, h1, hargs⟩ := h c
    obtain ⟨e0, e1, e2⟩ := hagree c
    have q0 : (fun r k => m' (c.tc.loc main_arg0) (ix2 r k)) = InProjKernel.X m c := funext fun r => funext fun k => congrFun e0 (ix2 r k)
    have q1 : (fun k => m' (c.tc.loc main_arg1) (ix1 k)) = InProjKernel.W m c := funext fun k => congrFun e1 (ix1 k)
    have q2 : (fun r => wide fun k => m' (c.tc.loc main_arg2) (ix2 r k)) = fun r => wide (InProjKernel.M m c r) :=
      funext fun r => congrArg wide (funext fun k => congrFun e2 (ix2 r k))
    refine ⟨(h0.trans (val_main_v16_eq ..)).trans (funext fun j => ?_), (h1.trans (val_main_v17_eq ..)).trans (funext fun j => ?_), hargs⟩
    all_goals rw [LossKernel.eq_ix2 j]
    · exact (ref_proj _ _ _ _ _).trans (congrFun (congrFun (congr (congr (congrArg proj q0) q1) q2) (j 0)) (j 1))
    · exact (ref_rows _ _ _ _).trans (congrFun (congrFun (congr (congrArg row q0) q1) (j 0)) (j 1))

end Cert.InProjClaim

end
-- ==== Proof.JoinKernel.lean ====
/-
  The input projection put together from its eight parts as the kernel puts it together: each part, moved to its columns by a
  product with a matrix of zeros and ones, is added to what the parts before it left in the columns around it.
-/
module

public import proofs.«01_k».proof.Proof.CutKernel
public import proofs.«01_k».proof.Proof.Gen.JoinIdeal.Value

@[expose] public section

set_option maxRecDepth 16384

noncomputable section

namespace Cert.JoinKernel

open Idealize.ShloMosaic Idealize.ShloMosaic.TcCoe Cert.JoinIdeal Cert.JoinIdeal.Gen

/-! ## One part -/

/-- Column `c` of a window into which a part is moved so that it starts at column `s`. -/
def moved (f : Fin 768 → EReal) (s c : ℕ) : EReal :=
  if h : s ≤ c ∧ c < s + 706 then f ⟨c - s, by omega⟩ else 0

/-- Adding up over the part what passes the kernel's test leaves the one column moved to `c`, or nothing. -/
theorem put (f : Fin 768 → EReal) {s c : ℕ} (hs : s < 200) (hc : c < 1000) :
    (∑ q : Fin 768, Scalar.select (CutKernel.test s c q.val) (f q) 0) = moved f s c := by
  have hsel (q : Fin 768) : Scalar.select (CutKernel.test s c q.val) (f q) 0 = if c = q.val + s ∧ q.val < 706 then f q else 0 := by
    have hq := q.isLt
    rw [CutKernel.test_eq (by omega) (by omega) (by omega)]
    by_cases h : c = q.val + s ∧ q.val < 706 <;> simp [h, Scalar.select]
  unfold moved
  rw [Finset.sum_congr rfl fun q _ => hsel q]
  by_cases h : s ≤ c ∧ c < s + 706
  · rw [dif_pos h, Finset.sum_eq_single ⟨c - s, by omega⟩]
    · exact if_pos ⟨by show c = c - s + s; omega, by show c - s < 706; omega⟩
    · intro q _ hne
      refine if_neg fun hq => hne (Fin.ext ?_)
      show q.val = c - s
      omega
    · intro hne; exact absurd (Finset.mem_univ _) hne
  · rw [dif_neg h]
    exact Finset.sum_eq_zero fun q _ => if_neg fun hq => h (by omega)

/-- A step's payload: what the window held, and the part moved into it. -/
def Adds {n : ℕ} (s : ℕ) (pay : Vec Ideal ⟨2, ![256, n]⟩ .f32 → Vec Ideal S1x256x768 .bf16 → Vec Ideal ⟨2, ![256, n]⟩ .f32) : Prop :=
  ∀ v w r c, pay v w (ix2 r c) = v (ix2 r c) + moved (fun q => w (ix3 0 r q)) s c.val

theorem narrow : Adds (n := 768) 0 k0_pay4 ∧ Adds (n := 768) 4 k0_pay8 ∧ Adds (n := 768) 8 k0_pay12 ∧ Adds (n := 768) 12 k0_pay14 := by
  refine ⟨?_, ?_, ?_, ?_⟩ <;> intro v w r c <;> pointwise [k0_pay4, k0_pay8, k0_pay12, k0_pay14] <;>
    exact congrArg (v (ix2 r c) + ·) (put (fun q => w (ix3 0 r q)) (by decide) (by have := c.isLt; omega))

theorem wide : Adds (n := 896) 66 (fun v w => k0_pay7 v (k0_pay5 w) k0_pay6)
    ∧ Adds (n := 896) 70 (fun v w => k0_pay11 v (k0_pay9 w) (iota .tc S768x896 32 [0] iota_S768x896_d0_w32)
        (iota .tc S768x896 32 [1] iota_S768x896_d1_w32) k0_pay10)
    ∧ Adds (n := 896) 74 k0_pay13 ∧ Adds (n := 896) 78 k0_pay1 := by
  refine ⟨?_, ?_, ?_, ?_⟩ <;> intro v w r c <;>
    pointwise [k0_pay5, k0_pay6, k0_pay7, k0_pay9, k0_pay10, k0_pay11, k0_pay13, k0_pay1] <;>
    exact congrArg (v (ix2 r c) + ·) (put (fun q => w (ix3 0 r q)) (by decide) (by have := c.isLt; omega))

/-! ## The parts one after another -/

/-- Column `q` of a row of the whole: of the part that it lies in, or zero behind the parts. -/
def whole (f : Fin 8 → Fin 768 → EReal) (q : Fin 5760) : EReal :=
  if h : q.val < 5648 then f ⟨q.val / 706, by omega⟩ ⟨q.val % 706, by omega⟩ else 0

/-- The whole after its first `k` parts: zero behind them. -/
def upto (f : Fin 8 → Fin 768 → EReal) (k : ℕ) (q : Fin 5760) : EReal := if q.val < 706 * k then whole f q else 0

theorem upto_succ (f : Fin 8 → Fin 768 → EReal) (z : Fin 8) (q : Fin 5760) :
    upto f (z.val + 1) q = upto f z.val q + moved (f z) (706 * z.val) q.val := by
  have hz := z.isLt
  unfold upto moved
  by_cases h : q.val < 706 * z.val
  · rw [if_pos h, if_pos (by omega), dif_neg (by omega), add_zero]
  · rw [if_neg h, zero_add]
    by_cases h' : q.val < 706 * (z.val + 1)
    · rw [if_pos h', dif_pos (by omega)]
      unfold whole
      rw [dif_pos (by omega)]
      have e : q.val / 706 = z.val := by omega
      exact congrArg₂ f (Fin.ext e) (Fin.ext (by show q.val % 706 = q.val - 706 * z.val; omega))
    · rw [if_neg h', dif_neg (by omega)]

section Block

variable (x : Vec Ideal S8x256x768 .bf16)

/-- What the accumulator holds when the stores `L` leave the first `k` parts in it. -/
def Holds (k : ℕ) (L : List (View.Piece (Elt Ideal) S256x5760 .f32)) : Prop :=
  ∀ r q, View.canon L (ix2 r q) = upto (fun z c => x (ix3 z r c)) k q

variable {x}

theorem step {a1 : Memref sig .tc .vmem S8x256x768 .bf16} {h1 : a1.IsWhole} {a3 : Memref sig .tc .vmem S256x5760 .f32}
    {L : List (View.Piece (Elt Ideal) S256x5760 .f32)} (z : Fin 8) (hL : Holds x z.val L) {n : ℕ} (a s : ℕ)
    {pay : Vec Ideal ⟨2, ![256, n]⟩ .f32 → Vec Ideal S1x256x768 .bf16 → Vec Ideal ⟨2, ![256, n]⟩ .f32} (hpay : Adds s pay)
    (hz : a + s = 706 * z.val) (hn : s + 706 ≤ n) {inb inb'} :
    Holds x (z.val + 1) (⟨Rect.unit (s := S256x5760) ![0, a] ![256, n] inb,
      pay (a3.view.readCov L (Rect.unit (s := S256x5760) ![0, a] ![256, n] inb).toLoadRect)
        (View.readAt (Elt Ideal) a1.view (Rect.unit (s := S8x256x768) ![z.val, 0, 0] ![1, 256, 768] inb').toLoadRect (h1.unread x))⟩ :: L) := by
  intro r q
  rw [upto_succ, ← hL]
  have hin : a + n ≤ 5760 := inb 1
  by_cases h : a ≤ q.val ∧ q.val < a + n
  · have e : (Rect.unit (s := S256x5760) ![0, a] ![256, n] inb).emb (ix2 r ⟨q.val - a, by omega⟩) = ix2 r q := by
      refine funext fun b => Fin.ext ?_
      match b with
      | ⟨0, _⟩ => show 0 + 1 * r.val = r.val; omega
      | ⟨1, _⟩ => show a + 1 * (q.val - a) = q.val; omega
    rw [← e, View.canon_cons_emb, hpay, View.readCov_eq_canon']
    refine congrArg₂ (· + ·) rfl ?_
    have ex (c : Fin 768) : View.readAt (Elt Ideal) a1.view (Rect.unit (s := S8x256x768) ![z.val, 0, 0] ![1, 256, 768] inb').toLoadRect (h1.unread x)
        (ix3 0 r c) = x (ix3 z r c) := by
      rw [View.readAt_eq_ld, Memref.IsWhole.read_unread]
      refine congrArg x (funext fun b => Fin.ext ?_)
      match b with
      | ⟨0, _⟩ => show z.val + 1 * 0 = z.val; omega
      | ⟨1, _⟩ => show 0 + 1 * r.val = r.val; omega
      | ⟨2, _⟩ => show 0 + 1 * c.val = c.val; omega
    rw [funext ex]
    show moved _ s (q.val - a) = _
    unfold moved
    by_cases h' : s ≤ q.val - a ∧ q.val - a < s + 706
    · rw [dif_pos h', dif_pos (by omega)]
      exact congrArg (fun c => x (ix3 z r c)) (Fin.ext (by show q.val - a - s = q.val - 706 * z.val; omega))
    · rw [dif_neg h', dif_neg (by omega)]
  · rw [View.canon_cons_of_not_mem]
    · unfold moved
      rw [dif_neg (by omega), add_zero]
    · intro hmem
      obtain ⟨y, hy⟩ := (Rect.unit (s := S256x5760) ![0, a] ![256, n] inb).exists_idx_of_mem hmem
      have hq := congrArg (fun i : S256x5760.Idx => (i 1).val) hy
      have hlt : (y 1).val < n := (y 1).isLt
      have : a + 1 * (y 1).val = q.val := hq
      omega

theorem start : Holds x 0 [⟨Rect.unit (s := S256x5760) ![0, 0] S256x5760.size inb_S256x5760_S256x5760_0_0, k0_pay3 (F := Ideal)⟩] := by
  intro r q
  unfold upto
  rw [if_neg (by omega), View.canon_cons_unit_lit]
  case h => decide
  pointwise [k0_pay3]

theorem rounded (v : Vec Ideal S256x5760 .f32) (j) : k0_pay2 (F := Ideal) v j = v j := rfl

theorem result (c i a1 h1 a2 h2 a3 h3) (r : Fin 256) (q : Fin 5760) :
    out0_A_1 (F := Ideal) c i a1 h1 a2 h2 a3 h3 x (ix2 r q) = whole (fun z c => x (ix3 z r c)) q := by
  have all : upto (fun z c => x (ix3 z r c)) 8 q = whole (fun z c => x (ix3 z r c)) q := by
    unfold upto whole
    by_cases h : q.val < 5648
    · rw [if_pos (by omega)]
    · rw [if_neg (by omega), dif_neg h]
  rw [← all]
  unfold out0_A_1 kernelRun0_A
  dsimp only
  rw [View.read_writes_junk_eq_canon]
  sl_unfold_words
  rw [View.canon_cons_unit_lit]
  case h => decide
  refine (rounded _ _).trans ?_
  rw [View.readCov_eq_canon']
  have e : (Rect.unit (s := S256x5760) ![0, 0] S256x5760.size inb_S256x5760_S256x5760_0_0).toLoadRect.idx (ix2 r q) = ix2 r q := by
    refine funext fun b => Fin.ext ?_
    match b with
    | ⟨0, _⟩ => show 0 + 1 * r.val = r.val; omega
    | ⟨1, _⟩ => show 0 + 1 * q.val = q.val; omega
  refine (congrArg (View.canon _) e).trans ?_
  exact (step 7 (step 6 (step 5 (step 4 (step 3 (step 2 (step 1 (step 0 start
    0 0 narrow.1 rfl (by decide)) 640 66 wide.1 rfl (by decide)) 1408 4 narrow.2.1 rfl (by decide))
    2048 70 wide.2.1 rfl (by decide)) 2816 8 narrow.2.2.1 rfl (by decide)) 3456 74 wide.2.2.1 rfl (by decide))
    4224 12 narrow.2.2.2 rfl (by decide)) 4864 78 wide.2.2.2 rfl (by decide)) r q

end Block

/-! ## The grid -/

variable (m : (ℓ : Loc nD τ sig) → Buf (Elt Ideal) ℓ) (dev : Dev nD)

/-- The parts, with the columns of zeros behind each. -/
def Pa (r : Fin 1024) (z : Fin 8) (c : Fin 768) : EReal :=
  if h : c.val < 706 then m ((dev : Thread nD τ).loc main_arg0) (ix3 z r ⟨c.val, h⟩) else 0

theorem idx : ∀ t : Fin cfg0.N, win0_0.index t = ![0, t.val, 0] ∧ win0_1.index t = ![t.val, 0] := by
  decide +kernel

theorem row_lt (t : Fin cfg0.N) (a : Fin 256) : t.val * 256 + a.val < 1024 := by
  have ht : t.val < 4 := lt_of_lt_of_eq t.isLt N_0
  omega

/-- The row that point `t` holds as its row `a`. -/
def at_ (t : Fin cfg0.N) (a : Fin 256) : Fin 1024 := ⟨t.val * 256 + a.val, row_lt t a⟩

theorem blk_p (t : Fin cfg0.N) (z : Fin 8) (a : Fin 256) (c : Fin 768) : iblk m dev 0 t (ix3 z a c) = Pa m dev (at_ t a) z c := by
  have e : (win0_0.blk t).view.emb (ix3 z a c) = ix3 z (at_ t a) c := by
    unfold at_
    blk_ext [idx t]
  unfold Pa
  blk_simp [iblk]
  rw [e]
  entry_read
  pointwise

theorem final : (dats m 0 dev).arrAt 1 cfg0.N = fun j => whole (Pa m dev (j 0)) (j 1) := by
  refine (dats m 0 dev).arrAt_eq_of_covers 1 _ (by decide +kernel) fun t hf y => ?_
  blk_simp
  rw [after0_1]
  unfold outsAt0
  have hy : ((win0_1.blk t).view.emb y) = ix2 (at_ t (y 0)) (y 1) := by
    unfold at_
    blk_ext [idx t]
  rw [hy]
  refine (congrArg _ (eq_ix2 y)).trans ((result ..).trans ?_)
  exact congrArg (fun f => whole f (y 1)) (funext fun z => funext fun c => blk_p m dev t z (y 0) c)

end Cert.JoinKernel

end
-- ==== Proof.JoinClaim.lean ====
/-
  The claims about putting the input projection together: the frame of the reference, and that the kernel's matrix is the reference's.
-/
module

public import proofs.«01_k».proof.Defs
public import proofs.«01_k».proof.Proof.JoinKernel
public import proofs.«01_k».proof.Proof.Gen.JoinRefIdeal.Read
public import proofs.«01_k».proof.Proof.Gen.JoinRefIdeal.Run
public import Idealize.ShloMosaic.Adequacy
public import Idealize.ShloMosaic.Init

@[expose] public section

noncomputable section

namespace Cert.JoinClaim

open Idealize.ShloMosaic Idealize.ShloMosaic.Pointwise Idealize.SL.Sem Cert.JoinRefIdeal Cert.JoinRefIdeal.Read Cert.JoinKernel

/-- A part with zeros behind it. -/
def padded (f : Fin 706 → EReal) (c : Fin 768) : EReal := if h : c.val < 706 then f ⟨c.val, h⟩ else 0

theorem ref_whole (x : (⟨S8x1024x706, .f32⟩ : BufTy).Contents (Elt Ideal)) (r : Fin 1024) (c : Fin 5760) :
    val_main_v4 (F := Ideal) x (ix2 r c) = whole (fun z => padded fun q => x (ix3 z r q)) c := by
  pointwise [val_main_v4, val_main_v3, val_main_v2, val_main_v1, val_main_v0, val_main_cst]
  unfold whole padded
  refine dite_congr rfl (fun h => ?_) fun _ => rfl
  refine Eq.trans ?_ (dif_pos (Nat.mod_lt c.val (by decide : 706 > 0))).symm
  rfl

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0)) ∧ r.2.sem = fun _ => 0) :=
  (θ_run defs _ _).mono (fun r h => ⟨fun c => (h c).2, sem_eq_zero_of_no_sems (by decide) r.2⟩) (Value.run (F := Ideal) m ρ)

theorem algebraic : Cert.algebraic_JoinIdeal_JoinRefIdeal := by
  intro m g m' g' _ hagree
  refine ⟨fun c j => whole (Pa m c (j 0)) (j 1), ?_, ?_⟩
  · refine (θ_run JoinIdeal.defs _ _).mono (fun r h c => ?_) (JoinIdeal.Value.run_blocks (F := Ideal) m g)
    exact ⟨(h c).1.trans (final m c), (h c).2⟩
  · refine (θ_run defs _ _).mono (fun r h c => ?_) (Value.run (F := Ideal) m' g')
    refine ⟨((h c).1.trans (val_main_v4_eq ..)).trans (funext fun j => ?_), (h c).2⟩
    have e : (fun z => padded fun q => m' (c.tc.loc main_arg0) (ix3 z (j 0) q)) = Pa m c (j 0) := by
      unfold padded Pa
      exact funext fun z => funext fun q => dite_congr rfl (fun _ => congrFun (hagree c) (ix3 z (j 0) _)) fun _ => rfl
    refine (congrArg _ (eq_ix2 j)).trans ((ref_whole _ _ _).trans ?_)
    exact congrArg (fun f => whole f (j 1)) e

end Cert.JoinClaim

end
-- ==== Proof.LossRef.lean ====
/-
  The reference's results, read at an index: differentiating the loss gives the numbers of `LossSpec`.
-/
module

public import proofs.«01_k».proof.Proof.LossSpec
public import proofs.«01_k».proof.Proof.Gen.LossRefIdeal.Read
public import Idealize.ShloMosaic.Lib.Pointwise

@[expose] public section

set_option maxRecDepth 16384

noncomputable section

namespace Cert.LossRef

open Idealize.ShloMosaic Idealize.ShloMosaic.Pointwise Cert.LossRefIdeal Cert.LossRefIdeal.Read Cert.RmsRow Cert.LossSpec

variable {X T : Fin 8192 → Fin 1024 → ℝ} {W : Fin 1024 → ℝ}
  {x t : (⟨S8192x1024, .f32⟩ : BufTy).Contents (Elt Ideal)} {w : (⟨S1024, .f32⟩ : BufTy).Contents (Elt Ideal)}

/-- Under the root of a row. -/
theorem v6 (hx : ∀ r c, x (ix2 r c) = (X r c : EReal)) (r : Fin 8192) (z : Fin 1) :
    val_main_v6 (F := Ideal) x (ix2 r z) = ((under 1024 (X r) : ℝ) : EReal) := by
  pointwise [val_main_v6, val_main_v5, val_main_v4, val_main_v3, val_main_v2, val_main_v1, val_main_v0,
    val_main_cst, val_main_cst_0, val_main_cst_1]
  simp only [hx, word_1024, eps_word, zero_add]
  exact under_eq (by norm_num) (X r)

/-- The row's factor. -/
theorem v7 (hx : ∀ r c, x (ix2 r c) = (X r c : EReal)) (r : Fin 8192) (z : Fin 1) :
    val_main_v7 (F := Ideal) x (ix2 r z) = ((inv 1024 (X r) : ℝ) : EReal) := by
  pointwise [val_main_v7]
  rw [v6 hx]
  exact rsqrt_under (by norm_num) (X r)

/-- The derivative of the row's factor by what is under the root. -/
theorem v10 (hx : ∀ r c, x (ix2 r c) = (X r c : EReal)) (r : Fin 8192) (z : Fin 1) :
    val_main_v10 (F := Ideal) x (ix2 r z)
      = ((-(1 / 2) : ℝ) : EReal) * Ideal.div ((inv 1024 (X r) : ℝ) : EReal) ((under 1024 (X r) : ℝ) : EReal) := by
  pointwise [val_main_v10, val_main_v9, val_main_v8, val_main_cst_2]
  rw [v6 hx, v7 hx, word_neg_half]

/-- The normalised entries. -/
theorem v12 (hx : ∀ r c, x (ix2 r c) = (X r c : EReal)) (r : Fin 8192) (c : Fin 1024) :
    val_main_v12 (F := Ideal) x (ix2 r c) = ((xh X r c : ℝ) : EReal) := by
  pointwise [val_main_v12, val_main_v11]
  rw [v7 hx, hx, ← EReal.coe_mul]
  rfl

/-- The differences from the target. -/
theorem v16 (hx : ∀ r c, x (ix2 r c) = (X r c : EReal)) (hw : ∀ c, w (ix1 c) = (W c : EReal))
    (ht : ∀ r c, t (ix2 r c) = (T r c : EReal)) (r : Fin 8192) (c : Fin 1024) :
    val_main_v16 (F := Ideal) x w t (ix2 r c) = ((err X T W r c : ℝ) : EReal) := by
  pointwise [val_main_v16, val_main_v15, val_main_v14, val_main_v13]
  rw [v12 hx, hw, ht, ← EReal.coe_mul, ← EReal.coe_sub]
  rfl

/-- The loss, in every place of its block. -/
theorem v54 (hx : ∀ r c, x (ix2 r c) = (X r c : EReal)) (hw : ∀ c, w (ix1 c) = (W c : EReal))
    (ht : ∀ r c, t (ix2 r c) = (T r c : EReal)) (a : Fin 8) (b : Fin 128) :
    val_main_v54 (F := Ideal) x w t (ix2 a b) = ((loss X T W : ℝ) : EReal) := by
  pointwise [val_main_v54, val_main_v24, val_main_v23, val_main_v22, val_main_v21, val_main_v20, val_main_v17,
    val_main_cst_4, val_main_cst_5, val_main_cst_6, val_main_cst_7]
  simp only [v16 hx hw ht, word_1024, word_half, zero_add, ← EReal.coe_mul, ← coe_sum]
  simp only [div_real _ (show (1024 : ℝ) ≠ 0 by norm_num), ← EReal.coe_mul, ← coe_sum]
  unfold loss rowLoss
  rw [Finset.mul_sum]
  simp only [div_eq_mul_inv, one_mul]

/-- The cotangent of the norm's result. -/
theorem v30 (hx : ∀ r c, x (ix2 r c) = (X r c : EReal)) (hw : ∀ c, w (ix1 c) = (W c : EReal))
    (ht : ∀ r c, t (ix2 r c) = (T r c : EReal)) (r : Fin 8192) (c : Fin 1024) :
    val_main_v30 (F := Ideal) x w t (ix2 r c) = ((dy X T W r c : ℝ) : EReal) := by
  pointwise [val_main_v30, val_main_v29, val_main_v28, val_main_v27, val_main_v26, val_main_v25, val_main_v19,
    val_main_v18, val_main_cst_3, val_main_cst_8, val_main_cst_9, val_main_cst_10]
  simp only [v16 hx hw ht, word_1024, word_half, word_one, word_two, ← EReal.coe_mul]
  rw [div_real _ (by norm_num), ← EReal.coe_mul]
  congr 1
  unfold dy
  ring

/-- The derivative by the weight, above seven rows of zeros. -/
theorem v53 (hx : ∀ r c, x (ix2 r c) = (X r c : EReal)) (hw : ∀ c, w (ix1 c) = (W c : EReal))
    (ht : ∀ r c, t (ix2 r c) = (T r c : EReal)) (a : Fin 8) (c : Fin 1024) :
    val_main_v53 (F := Ideal) x w t (ix2 a c) = if a.val = 0 then ((dw X T W c : ℝ) : EReal) else 0 := by
  pointwise [val_main_v53, val_main_v52, val_main_v51, val_main_v36, val_main_v33, val_main_v32, val_main_v31,
    val_main_cst_11, val_main_cst_12, val_main_cst_16]
  simp only [Fin.sum_univ_one, v12 hx, v30 hx hw ht, ← EReal.coe_mul, ← coe_sum]
  have hs : (∑ r, xh X r c * dy X T W r c) = dw X T W c := Finset.sum_congr rfl fun r _ => mul_comm _ _
  rw [hs]
  by_cases h : a.val = 0
  · rw [if_pos h, dif_pos (by omega)]
  · rw [if_neg h, dif_neg (by omega)]

/-- The cotangent with the weight in it. -/
theorem v35 (hx : ∀ r c, x (ix2 r c) = (X r c : EReal)) (hw : ∀ c, w (ix1 c) = (W c : EReal))
    (ht : ∀ r c, t (ix2 r c) = (T r c : EReal)) (r : Fin 8192) (c : Fin 1024) :
    val_main_v35 (F := Ideal) x w t (ix2 r c) = ((dy X T W r c * W c : ℝ) : EReal) := by
  pointwise [val_main_v35, val_main_v34, val_main_v13]
  rw [v30 hx hw ht, hw, ← EReal.coe_mul]

/-- The share of an entry in the derivative of the row's factor. -/
theorem v46 (hx : ∀ r c, x (ix2 r c) = (X r c : EReal)) (hw : ∀ c, w (ix1 c) = (W c : EReal))
    (ht : ∀ r c, t (ix2 r c) = (T r c : EReal)) (r : Fin 8192) (c : Fin 1024) :
    val_main_v46 (F := Ideal) x w t (ix2 r c) = ((rootShare 1024 (X r) (fun k => dy X T W r k * W k) : ℝ) : EReal) := by
  pointwise [val_main_v46, val_main_v45, val_main_v44, val_main_v43, val_main_v42, val_main_v39, val_main_v38,
    val_main_v37, val_main_cst_13, val_main_cst_14, val_main_cst_15]
  simp only [Fin.sum_univ_one, hx, v35 hx hw ht, v10 hx, word_1024]
  exact rootShare_eq (show (0 : ℝ) < 1024 by norm_num) (X r) fun k => dy X T W r k * W k

/-- The derivative by the activations. -/
theorem v50 (hx : ∀ r c, x (ix2 r c) = (X r c : EReal)) (hw : ∀ c, w (ix1 c) = (W c : EReal))
    (ht : ∀ r c, t (ix2 r c) = (T r c : EReal)) (r : Fin 8192) (c : Fin 1024) :
    val_main_v50 (F := Ideal) x w t (ix2 r c) = ((dx X T W r c : ℝ) : EReal) := by
  pointwise [val_main_v50, val_main_v49, val_main_v48, val_main_v47, val_main_v41, val_main_v40]
  rw [hx, v35 hx hw ht, v46 hx hw ht, v7 hx]
  exact normGrad_vjp (by norm_num) (X r) (fun k => dy X T W r k * W k) c

/-- The same, rounded nowhere: a change of format keeps the number. -/
theorem v55 (hx : ∀ r c, x (ix2 r c) = (X r c : EReal)) (hw : ∀ c, w (ix1 c) = (W c : EReal))
    (ht : ∀ r c, t (ix2 r c) = (T r c : EReal)) (r : Fin 8192) (c : Fin 1024) :
    val_main_v55 (F := Ideal) x w t (ix2 r c) = ((dx X T W r c : ℝ) : EReal) := by
  pointwise [val_main_v55]
  exact v50 hx hw ht r c

end Cert.LossRef

end
-- ==== Proof.LossClaim.lean ====
/-
  The claims about the last call: its frames, and that it computes the loss and the last normalization's derivative.
-/
module

public import proofs.«01_k».proof.Defs
public import proofs.«01_k».proof.Proof.Finite
public import proofs.«01_k».proof.Proof.LossRef
public import proofs.«01_k».proof.Proof.LossKernel
public import proofs.«01_k».proof.Proof.Gen.Pre_finite
public import Idealize.ShloMosaic.Adequacy
public import Idealize.ShloMosaic.Init

@[expose] public section

noncomputable section

namespace Cert.LossClaim

open Idealize.ShloMosaic Idealize.SL.Sem Cert.LossSpec

theorem frame_reference (m : (ℓ : Loc LossRefIdeal.nD LossRefIdeal.τ LossRefIdeal.sig) → Buf (Elt Ideal) ℓ)
    (ρ : Dev LossRefIdeal.nD → PrngReg) :
    θ_run LossRefIdeal.defs (onTc (τ := LossRefIdeal.τ) LossRefIdeal.main) ⟨m, fun _ => 0, ρ⟩ (fun r => (∀ c : Dev LossRefIdeal.nD,
      r.2.mem (c.tc.loc LossRefIdeal.main_arg0) = m (c.tc.loc LossRefIdeal.main_arg0)
      ∧ r.2.mem (c.tc.loc LossRefIdeal.main_arg1) = m (c.tc.loc LossRefIdeal.main_arg1)
      ∧ r.2.mem (c.tc.loc LossRefIdeal.main_arg2) = m (c.tc.loc LossRefIdeal.main_arg2)) ∧ r.2.sem = fun _ => 0) :=
  (θ_run LossRefIdeal.defs _ _).mono (fun r h => ⟨fun c => (h c).2.2.2.2, sem_eq_zero_of_no_sems (by decide) r.2⟩)
    (LossRefIdeal.Value.run (F := Ideal) m ρ)

theorem algebraic : Cert.algebraic_LossIdeal_LossRefIdeal_pre_finite := by
  intro m g m' g' hpre hagree
  let X (c : Dev LossIdeal.nD) (r : Fin 8192) (k : Fin 1024) : ℝ := EReal.toReal (m ((c.tc : Thread LossIdeal.nD LossIdeal.τ).loc LossIdeal.main_arg0) (ix2 r k))
  let W (c : Dev LossIdeal.nD) (k : Fin 1024) : ℝ := EReal.toReal (m ((c.tc : Thread LossIdeal.nD LossIdeal.τ).loc LossIdeal.main_arg1) (ix1 k))
  let T (c : Dev LossIdeal.nD) (r : Fin 8192) (k : Fin 1024) : ℝ := EReal.toReal (m ((c.tc : Thread LossIdeal.nD LossIdeal.τ).loc LossIdeal.main_arg2) (ix2 r k))
  have hX (c : Dev LossIdeal.nD) (r k) : m ((c.tc : Thread LossIdeal.nD LossIdeal.τ).loc LossIdeal.main_arg0) (ix2 r k) = (X c r k : EReal) :=
    Finite.coe_toReal (Finite.entry (hpre c).1) (ix2 r k)
  have hW (c : Dev LossIdeal.nD) (k) : m ((c.tc : Thread LossIdeal.nD LossIdeal.τ).loc LossIdeal.main_arg1) (ix1 k) = (W c k : EReal) :=
    Finite.coe_toReal (Finite.entry (hpre c).2.1) (ix1 k)
  have hT (c : Dev LossIdeal.nD) (r k) : m ((c.tc : Thread LossIdeal.nD LossIdeal.τ).loc LossIdeal.main_arg2) (ix2 r k) = (T c r k : EReal) :=
    Finite.coe_toReal (Finite.entry (hpre c).2.2) (ix2 r k)
  refine ⟨fun c _ => ((loss (X c) (T c) (W c) : ℝ) : EReal), fun c j => ((dx (X c) (T c) (W c) (j 0) (j 1) : ℝ) : EReal),
    fun c j => ((dx (X c) (T c) (W c) (j 0) (j 1) : ℝ) : EReal),
    fun c j => if (j 0).val = 0 then ((dw (X c) (T c) (W c) (j 1) : ℝ) : EReal) else (0 : EReal), ?_, ?_⟩
  · refine (θ_run LossIdeal.defs _ _).mono (fun r h c => ?_) (LossIdeal.Value.run_blocks (F := Ideal) m g)
    obtain ⟨h3, h4, h5, h6, hargs⟩ := h c
    exact ⟨h3.trans (LossKernel.final3 m c (hX c) (hW c) (hT c)), h4.trans (LossKernel.final4 m c (hX c) (hW c) (hT c)),
      h5.trans (LossKernel.final5 m c (hX c) (hW c) (hT c)), h6.trans (LossKernel.final6 m c (hX c) (hW c) (hT c)), hargs⟩
  · refine (θ_run LossRefIdeal.defs _ _).mono (fun r h c => ?_) (LossRefIdeal.Value.run (F := Ideal) m' g')
    obtain ⟨h0, h1, h2, h3, hargs⟩ := h c
    have hX' := hX c
    have hW' := hW c
    have hT' := hT c
    obtain ⟨e0, e1, e2⟩ := hagree c
    rw [← e0] at hX'
    rw [← e1] at hW'
    rw [← e2] at hT'
    refine ⟨(h0.trans (LossRefIdeal.Read.val_main_v54_eq ..)).trans (funext fun j => ?_),
      (h1.trans (LossRefIdeal.Read.val_main_v50_eq ..)).trans (funext fun j => ?_),
      (h2.trans (LossRefIdeal.Read.val_main_v55_eq ..)).trans (funext fun j => ?_),
      (h3.trans (LossRefIdeal.Read.val_main_v53_eq ..)).trans (funext fun j => ?_), hargs⟩
    all_goals rw [LossKernel.eq_ix2 j]
    · exact LossRef.v54 hX' hW' hT' _ _
    · exact LossRef.v50 hX' hW' hT' _ _
    · exact LossRef.v55 hX' hW' hT' _ _
    · exact LossRef.v53 hX' hW' hT' _ _

end Cert.LossClaim

end
-- ==== Proof.Hold.lean ====
module

public import Idealize.ShloMosaic.Lib.MemrefSat
public import Idealize.ShloMosaic.Lib.Pipeline.Kit

/-! # Bodies that keep what they hold

A kernel body that only loads and stores keeps the memory it was given: whatever it computes, each of its
memrefs is owned again at the end.  Of a memref that the body only reads, the contents stay; of one it
writes, a property stays that no store of the body can break.  Both are one statement, `Keeps`, which is
shown of a program from its parts, with no account of what the values are. -/

@[expose] public section

noncomputable section

namespace Cert.Hold

open Idealize.ShloMosaic
open Idealize.SL Idealize.SL.RA
open Idealize.SL.BI (sProp bigSepL)
open scoped Idealize.SL.BI
open Idealize.SL.BI.BIBase Idealize.SL.BI.Laws Idealize.SL.ProofMode
open Idealize.SL.Sem

variable {nD : Nat} {τ : Topo} {sig : RefSig} {Val : EltTy → Type}
variable {Ix : Type} [DecidableEq Ix] {Name : Type} [DecidableEq Name] {U : Type} [URA U] {Lvl : Type}
variable {Λ : Labels}

local notation "𝕄" => MT nD τ sig Ix Val Name U Lvl

/-- A memref of a core, with what is known of its contents. -/
structure Cell (sig : RefSig) (Val : EltTy → Type) (k : Kind) where
  {space : CoreSpace}
  {shape : Shape}
  {elt : EltTy}
  ref : Memref sig k space shape elt
  known : (shape.Idx → Val elt) → Prop

/-- The core owns every memref of the list, each at contents of which its property holds. -/
def held (c : Thread nD τ) : List (Cell sig Val c.2.kind) → sProp 𝕄
  | [] => iprop(emp)
  | x :: L => iprop(ownsSat c x.ref fullShare x.known ∗ held c L)

/-- One memref can be taken from the list and any contents that meet its property put back. -/
theorem held_take (c : Thread nD τ) {L : List (Cell sig Val c.2.kind)} {x : Cell sig Val c.2.kind} (h : x ∈ L) :
    (held c L : sProp 𝕄) ⊢ iprop(ownsSat c x.ref fullShare x.known ∗ (ownsSat c x.ref fullShare x.known -∗ held c L)) := by
  induction L with
  | nil => exact absurd h (List.not_mem_nil)
  | cons y L ih =>
    rcases List.mem_cons.1 h with rfl | h
    · unfold held
      iintro ⟨H, HL⟩
      isplitl [H]; · iexact H
      iintro H; isplitl [H]; · iexact H
      iexact HL
    · unfold held
      iintro ⟨H, HL⟩
      ihave ⟨Hx, Hw⟩ := (ih h) $$ HL
      isplitl [Hx]; · iexact Hx
      iintro Hx
      isplitl [H]; · iexact H
      iapply Hw; iexact Hx

/-- Memrefs indexed by a list, held one by one. -/
theorem held_map (c : Thread nD τ) {I : Type} (f : I → Cell sig Val c.2.kind) (l : List I) :
    (held c (l.map f) : sProp 𝕄) ⊣⊢ bigSepL l (fun i => ownsSat c (f i).ref fullShare (f i).known) := by
  induction l with
  | nil => exact ⟨.rfl, .rfl⟩
  | cons i l ih =>
    cases l with
    | nil =>
      constructor
      · show iprop(_ ∗ emp) ⊢ ownsSat c (f i).ref fullShare (f i).known
        iintro ⟨H, -⟩; iexact H
      · show ownsSat c (f i).ref fullShare (f i).known ⊢ iprop(_ ∗ emp)
        iintro H; isplitl [H]; · iexact H
        iempintro
    | cons j l =>
      constructor
      · show iprop(ownsSat c (f i).ref fullShare (f i).known ∗ held c ((j :: l).map f)) ⊢ _
        exact sep_mono_right ih.1
      · show _ ⊢ iprop(ownsSat c (f i).ref fullShare (f i).known ∗ held c ((j :: l).map f))
        exact sep_mono_right ih.2

/-- Memrefs of which nothing is known, held one by one: each at some contents. -/
theorem held_any (c : Thread nD τ) {I : Type} (f : I → Cell sig Val c.2.kind) (hf : ∀ i, (f i).known = fun _ => True)
    (l : List I) :
    (held c (l.map f) : sProp 𝕄) ⊣⊢ bigSepL l (fun i => iprop(∃ X, owns c (f i).ref fullShare X)) := by
  refine (held_map c f l).trans ?_
  have h1 : ∀ i, (ownsSat c (f i).ref fullShare (f i).known : sProp 𝕄) ⊣⊢ iprop(∃ X, owns c (f i).ref fullShare X) :=
    fun i => by rw [hf i]; exact ownsSat_true c _ _
  induction l with
  | nil => exact ⟨.rfl, .rfl⟩
  | cons i l ih =>
    cases l with
    | nil => exact h1 i
    | cons j l => exact sep_congr (h1 i) ih

/-- Two lists of memrefs, held together. -/
theorem held_append (c : Thread nD τ) (L L' : List (Cell sig Val c.2.kind)) :
    (held c (L ++ L') : sProp 𝕄) ⊣⊢ iprop(held c L ∗ held c L') := by
  induction L with
  | nil =>
    constructor
    · show _ ⊢ iprop(emp ∗ _)
      iintro H; isplitr; · iempintro
      iexact H
    · show iprop(emp ∗ _) ⊢ _
      iintro ⟨-, H⟩; iexact H
  | cons x L ih =>
    constructor
    · show iprop(ownsSat c x.ref fullShare x.known ∗ held c (L ++ L')) ⊢ iprop((ownsSat c x.ref fullShare x.known ∗ held c L) ∗ _)
      iintro ⟨H, HL⟩
      ihave ⟨H1, H2⟩ := ih.1 $$ HL
      isplitl [H H1]
      · isplitl [H]; · iexact H
        iexact H1
      · iexact H2
    · show iprop((ownsSat c x.ref fullShare x.known ∗ held c L) ∗ _) ⊢ iprop(ownsSat c x.ref fullShare x.known ∗ held c (L ++ L'))
      iintro ⟨⟨H, H1⟩, H2⟩
      isplitl [H]; · iexact H
      iapply ih.2
      isplitl [H1]; · iexact H1
      iexact H2

variable [Preorder Lvl] {defs : Defs nD τ sig Val Λ} (𝒱 : Variants) (c : Thread nD τ) (bd : Option 𝒱.V)
  (Γ : PendingWaitsCtx sig Ix) (E : Set Name)

/-- The program runs when the memrefs of the list are held, and they are held when it is done. -/
structure Keeps (defs : Defs nD τ sig Val Λ) (L : List (Cell sig Val c.2.kind)) {α : Type}
    (p : Prog (TpuEff nD τ sig Val Λ c.2) α) : Prop where
  run : ∀ Q : α → sProp (MT nD τ sig Ix Val Name U Lvl), (∀ a, held c L ⊢ Q a) →
    held c L ⊢ wp frame (wpE' defs 𝒱 c bd Γ) E p Q

section

variable {𝒱 c bd Γ E} {L : List (Cell sig Val c.2.kind)} {α β : Type}

theorem keeps_pure (a : α) : Keeps (U := U) (Lvl := Lvl) 𝒱 c bd Γ E defs L (pure a) :=
  ⟨fun Q h => (h a).trans (le_wp_ret _ _ _ a Q)⟩

theorem keeps_bind {p : Prog (TpuEff nD τ sig Val Λ c.2) α} {k : α → Prog (TpuEff nD τ sig Val Λ c.2) β}
    (hp : Keeps (U := U) (Lvl := Lvl) 𝒱 c bd Γ E defs L p) (hk : ∀ a, Keeps (U := U) (Lvl := Lvl) 𝒱 c bd Γ E defs L (k a)) :
    Keeps (U := U) (Lvl := Lvl) 𝒱 c bd Γ E defs L (p >>= k) := by
  refine ⟨fun Q h => ?_⟩
  rw [wp_bind]
  exact hp.run _ fun a => (hk a).run Q h

theorem keeps_dite {q : Prop} [Decidable q] {p : q → Prog (TpuEff nD τ sig Val Λ c.2) α}
    {p' : ¬q → Prog (TpuEff nD τ sig Val Λ c.2) α}
    (h : ∀ hq, Keeps (U := U) (Lvl := Lvl) 𝒱 c bd Γ E defs L (p hq))
    (h' : ∀ hq, Keeps (U := U) (Lvl := Lvl) 𝒱 c bd Γ E defs L (p' hq)) :
    Keeps (U := U) (Lvl := Lvl) 𝒱 c bd Γ E defs L (dite q p p') := by
  by_cases hq : q
  · rw [dif_pos hq]; exact h hq
  · rw [dif_neg hq]; exact h' hq

theorem keeps_load {cs : CoreSpace} {sh : Shape} {e : EltTy} {m : Memref sig c.2.kind cs sh e} {r : LoadRect sh}
    {hl : m.view.LoadsAt r} {Φ : (sh.Idx → Val e) → Prop} (hm : ⟨m, Φ⟩ ∈ L) :
    Keeps (U := U) (Lvl := Lvl) 𝒱 c bd Γ E defs L (Prog.lift (.load m r hl)) := by
  refine ⟨fun Q h => (held_take c hm).trans ?_⟩
  show iprop(ownsSat c m fullShare Φ ∗ (ownsSat c m fullShare Φ -∗ held c L)) ⊢ _
  unfold ownsSat
  iintro ⟨⟨%f, %hf, H⟩, Hw⟩
  iapply (wp_load 𝒱 c bd E (m.view.setOn_subset_set r.set)) $$ H
  iintro H
  iapply (le_wp_ret _ _ _ _ Q)
  iapply (h _)
  iapply Hw
  iexists f
  isplitr
  · ipureintro; exact hf
  · iexact H

/-- A property of a memref's contents that survives every store through a rectangle. -/
def Stays {sh : Shape} {e : EltTy} (r : Rect sh) (Φ : (sh.Idx → Val e) → Prop) : Prop :=
  ∀ X Y : sh.Idx → Val e, Φ X → (∀ i, (∀ j, r.emb j ≠ i) → Y i = X i) → Φ Y

theorem stays_true {sh : Shape} {e : EltTy} (r : Rect sh) : Stays r (fun _ : sh.Idx → Val e => True) :=
  fun _ _ _ _ => trivial

theorem keeps_store {cs : CoreSpace} {sh : Shape} {e : EltTy} {m : Memref sig c.2.kind cs sh e} {r : Rect sh}
    {w : r.shape.Idx → Val e} {M : Finset r.shape.Idx} {hx : (m.access r).Stores M}
    {ha : M = Finset.univ ∨ ∀ a, r.stride a = 1} {Φ : (sh.Idx → Val e) → Prop} (hm : ⟨m, Φ⟩ ∈ L) (hs : Stays r Φ) :
    Keeps (U := U) (Lvl := Lvl) 𝒱 c bd Γ E defs L (Prog.lift (.store m r w M hx ha)) := by
  refine ⟨fun Q h => (held_take c hm).trans ?_⟩
  show iprop(ownsSat c m fullShare Φ ∗ (ownsSat c m fullShare Φ -∗ held c L)) ⊢ _
  unfold ownsSat
  iintro ⟨⟨%f, %hf, H⟩, Hw⟩
  iapply (wp_store 𝒱 c bd E (m := m) (r := r) (w := w) (Mk := M) (hx := hx) (hm := ha) (f := f) (S := m.view.set) (m.setOn_access_subset r M)) $$ H
  iintro H
  iapply (le_wp_ret _ _ _ _ Q)
  iapply (h _)
  iapply Hw
  iexists ((m.access r).write Val f w M)
  isplitr
  · ipureintro
    exact hs _ _ hf fun i hi => View.read_slice_write_of_not_mem r f w M fun hmem =>
      let ⟨j, _, hj⟩ := Finset.mem_map.1 hmem
      hi j hj
  · iexact H

end

/-- What holds of one thing holds of some. -/
theorem some_of {α : Type} {Φ : α → sProp 𝕄} (a : α) : Φ a ⊢ iprop(∃ x, Φ x) := by
  iintro H; iexists a; iexact H

/-- Nothing more is asked of the thing. -/
theorem some_true {α : Type} {Φ : α → sProp 𝕄} : iprop(∃ x, Φ x) ⊢ iprop(∃ x, ⌜True⌝ ∗ Φ x) := by
  iintro ⟨%x, H⟩; iexists x; isplitr
  · ipureintro; trivial
  · iexact H

end Cert.Hold
-- ==== Proof.MixBody.lean ====
module

public import proofs.«01_k».proof.Proof.Hold
public import proofs.«01_k».proof.Proof.Gen.MixBwdIdeal.Skeleton
public import proofs.«01_k».proof.Proof.Gen.MixBwdIdeal.Points

@[expose] public section

set_option maxRecDepth 65536

noncomputable section

namespace Cert.MixBody

open Idealize.ShloMosaic Idealize.ShloMosaic.TcCoe
open Idealize.SL Idealize.SL.Sem
open Cert.MixBwdIdeal Cert.MixBwdIdeal.Gen Cert.Hold

variable {F : FTy → Type} [FloatOps F]

set_option maxHeartbeats 40000000 in
/-- The body keeps what it is handed: of what it only reads, the contents too. -/
theorem body_keeps (c : Dev nD) (L : List (Cell sig (Elt F) .tc)) (i : grid0.Coords)
    (arg1 : Memref sig .tc .vmem S256x1024 .bf16) (harg1 : arg1.IsWhole)
    (arg2 : Memref sig .tc .vmem S256x1024 .bf16) (harg2 : arg2.IsWhole)
    (arg3 : Memref sig .tc .vmem S256x1024 .bf16) (harg3 : arg3.IsWhole)
    (arg4 : Memref sig .tc .vmem S256x1024 .bf16) (harg4 : arg4.IsWhole)
    (arg5 : Memref sig .tc .vmem S256x1024 .bf16) (harg5 : arg5.IsWhole)
    (arg6 : Memref sig .tc .vmem S256x512 .bf16) (harg6 : arg6.IsWhole)
    (arg7 : Memref sig .tc .vmem S256x128 .bf16) (harg7 : arg7.IsWhole)
    (arg8 : Memref sig .tc .vmem S256x2048 .bf16) (harg8 : arg8.IsWhole)
    (arg9 : Memref sig .tc .vmem S4x128x1024 .bf16) (harg9 : arg9.IsWhole)
    (arg10 : Memref sig .tc .vmem S256x3584 .bf16) (harg10 : arg10.IsWhole)
    (arg11 : Memref sig .tc .vmem S8x1024 .f32) (harg11 : arg11.IsWhole)
    (arg12 : Memref sig .tc .vmem S8x1024 .f32) (harg12 : arg12.IsWhole)
    (arg13 : Memref sig .tc .vmem S8x512 .f32) (harg13 : arg13.IsWhole)
    (arg14 : Memref sig .tc .vmem S1x1x1024 .f32) (harg14 : arg14.IsWhole)
    (arg15 : Memref sig .tc .vmem S1x1x512 .f32) (harg15 : arg15.IsWhole)
    (arg16 : Memref sig .tc .vmem S1x1x128 .f32) (harg16 : arg16.IsWhole)
    (arg17 : Memref sig .tc .vmem S1x1x128 .f32) (harg17 : arg17.IsWhole)
    (arg18 : Memref sig .tc .vmem S1x1x1024 .f32) (harg18 : arg18.IsWhole)
    (arg19 : Memref sig .tc .vmem S1x1x1024 .f32) (harg19 : arg19.IsWhole)
    (arg20 : Memref sig .tc .vmem S128x1024 .bf16) (harg20 : arg20.IsWhole)
    (arg21 : Memref sig .tc .vmem S1024x128 .bf16) (harg21 : arg21.IsWhole)
    (arg22 : Memref sig .tc .vmem S256x5760 .bf16) (harg22 : arg22.IsWhole)
    (arg23 : Memref sig .tc .vmem S8x1024 .f32) (harg23 : arg23.IsWhole)
    (arg24 : Memref sig .tc .vmem S8x1024 .f32) (harg24 : arg24.IsWhole)
    (arg25 : Memref sig .tc .vmem S8x512 .f32) (harg25 : arg25.IsWhole)
    (arg26 : Memref sig .tc .vmem S8x1024 .f32) (harg26 : arg26.IsWhole)
    (arg27 : Memref sig .tc .vmem S8x128 .f32) (harg27 : arg27.IsWhole)
    (arg28 : Memref sig .tc .vmem S128x1024 .f32) (harg28 : arg28.IsWhole)
    (arg29 : Memref sig .tc .vmem S256x1024 .f32) (harg29 : arg29.IsWhole)
    (arg30 : Memref sig .tc .vmem S256x512 .f32) (harg30 : arg30.IsWhole)
    (arg31 : Memref sig .tc .vmem S256x1024 .f32) (harg31 : arg31.IsWhole)
    (arg32 : Memref sig .tc .vmem S256x1024 .f32) (harg32 : arg32.IsWhole)
    (arg33 : Memref sig .tc .vmem S256x1024 .f32) (harg33 : arg33.IsWhole)
    (arg34 : Memref sig .tc .vmem S256x1024 .f32) (harg34 : arg34.IsWhole)
    (arg35 : Memref sig .tc .vmem S256x512 .f32) (harg35 : arg35.IsWhole)
    (arg36 : Memref sig .tc .vmem S256x1024 .f32) (harg36 : arg36.IsWhole)
    (arg37 : Memref sig .tc .vmem S256x1024 .f32) (harg37 : arg37.IsWhole)
    (arg38 : Memref sig .tc .vmem S8x1024 .f32) (harg38 : arg38.IsWhole)
    (arg39 : Memref sig .tc .vmem S8x1024 .f32) (harg39 : arg39.IsWhole)
    (arg40 : Memref sig .tc .vmem S8x512 .f32) (harg40 : arg40.IsWhole)
    (arg41 : Memref sig .tc .vmem S256x1024 .f32) (harg41 : arg41.IsWhole)
    (arg42 : Memref sig .tc .vmem S256x512 .f32) (harg42 : arg42.IsWhole)
    (Φ1 : (S256x1024.Idx → Elt F .bf16) → Prop) (Φ2 : (S256x1024.Idx → Elt F .bf16) → Prop) (Φ3 :
    (S256x1024.Idx → Elt F .bf16) → Prop) (Φ4 : (S256x1024.Idx → Elt F .bf16) → Prop) (Φ5 : (S256x1024.Idx →
    Elt F .bf16) → Prop) (Φ6 : (S256x512.Idx → Elt F .bf16) → Prop) (Φ7 : (S256x128.Idx → Elt F .bf16) →
    Prop) (Φ8 : (S256x2048.Idx → Elt F .bf16) → Prop) (Φ9 : (S4x128x1024.Idx → Elt F .bf16) → Prop) (Φ10 :
    (S256x3584.Idx → Elt F .bf16) → Prop) (Φ11 : (S8x1024.Idx → Elt F .f32) → Prop) (Φ12 : (S8x1024.Idx → Elt
    F .f32) → Prop) (Φ13 : (S8x512.Idx → Elt F .f32) → Prop) (Φ14 : (S1x1x1024.Idx → Elt F .f32) → Prop) (Φ15
    : (S1x1x512.Idx → Elt F .f32) → Prop) (Φ16 : (S1x1x128.Idx → Elt F .f32) → Prop) (Φ17 : (S1x1x128.Idx →
    Elt F .f32) → Prop) (Φ18 : (S1x1x1024.Idx → Elt F .f32) → Prop) (Φ19 : (S1x1x1024.Idx → Elt F .f32) →
    Prop) (Φ20 : (S128x1024.Idx → Elt F .bf16) → Prop) (Φ21 : (S1024x128.Idx → Elt F .bf16) → Prop)
    (hL : ∀ x ∈ ([⟨arg1, Φ1⟩, ⟨arg2, Φ2⟩, ⟨arg3, Φ3⟩, ⟨arg4, Φ4⟩, ⟨arg5, Φ5⟩, ⟨arg6, Φ6⟩, ⟨arg7, Φ7⟩, ⟨arg8, Φ8⟩, ⟨arg9,
      Φ9⟩, ⟨arg10, Φ10⟩, ⟨arg11, Φ11⟩, ⟨arg12, Φ12⟩, ⟨arg13, Φ13⟩, ⟨arg14, Φ14⟩, ⟨arg15, Φ15⟩, ⟨arg16, Φ16⟩,
      ⟨arg17, Φ17⟩, ⟨arg18, Φ18⟩, ⟨arg19, Φ19⟩, ⟨arg20, Φ20⟩, ⟨arg21, Φ21⟩, ⟨arg22, fun _ => True⟩, ⟨arg23,
      fun _ => True⟩, ⟨arg24, fun _ => True⟩, ⟨arg25, fun _ => True⟩, ⟨arg26, fun _ => True⟩, ⟨arg27, fun _
      => True⟩, ⟨arg28, fun _ => True⟩, ⟨arg29, fun _ => True⟩, ⟨arg30, fun _ => True⟩, ⟨arg31, fun _ =>
      True⟩, ⟨arg32, fun _ => True⟩, ⟨arg33, fun _ => True⟩, ⟨arg34, fun _ => True⟩, ⟨arg35, fun _ => True⟩,
      ⟨arg36, fun _ => True⟩, ⟨arg37, fun _ => True⟩, ⟨arg38, fun _ => True⟩, ⟨arg39, fun _ => True⟩, ⟨arg40,
      fun _ => True⟩, ⟨arg41, fun _ => True⟩, ⟨arg42, fun _ => True⟩] :
        List (Cell sig (Elt F) .tc)), x ∈ L) :
    Keeps (Ix := Unit) (Name := ℕ) (U := UR sig nD τ) (Lvl := ℕ) Variants.none (c : Thread nD τ) none .empty Set.univ
      (defs₀ (F := F)) L
      (cc0_mixer_bwd i
        arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17
        harg17 arg18 harg18 arg19 harg19 arg20 harg20 arg21 harg21 arg22 harg22 arg23 harg23 arg24 harg24
        arg25 harg25 arg26 harg26 arg27 harg27 arg28 harg28 arg29 harg29 arg30 harg30 arg31 harg31 arg32
        harg32 arg33 harg33 arg34 harg34 arg35 harg35 arg36 harg36 arg37 harg37 arg38 harg38 arg39 harg39
        arg40 harg40 arg41 harg41 arg42 harg42) := by
  simp only [List.forall_mem_cons] at hL
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, _⟩ := hL
  rw [cc0_mixer_bwd_eq_skeleton]
  delta cc0_mixer_bwd_skel
  repeat' first
    | with_reducible exact keeps_load (by assumption)
    | with_reducible exact keeps_store (by assumption) (stays_true _)
    | with_reducible exact keeps_pure _
    | with_reducible apply keeps_bind
    | with_reducible apply keeps_dite
    | intro _
    | split
    | (simp only [k0_part1_eq_skeleton, k0_part2_eq_skeleton, k0_part3_eq_skeleton, k0_part4_eq_skeleton,
        k0_part5_eq_skeleton, k0_part6_eq_skeleton, k0_part7_eq_skeleton, k0_part8_eq_skeleton,
        k0_part9_eq_skeleton, k0_part10_eq_skeleton, k0_part11_eq_skeleton, k0_part12_eq_skeleton,
        k0_part13_eq_skeleton, k0_part14_eq_skeleton, k0_part15_eq_skeleton, k0_part16_eq_skeleton,
        k0_part17_eq_skeleton, k0_part18_eq_skeleton, k0_part19_eq_skeleton, k0_part20_eq_skeleton,
        k0_part21_eq_skeleton, k0_part22_eq_skeleton, k0_part23_eq_skeleton, k0_part24_eq_skeleton,
        k0_part25_eq_skeleton, k0_part26_eq_skeleton, k0_part27_eq_skeleton, k0_part28_eq_skeleton,
        k0_part29_eq_skeleton, k0_part30_eq_skeleton, k0_part31_eq_skeleton, k0_part32_eq_skeleton,
        k0_part33_eq_skeleton, k0_part34_eq_skeleton, k0_part35_eq_skeleton, k0_part36_eq_skeleton,
        k0_part37_eq_skeleton, k0_part38_eq_skeleton, k0_part39_eq_skeleton, k0_part40_eq_skeleton,
        k0_part41_eq_skeleton, k0_part42_eq_skeleton, k0_part43_eq_skeleton, k0_part44_eq_skeleton,
        k0_part45_eq_skeleton, k0_part46_eq_skeleton, k0_part47_eq_skeleton, k0_part48_eq_skeleton,
        k0_part49_eq_skeleton, k0_part50_eq_skeleton, k0_part51_eq_skeleton, k0_part52_eq_skeleton,
        k0_part53_eq_skeleton, k0_part54_eq_skeleton, k0_part55_eq_skeleton, k0_part56_eq_skeleton]
       delta k0_part1_skel k0_part2_skel k0_part3_skel k0_part4_skel k0_part5_skel k0_part6_skel k0_part7_skel
        k0_part8_skel k0_part9_skel k0_part10_skel k0_part11_skel k0_part12_skel k0_part13_skel
        k0_part14_skel k0_part15_skel k0_part16_skel k0_part17_skel k0_part18_skel k0_part19_skel
        k0_part20_skel k0_part21_skel k0_part22_skel k0_part23_skel k0_part24_skel k0_part25_skel
        k0_part26_skel k0_part27_skel k0_part28_skel k0_part29_skel k0_part30_skel k0_part31_skel
        k0_part32_skel k0_part33_skel k0_part34_skel k0_part35_skel k0_part36_skel k0_part37_skel
        k0_part38_skel k0_part39_skel k0_part40_skel k0_part41_skel k0_part42_skel k0_part43_skel
        k0_part44_skel k0_part45_skel k0_part46_skel k0_part47_skel k0_part48_skel k0_part49_skel
        k0_part50_skel k0_part51_skel k0_part52_skel k0_part53_skel k0_part54_skel k0_part55_skel
        k0_part56_skel)

end Cert.MixBody
-- ==== Proof.MixFrame.lean ====
module

public import proofs.«01_k».proof.Proof.MixBody
public import proofs.«01_k».proof.Proof.Gen.MixBwdIdeal.Frame
public import Idealize.ShloMosaic.Lib.Claim

/-! # The mixer's backward call runs and leaves its arguments alone

Nothing is said of what the call computes: at every point of the grid its body keeps the buffers it is handed
(`Cert.MixBody.body_keeps`), so the pipeline around it runs to the end, and no array it only reads is changed. -/

@[expose] public section

set_option maxRecDepth 16384

noncomputable section

namespace Cert.MixFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixBwdIdeal Cert.MixBwdIdeal.Gen Cert.Hold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' staging buffers at a point, nothing known of their contents. -/
abbrev staged (t : Fin cfg0.N) (w : Fin 27) : Cell sig (Elt F) .tc := ⟨(cfg0.win w).stage (cfg0.slots t w), fun _ => True⟩

/-- The windows in order. -/
abbrev wins : List (Fin 27) :=
  [0, 1, 2, 3, 4, 5, 6, 7, 8, 9, 10, 11, 12, 13, 14, 15, 16, 17, 18, 19, 20, 21, 22, 23, 24, 25, 26]

/-- The buffers the call keeps between its points. -/
abbrev kept : List (Cell sig (Elt F) .tc) :=
  [⟨Memref.whole cc0_scratch0, fun _ => True⟩, ⟨Memref.whole cc0_scratch1, fun _ => True⟩,
   ⟨Memref.whole cc0_scratch2, fun _ => True⟩, ⟨Memref.whole cc0_scratch3, fun _ => True⟩,
   ⟨Memref.whole cc0_scratch4, fun _ => True⟩, ⟨Memref.whole cc0_scratch5, fun _ => True⟩,
   ⟨Memref.whole cc0_scratch6, fun _ => True⟩, ⟨Memref.whole cc0_scratch7, fun _ => True⟩,
   ⟨Memref.whole cc0_scratch8, fun _ => True⟩, ⟨Memref.whole cc0_scratch9, fun _ => True⟩,
   ⟨Memref.whole cc0_scratch10, fun _ => True⟩, ⟨Memref.whole cc0_scratch11, fun _ => True⟩,
   ⟨Memref.whole cc0_scratch12, fun _ => True⟩, ⟨Memref.whole cc0_scratch13, fun _ => True⟩,
   ⟨Memref.whole cc0_scratch14, fun _ => True⟩]

/-- A buffer with nothing known of its contents. -/
abbrev forget (x : Cell sig (Elt F) .tc) : Cell sig (Elt F) .tc := ⟨x.ref, fun _ => True⟩

/-- Everything the body is handed at a point. -/
abbrev cells (t : Fin cfg0.N) : List (Cell sig (Elt F) .tc) := wins.map (staged t) ++ kept.map forget

/-- The body keeps what it is handed. -/
theorem keeps (c : Dev nD) (t : Fin cfg0.N) :
    Keeps (Ix := Unit) (Name := ℕ) (U := UR sig nD τ) (Lvl := ℕ) Variants.none (c : Thread nD τ) none .empty Set.univ
      (defs₀ (F := F)) (cells t) (bodyAt0 t) :=
  MixBody.body_keeps c (cells t) (grid0.coords t) _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _
    (fun _ => True) (fun _ => True) (fun _ => True) (fun _ => True) (fun _ => True) (fun _ => True) (fun _ => True)
    (fun _ => True) (fun _ => True) (fun _ => True) (fun _ => True) (fun _ => True) (fun _ => True) (fun _ => True)
    (fun _ => True) (fun _ => True) (fun _ => True) (fun _ => True) (fun _ => True) (fun _ => True) (fun _ => True)
    fun _ h => h

/-- The staging buffers in any state are the first part of what the body is handed. -/
theorem held_staged (c : Dev nD) (t : Fin cfg0.N) :
    (held (c : Thread nD τ) (wins.map (staged (F := F) t)) : sProp 𝕄)
      ⊣⊢ bigSep Finset.univ fun w : Fin 27 => iprop(∃ X, owns (c : Thread nD τ) ((cfg0.win w).stage (cfg0.slots t w)) fullShare X) := by
  rw [bigSep_univ_eq_bigSepL wins (by decide) (by decide)]
  exact held_any (c : Thread nD τ) (staged (F := F) t) (fun _ => rfl) wins

/-- The buffers kept between points, in any state, with the generator's register, are the region's invariant. -/
theorem held_kept (c : Dev nD) :
    iprop((held (c : Thread nD τ) ((kept (F := F)).map forget) : sProp 𝕄) ∗ ∃ r, prngReg c r) ⊣⊢ Pipeline.ΦA spec0 c := by
  unfold Pipeline.ΦA
  rw [scopedRest0_eq]
  simp only [← owns_whole]
  exact sep_congr (held_any (c : Thread nD τ) (forget (F := F)) (fun _ => rfl) kept) .rfl

/-- What is said of the pipeline: its arrays are as the region finds them, and of what the body writes nothing. -/
def rdat (c : Dev nD) : Pipeline.RDat τ (Elt F) Unit ℕ (UR sig nD τ) ℕ (cfgs 0) c where
  A w := V m c (Pipeline.arrRef spec0 w)
  after _ _ _ _ := True
  Φ _ := Pipeline.ΦA spec0 c
  q w := Pipeline.shareOf spec0 w
  owed _ := 0

/-- The table's entry for the kernel is its body. -/
theorem row (t : Fin cfg0.N) : defs₀ (F := F) .tc cfg0.body (cfg0.bodyArgs t (cfg0.slots t)) = bodyAt0 t := by
  unfold defs₀; rw [Defs.onTc_tc]

theorem body (c : Dev nD) : (rdat m c).BodyObligation (defs₀ (F := F)) Variants.none () Set.univ := fun t Y _ => by
  have hr : defs₀ (F := F) .tc (cfgs 0).body ((cfgs 0).bodyArgs t ((cfgs 0).slots t)) = bodyAt0 t := row t
  rw [hr]
  show iprop(Pipeline.ΦA spec0 c ∗ (rdat m c).owesAt () t.castSucc ∗ _) ⊢ _
  have hgive : (bigSep Finset.univ fun w : Fin 27 => owns (c : Thread nD τ) ((cfg0.win w).stage (cfg0.slots t w)) fullShare (Y w) : sProp 𝕄)
      ⊢ bigSep Finset.univ fun w : Fin 27 => iprop(∃ X, owns (c : Thread nD τ) ((cfg0.win w).stage (cfg0.slots t w)) fullShare X) :=
    bigSep_mono fun w _ => some_of (Y w)
  have htake : (bigSep Finset.univ fun w : Fin 27 => iprop(∃ X, owns (c : Thread nD τ) ((cfg0.win w).stage (cfg0.slots t w)) fullShare X) : sProp 𝕄)
      ⊢ bigSep Finset.univ fun w : Fin 27 =>
          iprop(∃ X, ⌜True⌝ ∗ owns (c : Thread nD τ) ((cfg0.win w).stage (cfg0.slots t w)) fullShare X) :=
    bigSep_mono fun w _ => some_true
  have hin : iprop(Pipeline.ΦA spec0 c ∗ (rdat m c).owesAt () t.castSucc
        ∗ bigSep Finset.univ fun w : Fin 27 => owns (c : Thread nD τ) ((cfg0.win w).stage (cfg0.slots t w)) fullShare (Y w))
      ⊢ iprop(held (c : Thread nD τ) (cells (F := F) t) ∗ ((∃ r, prngReg c r) ∗ (rdat m c).owesAt () t.castSucc)) := by
    iintro ⟨H1, H2, H3⟩
    ihave ⟨Hk, Hp⟩ := (held_kept (F := F) c).2 $$ H1
    isplitl [Hk H3]
    · iapply (held_append (c : Thread nD τ) _ _).2
      isplitl [H3]
      · iapply (held_staged (F := F) c t).2
        iapply hgive; iexact H3
      · iexact Hk
    · isplitl [Hp]; · iexact Hp
      iexact H2
  refine hin.trans ((sep_mono_left ((keeps c t).run (fun _ => held (c : Thread nD τ) (cells (F := F) t)) fun _ => .rfl)).trans
    ((wp_frame_r _ _ _).trans (wp_mono _ _ _ fun _ => ?_)))
  show _ ⊢ iprop(Pipeline.ΦA spec0 c ∗ (rdat m c).owesAt () t.castSucc
    ∗ bigSep Finset.univ fun w : Fin 27 =>
        iprop(∃ X, ⌜True⌝ ∗ owns (c : Thread nD τ) ((cfg0.win w).stage (cfg0.slots t w)) fullShare X))
  iintro ⟨H, Hp, H2⟩
  ihave ⟨H3, Hk⟩ := (held_append (c : Thread nD τ) _ _).1 $$ H
  isplitl [Hk Hp]
  · iapply (held_kept (F := F) c).1
    isplitl [Hk]; · iexact Hk
    iexact Hp
  · isplitl [H2]; · iexact H2
    iapply htake
    iapply (held_staged (F := F) c t).1; iexact H3

-- the launch's implicit arguments are read off its conclusion
set_option backward.isDefEq.respectTransparency.types false in
/-- The launch: the program runs to the end, its input arrays unchanged and its counters at zero. -/
theorem run : θ_run defs (onTc (τ := τ) (main (F := F))) (s₀ m ρ) (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body m) (hq := fun _ _ _ => rfl) (howed := fun _ _ => rfl) (V := V m) (hmain := hmain m Variants.none)
    (hA := fun _ _ => rfl) (hin := fun _ => .rfl) (hout := fun _ => .rfl)

/-- An array the region only reads ends as it was. -/
theorem kept_in {r : PUnit × MemSt nD τ sig (Elt F)} (h : Pipeline.RDat.FramePost (cfgs 0) (rdat m) (V m) r) (c : Dev nD) (w : Fin cfg0.W)
    (hin : (cfg0.win w).isOut = false) {X : Buf (Elt F) ((c.tc : Thread nD τ).loc (Pipeline.arrRef spec0 w))}
    (hX : V m c (Pipeline.arrRef spec0 w) = X) :
    r.2.mem ((cfg0.spec w).arr.view.loc (c.tc : Thread nD τ)) = X :=
  (h.arr_in c w hin).trans hX

/-- What every run ends with: the arrays the call takes as they were, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨kept_in m h.1 c 6 rfl (V_main_arg0 m c), kept_in m h.1 c 7 rfl (V_main_arg1 m c),
    kept_in m h.1 c 8 rfl (V_main_arg2 m c), kept_in m h.1 c 9 rfl (V_main_arg3 m c),
    kept_in m h.1 c 10 rfl (V_main_arg4 m c), kept_in m h.1 c 11 rfl (V_main_arg5 m c),
    kept_in m h.1 c 12 rfl (V_main_arg6 m c), kept_in m h.1 c 13 rfl (V_main_arg7 m c),
    kept_in m h.1 c 14 rfl (V_main_arg8 m c), kept_in m h.1 c 15 rfl (V_main_arg9 m c),
    kept_in m h.1 c 16 rfl (V_main_arg10 m c), kept_in m h.1 c 17 rfl (V_main_arg11 m c),
    kept_in m h.1 c 18 rfl (V_main_arg12 m c)⟩, h.2⟩) (run m ρ)

end Cert.MixFrame

end
-- ==== Proof.MixFwdBody.lean ====
module

public import proofs.«01_k».proof.Proof.Hold
public import proofs.«01_k».proof.Proof.Gen.MixFwdIdeal.Skeleton
public import proofs.«01_k».proof.Proof.Gen.MixFwdIdeal.Points

/-! # The body of the mixer's forward call

It only loads and stores, so it keeps the buffers it is handed. -/

@[expose] public section

set_option maxRecDepth 65536

noncomputable section

namespace Cert.MixFwdBody

open Idealize.ShloMosaic Idealize.ShloMosaic.TcCoe
open Idealize.SL Idealize.SL.Sem
open Cert.MixFwdIdeal Cert.MixFwdIdeal.Gen Cert.Hold

variable {F : FTy → Type} [FloatOps F]

set_option maxHeartbeats 40000000 in
/-- The body keeps what it is handed: of what it only reads, the contents too. -/
theorem body_keeps (c : Dev nD) (L : List (Cell sig (Elt F) .tc)) (i : grid0.Coords)
    (arg1 : Memref sig .tc .vmem S256x1024 .bf16) (harg1 : arg1.IsWhole)
    (arg2 : Memref sig .tc .vmem S256x1024 .bf16) (harg2 : arg2.IsWhole)
    (arg3 : Memref sig .tc .vmem S256x1024 .bf16) (harg3 : arg3.IsWhole)
    (arg4 : Memref sig .tc .vmem S256x1024 .bf16) (harg4 : arg4.IsWhole)
    (arg5 : Memref sig .tc .vmem S256x1024 .bf16) (harg5 : arg5.IsWhole)
    (arg6 : Memref sig .tc .vmem S256x512 .bf16) (harg6 : arg6.IsWhole)
    (arg7 : Memref sig .tc .vmem S256x128 .bf16) (harg7 : arg7.IsWhole)
    (arg8 : Memref sig .tc .vmem S8x1024 .bf16) (harg8 : arg8.IsWhole)
    (arg9 : Memref sig .tc .vmem S8x1024 .bf16) (harg9 : arg9.IsWhole)
    (arg10 : Memref sig .tc .vmem S8x1024 .bf16) (harg10 : arg10.IsWhole)
    (arg11 : Memref sig .tc .vmem S8x512 .bf16) (harg11 : arg11.IsWhole)
    (arg12 : Memref sig .tc .vmem S8x1024 .f32) (harg12 : arg12.IsWhole)
    (arg13 : Memref sig .tc .vmem S8x1024 .f32) (harg13 : arg13.IsWhole)
    (arg14 : Memref sig .tc .vmem S8x512 .f32) (harg14 : arg14.IsWhole)
    (arg15 : Memref sig .tc .vmem S1x1x1024 .f32) (harg15 : arg15.IsWhole)
    (arg16 : Memref sig .tc .vmem S1x1x512 .f32) (harg16 : arg16.IsWhole)
    (arg17 : Memref sig .tc .vmem S1x1x128 .f32) (harg17 : arg17.IsWhole)
    (arg18 : Memref sig .tc .vmem S1x1x128 .f32) (harg18 : arg18.IsWhole)
    (arg19 : Memref sig .tc .vmem S1x1x1024 .f32) (harg19 : arg19.IsWhole)
    (arg20 : Memref sig .tc .vmem S1x1x1024 .f32) (harg20 : arg20.IsWhole)
    (arg21 : Memref sig .tc .vmem S128x1024 .bf16) (harg21 : arg21.IsWhole)
    (arg22 : Memref sig .tc .vmem S256x2048 .bf16) (harg22 : arg22.IsWhole)
    (arg23 : Memref sig .tc .vmem S4x128x1024 .bf16) (harg23 : arg23.IsWhole)
    (arg24 : Memref sig .tc .vmem S256x3584 .bf16) (harg24 : arg24.IsWhole)
    (arg25 : Memref sig .tc .vmem S128x1024 .f32) (harg25 : arg25.IsWhole)
    (arg26 : Memref sig .tc .vmem S256x1024 .f32) (harg26 : arg26.IsWhole)
    (arg27 : Memref sig .tc .vmem S256x512 .f32) (harg27 : arg27.IsWhole)
    (arg28 : Memref sig .tc .vmem S256x1024 .f32) (harg28 : arg28.IsWhole)
    (arg29 : Memref sig .tc .vmem S256x1024 .f32) (harg29 : arg29.IsWhole)
    (arg30 : Memref sig .tc .vmem S256x1024 .f32) (harg30 : arg30.IsWhole)
    (Φ1 : (S256x1024.Idx → Elt F .bf16) → Prop) (Φ2 : (S256x1024.Idx → Elt F .bf16) → Prop)
    (Φ3 : (S256x1024.Idx → Elt F .bf16) → Prop) (Φ4 : (S256x1024.Idx → Elt F .bf16) → Prop)
    (Φ5 : (S256x1024.Idx → Elt F .bf16) → Prop) (Φ6 : (S256x512.Idx → Elt F .bf16) → Prop)
    (Φ7 : (S256x128.Idx → Elt F .bf16) → Prop) (Φ8 : (S8x1024.Idx → Elt F .bf16) → Prop)
    (Φ9 : (S8x1024.Idx → Elt F .bf16) → Prop) (Φ10 : (S8x1024.Idx → Elt F .bf16) → Prop)
    (Φ11 : (S8x512.Idx → Elt F .bf16) → Prop) (Φ12 : (S8x1024.Idx → Elt F .f32) → Prop)
    (Φ13 : (S8x1024.Idx → Elt F .f32) → Prop) (Φ14 : (S8x512.Idx → Elt F .f32) → Prop)
    (Φ15 : (S1x1x1024.Idx → Elt F .f32) → Prop) (Φ16 : (S1x1x512.Idx → Elt F .f32) → Prop)
    (Φ17 : (S1x1x128.Idx → Elt F .f32) → Prop) (Φ18 : (S1x1x128.Idx → Elt F .f32) → Prop)
    (Φ19 : (S1x1x1024.Idx → Elt F .f32) → Prop) (Φ20 : (S1x1x1024.Idx → Elt F .f32) → Prop)
    (Φ21 : (S128x1024.Idx → Elt F .bf16) → Prop)
    (hL : ∀ x ∈ ([⟨arg1, Φ1⟩, ⟨arg2, Φ2⟩, ⟨arg3, Φ3⟩, ⟨arg4, Φ4⟩, ⟨arg5, Φ5⟩, ⟨arg6, Φ6⟩, ⟨arg7, Φ7⟩, ⟨arg8, Φ8⟩, ⟨arg9, Φ9⟩,
      ⟨arg10, Φ10⟩, ⟨arg11, Φ11⟩, ⟨arg12, Φ12⟩, ⟨arg13, Φ13⟩, ⟨arg14, Φ14⟩, ⟨arg15, Φ15⟩, ⟨arg16, Φ16⟩, ⟨arg17, Φ17⟩,
      ⟨arg18, Φ18⟩, ⟨arg19, Φ19⟩, ⟨arg20, Φ20⟩, ⟨arg21, Φ21⟩, ⟨arg22, fun _ => True⟩, ⟨arg23, fun _ => True⟩,
      ⟨arg24, fun _ => True⟩, ⟨arg25, fun _ => True⟩, ⟨arg26, fun _ => True⟩, ⟨arg27, fun _ => True⟩,
      ⟨arg28, fun _ => True⟩, ⟨arg29, fun _ => True⟩, ⟨arg30, fun _ => True⟩] :
        List (Cell sig (Elt F) .tc)), x ∈ L) :
    Keeps (Ix := Unit) (Name := ℕ) (U := UR sig nD τ) (Lvl := ℕ) Variants.none (c : Thread nD τ) none .empty Set.univ
      (defs₀ (F := F)) L
      (cc0_mixer_fwd i
        arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17
        arg18 harg18 arg19 harg19 arg20 harg20 arg21 harg21 arg22 harg22 arg23 harg23 arg24 harg24 arg25 harg25
        arg26 harg26 arg27 harg27 arg28 harg28 arg29 harg29 arg30 harg30) := by
  simp only [List.forall_mem_cons] at hL
  obtain ⟨h1, h2, h3, h4, h5, h6, h7, h8, h9, h10, h11, h12, h13, h14, h15, h16, h17, h18, h19, h20, h21, h22, h23, h24, h25, h26, h27, h28, h29, h30, _⟩ := hL
  rw [cc0_mixer_fwd_eq_skeleton]
  delta cc0_mixer_fwd_skel
  repeat' first
    | with_reducible exact keeps_load (by assumption)
    | with_reducible exact keeps_store (by assumption) (stays_true _)
    | with_reducible exact keeps_pure _
    | with_reducible apply keeps_bind
    | with_reducible apply keeps_dite
    | intro _
    | split
    | (simp only [k0_part1_eq_skeleton, k0_part2_eq_skeleton, k0_part3_eq_skeleton, k0_part4_eq_skeleton, k0_part5_eq_skeleton,
        k0_part6_eq_skeleton, k0_part7_eq_skeleton, k0_part8_eq_skeleton, k0_part9_eq_skeleton, k0_part10_eq_skeleton,
        k0_part11_eq_skeleton, k0_part12_eq_skeleton, k0_part13_eq_skeleton, k0_part14_eq_skeleton,
        k0_part15_eq_skeleton, k0_part16_eq_skeleton, k0_part17_eq_skeleton, k0_part18_eq_skeleton,
        k0_part19_eq_skeleton, k0_part20_eq_skeleton, k0_part21_eq_skeleton, k0_part22_eq_skeleton,
        k0_part23_eq_skeleton, k0_part24_eq_skeleton, k0_part25_eq_skeleton, k0_part26_eq_skeleton,
        k0_part27_eq_skeleton, k0_part28_eq_skeleton, k0_part29_eq_skeleton, k0_part30_eq_skeleton,
        k0_part31_eq_skeleton, k0_part32_eq_skeleton, k0_part33_eq_skeleton, k0_part34_eq_skeleton,
        k0_part35_eq_skeleton]
       delta k0_part1_skel k0_part2_skel k0_part3_skel k0_part4_skel k0_part5_skel k0_part6_skel k0_part7_skel
        k0_part8_skel k0_part9_skel k0_part10_skel k0_part11_skel k0_part12_skel k0_part13_skel k0_part14_skel
        k0_part15_skel k0_part16_skel k0_part17_skel k0_part18_skel k0_part19_skel k0_part20_skel k0_part21_skel
        k0_part22_skel k0_part23_skel k0_part24_skel k0_part25_skel k0_part26_skel k0_part27_skel k0_part28_skel
        k0_part29_skel k0_part30_skel k0_part31_skel k0_part32_skel k0_part33_skel k0_part34_skel k0_part35_skel)

end Cert.MixFwdBody
-- ==== Proof.MixFwdFrame.lean ====
module

public import proofs.«01_k».proof.Proof.MixFwdBody
public import proofs.«01_k».proof.Proof.Gen.MixFwdIdeal.Frame.Runs
public import Idealize.ShloMosaic.Lib.Claim

/-! # The mixer's forward call runs and leaves its arguments alone

Nothing is said of what the call computes: at every point of the grid its body keeps the buffers it is handed
(`Cert.MixFwdBody.body_keeps`), so the pipeline around it runs to the end, and no array it only reads is changed. -/

@[expose] public section

set_option maxRecDepth 16384

noncomputable section

namespace Cert.MixFwdFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixFwdIdeal Cert.MixFwdIdeal.Gen Cert.Hold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' staging buffers at a point, nothing known of their contents. -/
abbrev staged (t : Fin cfg0.N) (w : Fin 24) : Cell sig (Elt F) .tc := ⟨(cfg0.win w).stage (cfg0.slots t w), fun _ => True⟩

/-- The windows in order. -/
abbrev wins : List (Fin 24) :=
  [0, 1, 2, 3, 4, 5, 6, 7, 8, 9, 10, 11, 12, 13, 14, 15, 16, 17, 18, 19, 20, 21, 22, 23]

/-- The buffers the call keeps between its points. -/
abbrev kept : List (Cell sig (Elt F) .tc) :=
  [⟨Memref.whole cc0_scratch0, fun _ => True⟩, ⟨Memref.whole cc0_scratch1, fun _ => True⟩,
   ⟨Memref.whole cc0_scratch2, fun _ => True⟩, ⟨Memref.whole cc0_scratch3, fun _ => True⟩,
   ⟨Memref.whole cc0_scratch4, fun _ => True⟩, ⟨Memref.whole cc0_scratch5, fun _ => True⟩]

/-- A buffer with nothing known of its contents. -/
abbrev forget (x : Cell sig (Elt F) .tc) : Cell sig (Elt F) .tc := ⟨x.ref, fun _ => True⟩

/-- Everything the body is handed at a point. -/
abbrev cells (t : Fin cfg0.N) : List (Cell sig (Elt F) .tc) := wins.map (staged t) ++ kept.map forget

/-- The body keeps what it is handed. -/
theorem keeps (c : Dev nD) (t : Fin cfg0.N) :
    Keeps (Ix := Unit) (Name := ℕ) (U := UR sig nD τ) (Lvl := ℕ) Variants.none (c : Thread nD τ) none .empty Set.univ
      (defs₀ (F := F)) (cells t) (bodyAt0 t) :=
  MixFwdBody.body_keeps c (cells t) (grid0.coords t)
    _ _ _ _ _ _ _ _ _ _ _ _ _ _ _ _ _ _ _ _ _ _ _ _ _ _ _ _ _ _ _ _ _ _ _ _ _ _ _ _ _ _ _ _ _ _ _ _ _ _ _ _ _ _ _ _ _
    _ _ _ (fun _ => True) (fun _ => True) (fun _ => True) (fun _ => True) (fun _ => True) (fun _ => True)
    (fun _ => True) (fun _ => True) (fun _ => True) (fun _ => True) (fun _ => True) (fun _ => True) (fun _ => True)
    (fun _ => True) (fun _ => True) (fun _ => True) (fun _ => True) (fun _ => True) (fun _ => True) (fun _ => True)
    (fun _ => True)
    fun _ h => h

/-- The staging buffers in any state are the first part of what the body is handed. -/
theorem held_staged (c : Dev nD) (t : Fin cfg0.N) :
    (held (c : Thread nD τ) (wins.map (staged (F := F) t)) : sProp 𝕄)
      ⊣⊢ bigSep Finset.univ fun w : Fin 24 => iprop(∃ X, owns (c : Thread nD τ) ((cfg0.win w).stage (cfg0.slots t w)) fullShare X) := by
  rw [bigSep_univ_eq_bigSepL wins (by decide) (by decide)]
  exact held_any (c : Thread nD τ) (staged (F := F) t) (fun _ => rfl) wins

/-- The buffers kept between points, in any state, with the generator's register, are the region's invariant. -/
theorem held_kept (c : Dev nD) :
    iprop((held (c : Thread nD τ) ((kept (F := F)).map forget) : sProp 𝕄) ∗ ∃ r, prngReg c r) ⊣⊢ Pipeline.ΦA spec0 c := by
  unfold Pipeline.ΦA
  rw [scopedRest0_eq]
  simp only [← owns_whole]
  exact sep_congr (held_any (c : Thread nD τ) (forget (F := F)) (fun _ => rfl) kept) .rfl

/-- What is said of the pipeline: its arrays are as the region finds them, and of what the body writes nothing. -/
def rdat (c : Dev nD) : Pipeline.RDat τ (Elt F) Unit ℕ (UR sig nD τ) ℕ (cfgs 0) c where
  A w := V m c (Pipeline.arrRef spec0 w)
  after _ _ _ _ := True
  Φ _ := Pipeline.ΦA spec0 c
  q w := Pipeline.shareOf spec0 w
  owed _ := 0

/-- The table's entry for the kernel is its body. -/
theorem row (t : Fin cfg0.N) : defs₀ (F := F) .tc cfg0.body (cfg0.bodyArgs t (cfg0.slots t)) = bodyAt0 t := by
  unfold defs₀; rw [Defs.onTc_tc]

theorem body (c : Dev nD) : (rdat m c).BodyObligation (defs₀ (F := F)) Variants.none () Set.univ := fun t Y _ => by
  have hr : defs₀ (F := F) .tc (cfgs 0).body ((cfgs 0).bodyArgs t ((cfgs 0).slots t)) = bodyAt0 t := row t
  rw [hr]
  show iprop(Pipeline.ΦA spec0 c ∗ (rdat m c).owesAt () t.castSucc ∗ _) ⊢ _
  have hgive : (bigSep Finset.univ fun w : Fin 24 => owns (c : Thread nD τ) ((cfg0.win w).stage (cfg0.slots t w)) fullShare (Y w) : sProp 𝕄)
      ⊢ bigSep Finset.univ fun w : Fin 24 => iprop(∃ X, owns (c : Thread nD τ) ((cfg0.win w).stage (cfg0.slots t w)) fullShare X) :=
    bigSep_mono fun w _ => some_of (Y w)
  have htake : (bigSep Finset.univ fun w : Fin 24 => iprop(∃ X, owns (c : Thread nD τ) ((cfg0.win w).stage (cfg0.slots t w)) fullShare X) : sProp 𝕄)
      ⊢ bigSep Finset.univ fun w : Fin 24 =>
          iprop(∃ X, ⌜True⌝ ∗ owns (c : Thread nD τ) ((cfg0.win w).stage (cfg0.slots t w)) fullShare X) :=
    bigSep_mono fun w _ => some_true
  have hin : iprop(Pipeline.ΦA spec0 c ∗ (rdat m c).owesAt () t.castSucc
        ∗ bigSep Finset.univ fun w : Fin 24 => owns (c : Thread nD τ) ((cfg0.win w).stage (cfg0.slots t w)) fullShare (Y w))
      ⊢ iprop(held (c : Thread nD τ) (cells (F := F) t) ∗ ((∃ r, prngReg c r) ∗ (rdat m c).owesAt () t.castSucc)) := by
    iintro ⟨H1, H2, H3⟩
    ihave ⟨Hk, Hp⟩ := (held_kept (F := F) c).2 $$ H1
    isplitl [Hk H3]
    · iapply (held_append (c : Thread nD τ) _ _).2
      isplitl [H3]
      · iapply (held_staged (F := F) c t).2
        iapply hgive; iexact H3
      · iexact Hk
    · isplitl [Hp]; · iexact Hp
      iexact H2
  refine hin.trans ((sep_mono_left ((keeps c t).run (fun _ => held (c : Thread nD τ) (cells (F := F) t)) fun _ => .rfl)).trans
    ((wp_frame_r _ _ _).trans (wp_mono _ _ _ fun _ => ?_)))
  show _ ⊢ iprop(Pipeline.ΦA spec0 c ∗ (rdat m c).owesAt () t.castSucc
    ∗ bigSep Finset.univ fun w : Fin 24 =>
        iprop(∃ X, ⌜True⌝ ∗ owns (c : Thread nD τ) ((cfg0.win w).stage (cfg0.slots t w)) fullShare X))
  iintro ⟨H, Hp, H2⟩
  ihave ⟨H3, Hk⟩ := (held_append (c : Thread nD τ) _ _).1 $$ H
  isplitl [Hk Hp]
  · iapply (held_kept (F := F) c).1
    isplitl [Hk]; · iexact Hk
    iexact Hp
  · isplitl [H2]; · iexact H2
    iapply htake
    iapply (held_staged (F := F) c t).1; iexact H3

-- the launch's implicit arguments are read off its conclusion
set_option backward.isDefEq.respectTransparency.types false in
/-- The launch: the program runs to the end, its input arrays unchanged and its counters at zero. -/
theorem run : θ_run defs (onTc (τ := τ) (main (F := F))) (s₀ m ρ) (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body m) (hq := fun _ _ _ => rfl) (howed := fun _ _ => rfl) (V := V m) (hmain := hmain m Variants.none)
    (hA := fun _ _ => rfl) (hin := fun _ => .rfl) (hout := fun _ => .rfl)

/-- An array the region only reads ends as it was. -/
theorem kept_in {r : PUnit × MemSt nD τ sig (Elt F)} (h : Pipeline.RDat.FramePost (cfgs 0) (rdat m) (V m) r) (c : Dev nD) (w : Fin cfg0.W)
    (hin : (cfg0.win w).isOut = false) {X : Buf (Elt F) ((c.tc : Thread nD τ).loc (Pipeline.arrRef spec0 w))}
    (hX : V m c (Pipeline.arrRef spec0 w) = X) :
    r.2.mem ((cfg0.spec w).arr.view.loc (c.tc : Thread nD τ)) = X :=
  (h.arr_in c w hin).trans hX

/-- What every run ends with: the arrays the call takes as they were, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨kept_in m h.1 c 10 rfl (V_main_arg0 m c), kept_in m h.1 c 11 rfl (V_main_arg1 m c),
    kept_in m h.1 c 12 rfl (V_main_arg2 m c), kept_in m h.1 c 13 rfl (V_main_arg3 m c),
    kept_in m h.1 c 14 rfl (V_main_arg4 m c), kept_in m h.1 c 15 rfl (V_main_arg5 m c),
    kept_in m h.1 c 16 rfl (V_main_arg6 m c), kept_in m h.1 c 17 rfl (V_main_arg7 m c),
    kept_in m h.1 c 18 rfl (V_main_arg8 m c), kept_in m h.1 c 19 rfl (V_main_arg9 m c)⟩, h.2⟩) (run m ρ)

end Cert.MixFwdFrame

end
-- ==== Proof.MixClaim.lean ====
/-
  The frames of the mixer's two calls as the kernel rounds: the programs have the text of the ones whose run is proved, and that
  proof holds over any float values.
-/
module

public import proofs.«01_k».proof.Defs
public import proofs.«01_k».proof.Proof.MixFrame
public import proofs.«01_k».proof.Proof.MixFwdFrame
public import proofs.«01_k».proof.Proof.Gen.MixBwd
public import proofs.«01_k».proof.Proof.Gen.MixFwd

@[expose] public section

namespace Cert.MixClaim

open Idealize.ShloMosaic Idealize.SL.Sem

theorem frame_backward : Cert.quiescent_MixBwd (hMixBwd := Cert.MixBwd.Gen.facts) := by
  have h := fun m ρ (_ : True) => Cert.MixFrame.frame (F := Bits) m ρ
  have e : (type_of% h) = Cert.quiescent_MixBwd (hMixBwd := Cert.MixBwd.Gen.facts) := by sl_kernel_rfl
  exact e.mp h

theorem frame_forward : Cert.quiescent_MixFwd (hMixFwd := Cert.MixFwd.Gen.facts) := by
  have h := fun m ρ (_ : True) => Cert.MixFwdFrame.frame (F := Bits) m ρ
  have e : (type_of% h) = Cert.quiescent_MixFwd (hMixFwd := Cert.MixFwd.Gen.facts) := by sl_kernel_rfl
  exact e.mp h

end Cert.MixClaim
-- ==== Proof.MlpDxRef.lean ====
/-
  The second norm's gradient through the up-projection, as the reference differentiates it, read at an index.
-/
module

public import proofs.«01_k».proof.Proof.NormSpec
public import proofs.«01_k».proof.Proof.Gen.MlpDxRefIdeal.Read
public import Idealize.ShloMosaic.Lib.Pointwise

@[expose] public section

set_option maxRecDepth 16384

noncomputable section

namespace Cert.MlpDxRef

open Idealize.ShloMosaic Idealize.ShloMosaic.Pointwise Cert.MlpDxRefIdeal Cert.MlpDxRefIdeal.Read Cert.RmsRow Cert.NormSpec

variable {X : Fin 8192 → Fin 1024 → ℝ} {R : Fin 8192 → Fin 1024 → EReal} {W : Fin 1024 → ℝ} {M : Fin 1024 → Fin 4096 → ℝ} {U : Fin 8192 → Fin 4096 → ℝ}
  {x s : (⟨S8192x1024, .f32⟩ : BufTy).Contents (Elt Ideal)} {w : (⟨S1024, .f32⟩ : BufTy).Contents (Elt Ideal)}
  {p : (⟨S1024x4096, .f32⟩ : BufTy).Contents (Elt Ideal)} {u : (⟨S8192x4096, .f32⟩ : BufTy).Contents (Elt Ideal)}

theorem v6 (hx : ∀ r c, x (ix2 r c) = (X r c : EReal)) (r : Fin 8192) (z : Fin 1) :
    val_main_v6 (F := Ideal) x (ix2 r z) = ((under 1024 (X r) : ℝ) : EReal) := by
  pointwise [val_main_v6, val_main_v5, val_main_v4, val_main_v3, val_main_v2, val_main_v1, val_main_v0,
    val_main_cst, val_main_cst_0, val_main_cst_1]
  simp only [hx, word_1024, eps_word, zero_add]
  exact under_eq (by norm_num) (X r)

theorem v7 (hx : ∀ r c, x (ix2 r c) = (X r c : EReal)) (r : Fin 8192) (z : Fin 1) :
    val_main_v7 (F := Ideal) x (ix2 r z) = ((inv 1024 (X r) : ℝ) : EReal) := by
  pointwise [val_main_v7]
  rw [v6 hx]
  exact rsqrt_under (by norm_num) (X r)

theorem v10 (hx : ∀ r c, x (ix2 r c) = (X r c : EReal)) (r : Fin 8192) (z : Fin 1) :
    val_main_v10 (F := Ideal) x (ix2 r z)
      = ((-(1 / 2) : ℝ) : EReal) * Ideal.div ((inv 1024 (X r) : ℝ) : EReal) ((under 1024 (X r) : ℝ) : EReal) := by
  pointwise [val_main_v10, val_main_v9, val_main_v8, val_main_cst_2]
  rw [v6 hx, v7 hx, word_neg_half]

/-- The product's cotangent brought back. -/
theorem v17 (hp : ∀ c k, p (ix2 c k) = (M c k : EReal)) (hu : ∀ r k, u (ix2 r k) = (U r k : EReal)) (r : Fin 8192) (c : Fin 1024) :
    val_main_v17 (F := Ideal) p u (ix2 r c) = ((dh M U r c : ℝ) : EReal) := by
  pointwise [val_main_v17]
  simp only [hp, hu, ← EReal.coe_mul, ← coe_sum]
  rfl

theorem v22 (hw : ∀ c, w (ix1 c) = (W c : EReal)) (hp : ∀ c k, p (ix2 c k) = (M c k : EReal))
    (hu : ∀ r k, u (ix2 r k) = (U r k : EReal)) (r : Fin 8192) (c : Fin 1024) :
    val_main_v22 (F := Ideal) w p u (ix2 r c) = ((dh M U r c * W c : ℝ) : EReal) := by
  pointwise [val_main_v22, val_main_v21, val_main_v13]
  rw [v17 hp hu, hw, ← EReal.coe_mul]

/-- The share of an entry in the derivative of the row's factor. -/
theorem v34 (hx : ∀ r c, x (ix2 r c) = (X r c : EReal)) (hw : ∀ c, w (ix1 c) = (W c : EReal))
    (hp : ∀ c k, p (ix2 c k) = (M c k : EReal)) (hu : ∀ r k, u (ix2 r k) = (U r k : EReal)) (r : Fin 8192) (c : Fin 1024) :
    val_main_v34 (F := Ideal) x w p u (ix2 r c) = ((rootShare 1024 (X r) (fun k => dh M U r k * W k) : ℝ) : EReal) := by
  pointwise [val_main_v34, val_main_v33, val_main_v32, val_main_v31, val_main_v30, val_main_v26, val_main_v25,
    val_main_v24, val_main_cst_5, val_main_cst_6, val_main_cst_7]
  simp only [Fin.sum_univ_one, hx, v22 hw hp hu, v10 hx, word_1024]
  exact rootShare_eq (show (0 : ℝ) < 1024 by norm_num) (X r) fun k => dh M U r k * W k

/-- The derivative by the activations. -/
theorem v38 (hx : ∀ r c, x (ix2 r c) = (X r c : EReal)) (hw : ∀ c, w (ix1 c) = (W c : EReal))
    (hp : ∀ c k, p (ix2 c k) = (M c k : EReal)) (hu : ∀ r k, u (ix2 r k) = (U r k : EReal))
    (hs : ∀ r c, s (ix2 r c) = R r c) (r : Fin 8192) (c : Fin 1024) :
    val_main_v38 (F := Ideal) x w p u s (ix2 r c) = dx X R W M U r c := by
  pointwise [val_main_v38, val_main_v37, val_main_v36, val_main_v35, val_main_v29, val_main_v28, val_main_v27]
  rw [hx, hs, v22 hw hp hu, v34 hx hw hp hu, v7 hx, add_assoc, add_assoc, ← add_assoc (_ * _),
    normGrad_vjp (show (0 : ℝ) < 1024 by norm_num) (X r) (fun k => dh M U r k * W k) c]
  rfl

theorem v39 (hx : ∀ r c, x (ix2 r c) = (X r c : EReal)) (hw : ∀ c, w (ix1 c) = (W c : EReal))
    (hp : ∀ c k, p (ix2 c k) = (M c k : EReal)) (hu : ∀ r k, u (ix2 r k) = (U r k : EReal))
    (hs : ∀ r c, s (ix2 r c) = R r c) (r : Fin 8192) (c : Fin 1024) :
    val_main_v39 (F := Ideal) x w p u s (ix2 r c) = dx X R W M U r c := by
  pointwise [val_main_v39]
  exact v38 hx hw hp hu hs r c

/-- The derivative by the weight, above seven rows of zeros. -/
theorem v42 (hx : ∀ r c, x (ix2 r c) = (X r c : EReal)) (hp : ∀ c k, p (ix2 c k) = (M c k : EReal))
    (hu : ∀ r k, u (ix2 r k) = (U r k : EReal)) (a : Fin 8) (c : Fin 1024) :
    val_main_v42 (F := Ideal) x p u (ix2 a c) = if a.val = 0 then ((dw X M U c : ℝ) : EReal) else 0 := by
  pointwise [val_main_v42, val_main_v41, val_main_v40, val_main_v23, val_main_v20, val_main_v19, val_main_v18, val_main_v12,
    val_main_v11, val_main_cst_3, val_main_cst_4, val_main_cst_8]
  simp only [Fin.sum_univ_one, hx, v7 hx, v17 hp hu, ← EReal.coe_mul, ← coe_sum]
  have hs : (∑ r, X r c * inv 1024 (X r) * dh M U r c) = dw X M U c := Finset.sum_congr rfl fun r _ => mul_comm _ _
  rw [hs]
  by_cases h : a.val = 0
  · rw [if_pos h, dif_pos (by omega)]
  · rw [if_neg h, dif_neg (by omega)]

end Cert.MlpDxRef

end
-- ==== Proof.MlpDxKernel.lean ====
/-
  The second norm's gradient through the up-projection, as the kernel computes it. Every grid point takes 512 rows: it
  multiplies their cotangents by the matrix in eight blocks of columns, writes the rows' derivative and adds their share of
  the weight's derivative to a block that the first point clears.
-/
module

public import proofs.«01_k».proof.Proof.NormSpec
public import proofs.«01_k».proof.Proof.RowStore
public import proofs.«01_k».proof.Proof.LossKernel
public import proofs.«01_k».proof.Proof.Gen.MlpDxIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MlpDxKernel

open Idealize.ShloMosaic Idealize.ShloMosaic.TcCoe Cert.MlpDxIdeal Cert.MlpDxIdeal.Gen Cert.RmsRow Cert.NormSpec

/-! ## One block of rows -/

section Block

variable {B : Fin 512 → Fin 1024 → ℝ} {Q : Fin 512 → Fin 1024 → EReal} {G : Fin 512 → Fin 1024 → ℝ} {W : Fin 1024 → ℝ} {M : Fin 1024 → Fin 4096 → ℝ} {U : Fin 512 → Fin 4096 → ℝ}
  {x s g : Vec Ideal S512x1024 .f32} {w : Vec Ideal S1x1024 .f32} {u : Vec Ideal S512x4096 .bf16} {p : Vec Ideal S8x1024x512 .bf16}

/-- Columns `o`, …, `o + 511` of the cotangents. -/
theorem ld_cols (hu : ∀ r k, u (ix2 r k) = (U r k : EReal)) (o : Nat) (ho : o + 512 ≤ 4096) (inb) (r k : Fin 512) :
    View.ld u (Rect.unit (s := S512x4096) ![0, o] ![512, 512] inb) (ix2 r k) = (U r ⟨o + k.val, by omega⟩ : EReal) := by
  rw [← hu]
  refine congrArg u (funext fun a => Fin.ext ?_)
  match a with
  | ⟨0, _⟩ => show 0 + 1 * r.val = r.val; omega
  | ⟨1, _⟩ => show o + 1 * k.val = o + k.val; omega

/-- Block `b` of the matrix. -/
theorem ld_mat (hp : ∀ (b : Fin 8) c (k : Fin 512), p (ix3 b c k) = (M c ⟨b.val * 512 + k.val, by omega⟩ : EReal)) (b : Nat) (hb : b < 8) (inb)
    (z : Fin 1) (c : Fin 1024) (k : Fin 512) :
    View.ld p (Rect.unit (s := S8x1024x512) ![b, 0, 0] ![1, 1024, 512] inb) (ix3 z c k) = (M c ⟨b * 512 + k.val, by omega⟩ : EReal) := by
  rw [← hp ⟨b, hb⟩ c k]
  refine congrArg p (funext fun a => Fin.ext ?_)
  match a with
  | ⟨0, _⟩ => show b + 1 * z.val = b; omega
  | ⟨1, _⟩ => show 0 + 1 * c.val = c.val; omega
  | ⟨2, _⟩ => show 0 + 1 * k.val = k.val; omega

/-- The product of a block of cotangents with the matrix, block of columns by block of columns. -/
abbrev prod (u : Vec Ideal S512x4096 .bf16) (p : Vec Ideal S8x1024x512 .bf16) : Vec Ideal S512x1024 .f32 :=
  k0_pay7
    (k0_pay5 (View.ld u (Rect.unit ![0, 0] ![512, 512] inb_S512x4096_S512x512_0_0))
      (View.ld p (Rect.unit ![0, 0, 0] ![1, 1024, 512] inb_S8x1024x512_S1x1024x512_0_0_0))
      (View.ld u (Rect.unit ![0, 512] ![512, 512] inb_S512x4096_S512x512_0_512))
      (View.ld p (Rect.unit ![1, 0, 0] ![1, 1024, 512] inb_S8x1024x512_S1x1024x512_1_0_0))
      (View.ld u (Rect.unit ![0, 1024] ![512, 512] inb_S512x4096_S512x512_0_1024))
      (View.ld p (Rect.unit ![2, 0, 0] ![1, 1024, 512] inb_S8x1024x512_S1x1024x512_2_0_0))
      (View.ld u (Rect.unit ![0, 1536] ![512, 512] inb_S512x4096_S512x512_0_1536))
      (View.ld p (Rect.unit ![3, 0, 0] ![1, 1024, 512] inb_S8x1024x512_S1x1024x512_3_0_0)))
    (k0_pay6 (View.ld u (Rect.unit ![0, 2048] ![512, 512] inb_S512x4096_S512x512_0_2048)))
    (View.ld p (Rect.unit ![4, 0, 0] ![1, 1024, 512] inb_S8x1024x512_S1x1024x512_4_0_0))
    (View.ld u (Rect.unit ![0, 2560] ![512, 512] inb_S512x4096_S512x512_0_2560))
    (View.ld p (Rect.unit ![5, 0, 0] ![1, 1024, 512] inb_S8x1024x512_S1x1024x512_5_0_0))
    (View.ld u (Rect.unit ![0, 3072] ![512, 512] inb_S512x4096_S512x512_0_3072))
    (View.ld p (Rect.unit ![6, 0, 0] ![1, 1024, 512] inb_S8x1024x512_S1x1024x512_6_0_0))
    (View.ld u (Rect.unit ![0, 3584] ![512, 512] inb_S512x4096_S512x512_0_3584))
    (View.ld p (Rect.unit ![7, 0, 0] ![1, 1024, 512] inb_S8x1024x512_S1x1024x512_7_0_0))

/-- The first four blocks of columns. -/
theorem pay5 {A C : Fin 8 → Fin 512 → ℝ} {a0 a1 a2 a3 : Vec Ideal S512x512 .bf16} {b0 b1 b2 b3 : Vec Ideal S1x1024x512 .bf16} (r : Fin 512)
    (c : Fin 1024) (ha0 : ∀ k, a0 (ix2 r k) = (A 0 k : EReal)) (hb0 : ∀ z k, b0 (ix3 z c k) = (C 0 k : EReal))
    (ha1 : ∀ k, a1 (ix2 r k) = (A 1 k : EReal)) (hb1 : ∀ z k, b1 (ix3 z c k) = (C 1 k : EReal))
    (ha2 : ∀ k, a2 (ix2 r k) = (A 2 k : EReal)) (hb2 : ∀ z k, b2 (ix3 z c k) = (C 2 k : EReal))
    (ha3 : ∀ k, a3 (ix2 r k) = (A 3 k : EReal)) (hb3 : ∀ z k, b3 (ix3 z c k) = (C 3 k : EReal)) :
    k0_pay5 (F := Ideal) a0 b0 a1 b1 a2 b2 a3 b3 (ix2 r c)
      = ((∑ k, A 0 k * C 0 k + ∑ k, A 1 k * C 1 k + ∑ k, A 2 k * C 2 k + ∑ k, A 3 k * C 3 k : ℝ) : EReal) := by
  pointwise [k0_pay5]
  simp only [ha0, hb0, ha1, hb1, ha2, hb2, ha3, hb3, ← EReal.coe_mul, ← coe_sum, ← EReal.coe_add]

/-- The other four, added to the first four. -/
theorem pay7 {A C : Fin 8 → Fin 512 → ℝ} {S : ℝ} {v : Vec Ideal S512x1024 .f32} {a4 a5 a6 a7 : Vec Ideal S512x512 .bf16}
    {b4 b5 b6 b7 : Vec Ideal S1x1024x512 .bf16} (r : Fin 512)
    (c : Fin 1024) (hv : v (ix2 r c) = (S : EReal)) (ha4 : ∀ k, a4 (ix2 r k) = (A 4 k : EReal)) (hb4 : ∀ z k, b4 (ix3 z c k) = (C 4 k : EReal))
    (ha5 : ∀ k, a5 (ix2 r k) = (A 5 k : EReal)) (hb5 : ∀ z k, b5 (ix3 z c k) = (C 5 k : EReal))
    (ha6 : ∀ k, a6 (ix2 r k) = (A 6 k : EReal)) (hb6 : ∀ z k, b6 (ix3 z c k) = (C 6 k : EReal))
    (ha7 : ∀ k, a7 (ix2 r k) = (A 7 k : EReal)) (hb7 : ∀ z k, b7 (ix3 z c k) = (C 7 k : EReal)) :
    k0_pay7 (F := Ideal) v (k0_pay6 a4) b4 a5 b5 a6 b6 a7 b7 (ix2 r c)
      = ((S + ∑ k, A 4 k * C 4 k + ∑ k, A 5 k * C 5 k + ∑ k, A 6 k * C 6 k + ∑ k, A 7 k * C 7 k : ℝ) : EReal) := by
  pointwise [k0_pay7, k0_pay6]
  simp only [hv, ha4, hb4, ha5, hb5, ha6, hb6, ha7, hb7, ← EReal.coe_mul, ← coe_sum, ← EReal.coe_add]

theorem prod_eq (hu : ∀ r k, u (ix2 r k) = (U r k : EReal))
    (hp : ∀ (b : Fin 8) c (k : Fin 512), p (ix3 b c k) = (M c ⟨b.val * 512 + k.val, by omega⟩ : EReal)) (r : Fin 512) (c : Fin 1024) :
    prod u p (ix2 r c) = ((∑ k, U r k * M c k : ℝ) : EReal) := by
  have hc (b : Fin 8) (inb) (k : Fin 512) : View.ld u (Rect.unit (s := S512x4096) ![0, b.val * 512] ![512, 512] inb) (ix2 r k) = _ :=
    ld_cols hu (b.val * 512) (by omega) inb r k
  have hm (b : Fin 8) (inb) (z : Fin 1) (k : Fin 512) :
      View.ld p (Rect.unit (s := S8x1024x512) ![b.val, 0, 0] ![1, 1024, 512] inb) (ix3 z c k) = _ :=
    ld_mat hp b.val b.isLt inb z c k
  refine (pay7 (A := fun b k => U r ⟨b.val * 512 + k.val, by omega⟩) (C := fun b k => M c ⟨b.val * 512 + k.val, by omega⟩) r c
    (pay5 (A := fun b k => U r ⟨b.val * 512 + k.val, by omega⟩) (C := fun b k => M c ⟨b.val * 512 + k.val, by omega⟩) r c
      (hc 0 _) (hm 0 _) (hc 1 _) (hm 1 _) (hc 2 _) (hm 2 _) (hc 3 _) (hm 3 _))
    (hc 4 _) (hm 4 _) (hc 5 _) (hm 5 _) (hc 6 _) (hm 6 _) (hc 7 _) (hm 7 _)).trans ?_
  rw [← Fin.sum_mul_add_fin 8 512 fun k => U r k * M c k, Fin.sum_univ_eight]

theorem pay8 (hx : ∀ r c, x (ix2 r c) = (B r c : EReal)) (r : Fin 512) (z : Fin 1) :
    k0_pay8 (F := Ideal) x (ix2 r z) = ((inv 1024 (B r) : ℝ) : EReal) := by
  pointwise [k0_pay8]
  simp only [hx, word_1024, eps_word]
  rw [under_eq (by norm_num) (B r)]
  exact rsqrt_under (by norm_num) (B r)

theorem pay9 (hx : ∀ r c, x (ix2 r c) = (B r c : EReal)) (r : Fin 512) (c : Fin 1024) :
    k0_pay9 (F := Ideal) x (ix2 r c) = ((B r c * inv 1024 (B r) : ℝ) : EReal) := by
  pointwise [k0_pay9]
  rw [pay8 hx, hx, ← EReal.coe_mul]

/-- A block's share of the weight's derivative. -/
theorem pay1 (hx : ∀ r c, x (ix2 r c) = (B r c : EReal)) (hg : ∀ r c, g (ix2 r c) = (G r c : EReal)) (v : Vec Ideal S1x1024 .f32)
    (z : Fin 1) (c : Fin 1024) :
    k0_pay1 (F := Ideal) g (k0_pay9 x) v (ix2 z c) = v (ix2 z c) + ((∑ r, G r c * (B r c * inv 1024 (B r)) : ℝ) : EReal) := by
  pointwise [k0_pay1]
  simp only [pay9 hx, hg, ← EReal.coe_mul, ← coe_sum]

/-- A block's derivative by the activations. -/
theorem pay2 (hx : ∀ r c, x (ix2 r c) = (B r c : EReal)) (hg : ∀ r c, g (ix2 r c) = (G r c : EReal))
    (hw : ∀ z c, w (ix2 z c) = (W c : EReal)) (hs : ∀ r c, s (ix2 r c) = Q r c) (r : Fin 512) (c : Fin 1024) :
    k0_pay2 (F := Ideal) g (k0_pay8 x) (k0_pay9 x) w s (ix2 r c)
      = Q r c + ((normGrad 1024 (B r) (fun k => G r k * W k) c : ℝ) : EReal) := by
  pointwise [k0_pay2]
  simp only [pay8 hx, pay9 hx, hg, hw, hs, word_1024]
  have h := normGrad_kernel (show (0 : ℝ) < 1024 by norm_num) (B r) (fun k => G r k * W k) c
  rw [← h]
  simp only [← EReal.coe_mul]

end Block

/-! ## The grid -/

section Grid

variable (m : (ℓ : Loc nD τ sig) → Buf (Elt Ideal) ℓ) (dev : Dev nD)
  {X : Fin 8192 → Fin 1024 → ℝ} {R : Fin 8192 → Fin 1024 → EReal} {W : Fin 1024 → ℝ} {M : Fin 1024 → Fin 4096 → ℝ} {U : Fin 8192 → Fin 4096 → ℝ}

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0] := by
  decide +kernel

theorem row_lt (t : Fin cfg0.N) (a : Fin 512) : t.val * 512 + a.val < 8192 := by
  have ht : t.val < 16 := lt_of_lt_of_eq t.isLt N_0
  omega

/-- Row `a` of point `t`'s block of rows. -/
def part {α : Type} {n : Nat} (Y : Fin 8192 → Fin n → α) (t : Fin cfg0.N) (a : Fin 512) (k : Fin n) : α := Y ⟨t.val * 512 + a.val, row_lt t a⟩ k

variable (hX : ∀ r c, m ((dev : Thread nD τ).loc main_arg0) (ix2 r c) = (X r c : EReal))
  (hW : ∀ c, m ((dev : Thread nD τ).loc main_arg1) (ix1 c) = (W c : EReal))
  (hM : ∀ c k, m ((dev : Thread nD τ).loc main_arg2) (ix2 c k) = (M c k : EReal))
  (hU : ∀ r k, m ((dev : Thread nD τ).loc main_arg3) (ix2 r k) = (U r k : EReal))
  (hR : ∀ r c, m ((dev : Thread nD τ).loc main_arg4) (ix2 r c) = R r c)

include hX in
theorem blk_x (t : Fin cfg0.N) (a : Fin 512) (k : Fin 1024) : iblk m dev 2 t (ix2 a k) = ((part X t a k : ℝ) : EReal) := by
  unfold part
  rw [← hX]
  blk_ext [iblk, V, idx t]

include hR in
theorem blk_s (t : Fin cfg0.N) (a : Fin 512) (k : Fin 1024) : iblk m dev 4 t (ix2 a k) = part R t a k := by
  unfold part
  rw [← hR]
  blk_ext [iblk, V, idx t]

include hW in
theorem blk_w (t : Fin cfg0.N) (z : Fin 1) (k : Fin 1024) : iblk m dev 3 t (ix2 z k) = (W k : EReal) := by
  rw [← hW]
  blk_simp [iblk, idx t]
  entry_read
  pointwise
  blk_ext [idx t]

include hU in
theorem blk_u (t : Fin cfg0.N) (a : Fin 512) (k : Fin 4096) : iblk m dev 0 t (ix2 a k) = ((part U t a k : ℝ) : EReal) := by
  unfold part
  rw [← hU]
  blk_simp [iblk, idx t]
  entry_read
  pointwise
  blk_ext [idx t]

include hM in
theorem blk_p (t : Fin cfg0.N) (b : Fin 8) (c : Fin 1024) (k : Fin 512) :
    iblk m dev 1 t (ix3 b c k) = (M c ⟨b.val * 512 + k.val, by omega⟩ : EReal) := by
  rw [← hM]
  blk_simp [iblk, idx t]
  entry_read
  pointwise
  blk_ext [idx t]

include hU hM in
theorem blk_g (t : Fin cfg0.N) (a : Fin 512) (c : Fin 1024) :
    prod (iblk m dev 0 t) (iblk m dev 1 t) (ix2 a c) = ((part (dh M U) t a c : ℝ) : EReal) :=
  prod_eq (blk_u m dev hU t) (blk_p m dev hM t) a c

/-! ### The weight's derivative -/

include hX hU hM in
theorem dw_sum (a : Fin 8) (c : Fin 1024) :
    (outsAt0 m dev t0_15.val t0_15.isLt).2.2 (ix2 a c) = if a.val = 0 then ((dw X M U c : ℝ) : EReal) else 0 := by
  rw [Pipeline.eq_sum_fin_of_reset_step_apply_last (ι := Fin 8 × Fin 1024) (fun n h p => (outsAt0 m dev n h).2.2 (ix2 p.1 p.2)) 16
    (fun _ => 0)
    (fun t p => if p.1.val = 0 then ((∑ r, part (dh M U) t r p.2 * (part X t r p.2 * inv 1024 (part X t r)) : ℝ) : EReal) else 0)
    (fun t h p => by
      show (outsAt0 m dev t.val t.isLt).2.2 (ix2 p.1 p.2) = _
      rw [outsAt0_A m dev t h]
      frame_out
      erw [RowStore.canon_row, View.canon_cons_unit_lit inb_S8x1024_S8x1024_0_0 _ _ (by decide),
        View.readCov_fill _ inb_S8x1024_S8x1024_0_0 _ [] _ (by decide)]
      have hz : ∀ j, k0_pay4 (F := Ideal) j = 0 := fun j => by pointwise [k0_pay4]
      by_cases h : p.1.val = 0
      · rw [if_pos h, if_pos h, pay1 (blk_x m dev hX t) (blk_g m dev hM hU t)]
        erw [RowStore.ld_row _ 0 _ 0 p.2 p.1 h, hz]
      · rw [if_neg h, if_neg h, add_zero, hz])
    (fun t h p => by
      show (outsAt0 m dev t.val t.isLt).2.2 (ix2 p.1 p.2) = _
      rw [outsAt0_B m dev t h]
      frame_out
      erw [RowStore.read_row]
      by_cases h : p.1.val = 0
      · rw [if_pos h, if_pos h, pay1 (blk_x m dev hX t) (blk_g m dev hM hU t)]
        erw [RowStore.ld_row _ 0 _ 0 p.2 p.1 h]
      · rw [if_neg h, if_neg h, add_zero]
        erw [(hs0_7 t).read_unread])
    (le_of_eq N_0) t0_15 rfl (a, c), zero_add]
  by_cases h : a.val = 0
  · simp only [if_pos h]
    rw [← coe_sum]
    refine congrArg Real.toEReal ?_
    exact Fin.sum_mul_add_fin 16 512 fun r => dh M U r c * (X r c * inv 1024 (X r))
  · simp only [if_neg h, Finset.sum_const_zero]

include hX hU hM in
theorem final7 : (dats m 0 dev).arrAt 7 cfg0.N = fun j => if (j 0).val = 0 then ((dw X M U (j 1) : ℝ) : EReal) else 0 := by
  refine (dats m 0 dev).arrAt_eq_of_after_last 7 t0_15 (by decide +kernel) _ fun j => ?_
  blk_simp
  rw [after0_7]
  refine Eq.trans (congrArg _ ?_) (dw_sum m dev hX hM hU (j 0) (j 1))
  blk_ext

/-! ### The activations' derivative -/

theorem dx_block (t : Fin cfg0.N) : (outsAt0 m dev t.val t.isLt).1 = k0_pay2 (prod (iblk m dev 0 t) (iblk m dev 1 t))
    (k0_pay8 (iblk m dev 2 t)) (k0_pay9 (iblk m dev 2 t)) (iblk m dev 3 t) (iblk m dev 4 t) := by
  by_cases h : t.val % 16 = 0
  · rw [outsAt0_A m dev t h]
    frame_out
  · rw [outsAt0_B m dev t h]
    frame_out

theorem dxb_block (t : Fin cfg0.N) : (outsAt0 m dev t.val t.isLt).2.1 = (outsAt0 m dev t.val t.isLt).1 := by
  rw [dx_block]
  by_cases h : t.val % 16 = 0
  · rw [outsAt0_A m dev t h]
    frame_out
    rfl
  · rw [outsAt0_B m dev t h]
    frame_out
    rfl

include hX hW hM hU hR in
theorem final5 : (dats m 0 dev).arrAt 5 cfg0.N = fun j => dx X R W M U (j 0) (j 1) := by
  refine (dats m 0 dev).arrAt_eq_of_covers 5 _ (by decide +kernel) fun t hf y => ?_
  blk_simp
  rw [after0_5]
  have hy : ((win0_5.blk t).view.emb y) = ix2 ⟨t.val * 512 + (y 0).val, row_lt t (y 0)⟩ (y 1) := by
    blk_ext [idx t]
  rw [hy]
  exact (congrFun (dx_block m dev t) y).trans (Eq.trans (congrArg _ (LossKernel.eq_ix2 y))
    (pay2 (blk_x m dev hX t) (blk_g m dev hM hU t) (blk_w m dev hW t) (blk_s m dev hR t) (y 0) (y 1)))

include hX hW hM hU hR in
theorem final6 : (dats m 0 dev).arrAt 6 cfg0.N = fun j => dx X R W M U (j 0) (j 1) := by
  refine (dats m 0 dev).arrAt_eq_of_covers 6 _ (by decide +kernel) fun t hf y => ?_
  blk_simp
  rw [after0_6]
  have hy : ((win0_6.blk t).view.emb y) = ix2 ⟨t.val * 512 + (y 0).val, row_lt t (y 0)⟩ (y 1) := by
    blk_ext [idx t]
  rw [hy]
  exact (congrFun ((dxb_block m dev t).trans (dx_block m dev t)) y).trans (Eq.trans (congrArg _ (LossKernel.eq_ix2 y))
    (pay2 (blk_x m dev hX t) (blk_g m dev hM hU t) (blk_w m dev hW t) (blk_s m dev hR t) (y 0) (y 1)))

end Grid

end Cert.MlpDxKernel

end
-- ==== Proof.MlpDxClaim.lean ====
/-
  The claims about the second norm's gradient: the frame of the reference, and that the kernel's three results are the
  reference's.
-/
module

public import proofs.«01_k».proof.Defs
public import proofs.«01_k».proof.Proof.Finite
public import proofs.«01_k».proof.Proof.MlpDxRef
public import proofs.«01_k».proof.Proof.MlpDxKernel
public import proofs.«01_k».proof.Proof.Gen.Pre_finite2
public import Idealize.ShloMosaic.Adequacy
public import Idealize.ShloMosaic.Init

@[expose] public section

noncomputable section

namespace Cert.MlpDxClaim

open Idealize.ShloMosaic Idealize.SL.Sem Cert.NormSpec

theorem frame_reference (m : (ℓ : Loc MlpDxRefIdeal.nD MlpDxRefIdeal.τ MlpDxRefIdeal.sig) → Buf (Elt Ideal) ℓ)
    (ρ : Dev MlpDxRefIdeal.nD → PrngReg) :
    θ_run MlpDxRefIdeal.defs (onTc (τ := MlpDxRefIdeal.τ) MlpDxRefIdeal.main) ⟨m, fun _ => 0, ρ⟩ (fun r => (∀ c : Dev MlpDxRefIdeal.nD,
      r.2.mem (c.tc.loc MlpDxRefIdeal.main_arg0) = m (c.tc.loc MlpDxRefIdeal.main_arg0)
      ∧ r.2.mem (c.tc.loc MlpDxRefIdeal.main_arg1) = m (c.tc.loc MlpDxRefIdeal.main_arg1)
      ∧ r.2.mem (c.tc.loc MlpDxRefIdeal.main_arg2) = m (c.tc.loc MlpDxRefIdeal.main_arg2)
      ∧ r.2.mem (c.tc.loc MlpDxRefIdeal.main_arg3) = m (c.tc.loc MlpDxRefIdeal.main_arg3)
      ∧ r.2.mem (c.tc.loc MlpDxRefIdeal.main_arg4) = m (c.tc.loc MlpDxRefIdeal.main_arg4)) ∧ r.2.sem = fun _ => 0) :=
  (θ_run MlpDxRefIdeal.defs _ _).mono (fun r h => ⟨fun c => (h c).2.2.2, sem_eq_zero_of_no_sems (by decide) r.2⟩)
    (MlpDxRefIdeal.Value.run (F := Ideal) m ρ)

theorem algebraic : Cert.algebraic_MlpDxIdeal_MlpDxRefIdeal_pre_finite2 := by
  intro m g m' g' hpre hagree
  let X (c : Dev MlpDxIdeal.nD) (r : Fin 8192) (k : Fin 1024) : ℝ :=
    EReal.toReal (m ((c.tc : Thread MlpDxIdeal.nD MlpDxIdeal.τ).loc MlpDxIdeal.main_arg0) (ix2 r k))
  let W (c : Dev MlpDxIdeal.nD) (k : Fin 1024) : ℝ :=
    EReal.toReal (m ((c.tc : Thread MlpDxIdeal.nD MlpDxIdeal.τ).loc MlpDxIdeal.main_arg1) (ix1 k))
  let M (c : Dev MlpDxIdeal.nD) (a : Fin 1024) (k : Fin 4096) : ℝ :=
    EReal.toReal (m ((c.tc : Thread MlpDxIdeal.nD MlpDxIdeal.τ).loc MlpDxIdeal.main_arg2) (ix2 a k))
  let U (c : Dev MlpDxIdeal.nD) (r : Fin 8192) (k : Fin 4096) : ℝ :=
    EReal.toReal (m ((c.tc : Thread MlpDxIdeal.nD MlpDxIdeal.τ).loc MlpDxIdeal.main_arg3) (ix2 r k))
  let R (c : Dev MlpDxIdeal.nD) (r : Fin 8192) (k : Fin 1024) : EReal :=
    m ((c.tc : Thread MlpDxIdeal.nD MlpDxIdeal.τ).loc MlpDxIdeal.main_arg4) (ix2 r k)
  have hX (c : Dev MlpDxIdeal.nD) (r k) : m ((c.tc : Thread MlpDxIdeal.nD MlpDxIdeal.τ).loc MlpDxIdeal.main_arg0) (ix2 r k) = (X c r k : EReal) :=
    Finite.coe_toReal (Finite.entry (hpre c).1) (ix2 r k)
  have hW (c : Dev MlpDxIdeal.nD) (k) : m ((c.tc : Thread MlpDxIdeal.nD MlpDxIdeal.τ).loc MlpDxIdeal.main_arg1) (ix1 k) = (W c k : EReal) :=
    Finite.coe_toReal (Finite.entry (hpre c).2.1) (ix1 k)
  have hM (c : Dev MlpDxIdeal.nD) (a k) : m ((c.tc : Thread MlpDxIdeal.nD MlpDxIdeal.τ).loc MlpDxIdeal.main_arg2) (ix2 a k) = (M c a k : EReal) :=
    Finite.coe_toReal (Finite.entry (hpre c).2.2.1) (ix2 a k)
  have hU (c : Dev MlpDxIdeal.nD) (r k) : m ((c.tc : Thread MlpDxIdeal.nD MlpDxIdeal.τ).loc MlpDxIdeal.main_arg3) (ix2 r k) = (U c r k : EReal) :=
    Finite.coe_toReal (Finite.entry (hpre c).2.2.2) (ix2 r k)
  have hR (c : Dev MlpDxIdeal.nD) (r k) : m ((c.tc : Thread MlpDxIdeal.nD MlpDxIdeal.τ).loc MlpDxIdeal.main_arg4) (ix2 r k) = R c r k := rfl
  refine ⟨fun c j => dx (X c) (R c) (W c) (M c) (U c) (j 0) (j 1),
    fun c j => dx (X c) (R c) (W c) (M c) (U c) (j 0) (j 1),
    fun c j => if (j 0).val = 0 then ((dw (X c) (M c) (U c) (j 1) : ℝ) : EReal) else (0 : EReal), ?_, ?_⟩
  · refine (θ_run MlpDxIdeal.defs _ _).mono (fun r h c => ?_) (MlpDxIdeal.Value.run_blocks (F := Ideal) m g)
    obtain ⟨h5, h6, h7, hargs⟩ := h c
    exact ⟨h5.trans (MlpDxKernel.final5 m c (hX c) (hW c) (hM c) (hU c) (hR c)),
      h6.trans (MlpDxKernel.final6 m c (hX c) (hW c) (hM c) (hU c) (hR c)),
      h7.trans (MlpDxKernel.final7 m c (hX c) (hM c) (hU c)), hargs⟩
  · refine (θ_run MlpDxRefIdeal.defs _ _).mono (fun r h c => ?_) (MlpDxRefIdeal.Value.run (F := Ideal) m' g')
    obtain ⟨h0, h1, h2, hargs⟩ := h c
    have hX' := hX c
    have hW' := hW c
    have hM' := hM c
    have hU' := hU c
    have hR' := hR c
    obtain ⟨e0, e1, e2, e3, e4⟩ := hagree c
    rw [← e0] at hX'
    rw [← e1] at hW'
    rw [← e2] at hM'
    rw [← e3] at hU'
    rw [← e4] at hR'
    refine ⟨(h0.trans (MlpDxRefIdeal.Read.val_main_v38_eq ..)).trans (funext fun j => ?_),
      (h1.trans (MlpDxRefIdeal.Read.val_main_v39_eq ..)).trans (funext fun j => ?_),
      (h2.trans (MlpDxRefIdeal.Read.val_main_v42_eq ..)).trans (funext fun j => ?_), hargs⟩
    all_goals rw [LossKernel.eq_ix2 j]
    · exact MlpDxRef.v38 hX' hW' hM' hU' hR' _ _
    · exact MlpDxRef.v39 hX' hW' hM' hU' hR' _ _
    · exact MlpDxRef.v42 hX' hM' hU' _ _

end Cert.MlpDxClaim

end
-- ==== Proof.OutDyKernel.lean ====
/-
  The cotangent of the mixer's result as the kernel computes it: each point takes 512 rows of cotangents times the transposed
  output projection, 1024 columns at a time.
-/
module

public import proofs.«01_k».proof.Proof.LossKernel
public import proofs.«01_k».proof.Proof.Gen.OutDyIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutDyKernel

open Idealize.ShloMosaic Idealize.ShloMosaic.TcCoe Cert.OutDyIdeal Cert.OutDyIdeal.Gen

/-- The product with the transposed matrix. -/
def nt {κ : Type} (G : κ → Fin 1024 → EReal) (M : Fin 2048 → Fin 1024 → EReal) (r : κ) (k : Fin 2048) : EReal := ∑ c, G r c * M k c

section Block

variable {G : Fin 512 → Fin 1024 → EReal} {M : Fin 2048 → Fin 1024 → EReal} {g : Vec Ideal S512x1024 .bf16} {p : Vec Ideal S2048x1024 .bf16}

theorem half (hg : ∀ r c, g (ix2 r c) = G r c) (hp : ∀ k c, p (ix2 k c) = M k c) (b : Fin 2) (inb inb') (j : S512x1024.Idx) :
    k0_pay2 (F := Ideal) g (View.ld p (Rect.unit (s := S2048x1024) ![b.val * 1024, 0] ![1024, 1024] inb)) j
      = (fun i : S512x2048.Idx => nt G M (i 0) (i 1)) ((Rect.unit (s := S512x2048) ![0, b.val * 1024] ![512, 1024] inb').emb j) := by
  have hj : (j 1).val < 1024 := (j 1).isLt
  have hq (k c : Fin 1024) : View.ld p (Rect.unit (s := S2048x1024) ![b.val * 1024, 0] ![1024, 1024] inb) (ix2 k c)
      = M ⟨b.val * 1024 + k.val, by omega⟩ c := by
    rw [← hp]
    refine congrArg p (funext fun a => Fin.ext ?_)
    match a with
    | ⟨0, _⟩ => show b.val * 1024 + 1 * k.val = b.val * 1024 + k.val; omega
    | ⟨1, _⟩ => show 0 + 1 * c.val = c.val; omega
  have e : (Rect.unit (s := S512x2048) ![0, b.val * 1024] ![512, 1024] inb').emb j = ix2 (j 0) ⟨b.val * 1024 + (j 1).val, by omega⟩ := by
    refine funext fun a => Fin.ext ?_
    match a with
    | ⟨0, _⟩ => show 0 + 1 * (j 0).val = (j 0).val; omega
    | ⟨1, _⟩ => show b.val * 1024 + 1 * (j 1).val = b.val * 1024 + (j 1).val; omega
  have out (r k : Fin 512 × Fin 1024) : k0_pay2 (F := Ideal) g (View.ld p (Rect.unit (s := S2048x1024) ![b.val * 1024, 0] ![1024, 1024] inb))
      (ix2 r.1 k.2) = nt G M r.1 ⟨b.val * 1024 + k.2.val, by omega⟩ := by
    pointwise [k0_pay2, k0_pay1]
    simp only [hg, hp]
    rfl
  rw [e]
  exact (congrArg _ (LossKernel.eq_ix2 j)).trans (out (j 0, j 1) (j 0, j 1))

theorem whole (hg : ∀ r c, g (ix2 r c) = G r c) (hp : ∀ k c, p (ix2 k c) = M k c) (r : Fin 512) (k : Fin 2048) :
    out0_2 (F := Ideal) g p (ix2 r k) = nt G M r k := by
  have ld0 : View.ld g r0_0 = g := by
    refine View.ld_unit_zero ?_ _ _
    funext a; fin_cases a <;> rfl
  unfold out0_2
  rw [ld0]
  refine View.canon_apply_of_pieces (Val := Elt Ideal) (e := .bf16) (fun i : S512x2048.Idx => nt G M (i 0) (i 1)) _ ?_ (ix2 r k)
    (cover0_2 _ _ _)
  simp only [List.forall_mem_cons, List.not_mem_nil, false_implies, implies_true, and_true]
  exact ⟨half hg hp 1 _ _, half hg hp 0 _ _⟩

end Block

/-! ## The grid -/

variable (m : (ℓ : Loc nD τ sig) → Buf (Elt Ideal) ℓ) (dev : Dev nD)

/-- The arguments as functions of the indices. -/
def M (k : Fin 2048) (c : Fin 1024) : EReal := m ((dev : Thread nD τ).loc main_arg1) (ix2 k c)

def G (r : Fin 8192) (c : Fin 1024) : EReal := m ((dev : Thread nD τ).loc main_arg2) (ix2 r c)

theorem idx : ∀ t : Fin cfg0.N, win0_0.index t = ![t.val, 0] ∧ win0_1.index t = ![0, 0] ∧ win0_2.index t = ![t.val, 0] := by
  decide +kernel

theorem row_lt (t : Fin cfg0.N) (a : Fin 512) : t.val * 512 + a.val < 8192 := by
  have ht : t.val < 16 := lt_of_lt_of_eq t.isLt N_0
  omega

/-- The row that point `t` holds as its row `a`. -/
def at_ (t : Fin cfg0.N) (a : Fin 512) : Fin 8192 := ⟨t.val * 512 + a.val, row_lt t a⟩

theorem blk_g (t : Fin cfg0.N) (a : Fin 512) (c : Fin 1024) : iblk m dev 0 t (ix2 a c) = G m dev (at_ t a) c := by
  unfold G at_
  blk_simp [iblk, idx t]
  entry_read
  pointwise
  blk_ext [idx t]

theorem blk_m (t : Fin cfg0.N) (k : Fin 2048) (c : Fin 1024) : iblk m dev 1 t (ix2 k c) = M m dev k c := by
  unfold M
  blk_simp [iblk, idx t]
  entry_read
  pointwise
  blk_ext [idx t]

theorem final : (dats m 0 dev).arrAt 2 cfg0.N = fun j => nt (G m dev) (M m dev) (j 0) (j 1) := by
  refine (dats m 0 dev).arrAt_eq_of_covers 2 _ (by decide +kernel) fun t hf y => ?_
  blk_simp
  rw [after0_2]
  have hy : ((win0_2.blk t).view.emb y) = ix2 (at_ t (y 0)) (y 1) := by
    unfold at_
    blk_ext [idx t]
  rw [hy]
  exact (congrArg _ (LossKernel.eq_ix2 y)).trans (whole (G := fun a => G m dev (at_ t a)) (blk_g m dev t) (blk_m m dev t) (y 0) (y 1))

end Cert.OutDyKernel

end
-- ==== Proof.OutDyClaim.lean ====
/-
  The claims about the cotangent of the mixer's result: the frame of the reference, and that the kernel's result is the
  reference's.
-/
module

public import proofs.«01_k».proof.Defs
public import proofs.«01_k».proof.Proof.OutDyKernel
public import proofs.«01_k».proof.Proof.Gen.OutDyRefIdeal.Read
public import proofs.«01_k».proof.Proof.Gen.OutDyRefIdeal.Run
public import Idealize.ShloMosaic.Adequacy
public import Idealize.ShloMosaic.Init

@[expose] public section

noncomputable section

namespace Cert.OutDyClaim

open Idealize.ShloMosaic Idealize.ShloMosaic.Pointwise Idealize.SL.Sem Cert.OutDyRefIdeal Cert.OutDyRefIdeal.Read Cert.OutDyKernel

theorem ref_nt (p : (⟨S2048x1024, .f32⟩ : BufTy).Contents (Elt Ideal)) (g : (⟨S8192x1024, .f32⟩ : BufTy).Contents (Elt Ideal)) (r : Fin 8192)
    (k : Fin 2048) : val_main_v2 (F := Ideal) p g (ix2 r k) = nt (fun r c => g (ix2 r c)) (fun k c => p (ix2 k c)) r k := by
  pointwise [val_main_v2, val_main_v1]
  rfl

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2)) ∧ r.2.sem = fun _ => 0) :=
  (θ_run defs _ _).mono (fun r h => ⟨fun c => (h c).2, sem_eq_zero_of_no_sems (by decide) r.2⟩) (Value.run (F := Ideal) m ρ)

theorem algebraic : Cert.algebraic_OutDyIdeal_OutDyRefIdeal := by
  intro m g m' g' _ hagree
  refine ⟨fun c j => nt (G m c) (OutDyKernel.M m c) (j 0) (j 1),
    (θ_run OutDyIdeal.defs _ _).mono (fun r h c => ⟨(h c).1.trans (final m c), (h c).2⟩) (OutDyIdeal.Value.run_blocks (F := Ideal) m g),
    (θ_run defs _ _).mono (fun r h c => ⟨?_, (h c).2⟩) (Value.run (F := Ideal) m' g')⟩
  obtain ⟨_, e1, e2⟩ := hagree c
  have q1 : (fun r k => m' (c.tc.loc main_arg1) (ix2 r k)) = OutDyKernel.M m c := funext fun r => funext fun k => congrFun e1 (ix2 r k)
  have q2 : (fun r k => m' (c.tc.loc main_arg2) (ix2 r k)) = G m c := funext fun r => funext fun k => congrFun e2 (ix2 r k)
  refine ((h c).1.trans (val_main_v2_eq ..)).trans (funext fun j => ?_)
  rw [LossKernel.eq_ix2 j]
  exact (ref_nt _ _ _ _).trans (congrFun (congrFun (congr (congrArg nt q2) q1) (j 0)) (j 1))

end Cert.OutDyClaim

end
-- ==== Proof.OutProjKernel.lean ====
/-
  The mixer's output projection as the kernel computes it: each point adds to 512 rows of the residual the product of as many rows
  of the mixer's result with the matrix.
-/
module

public import proofs.«01_k».proof.Proof.LossKernel
public import proofs.«01_k».proof.Proof.Gen.OutProjIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutProjKernel

open Idealize.ShloMosaic Idealize.ShloMosaic.TcCoe Cert.OutProjIdeal Cert.OutProjIdeal.Gen

/-- A row of the residual and the product added to it. -/
def added {κ : Type} (X : κ → Fin 1024 → EReal) (U : κ → Fin 2048 → EReal) (M : Fin 2048 → Fin 1024 → EReal) (r : κ) (c : Fin 1024) : EReal :=
  X r c + ∑ k, U r k * M k c

theorem pay1 {X : Fin 512 → Fin 1024 → EReal} {U : Fin 512 → Fin 2048 → EReal} {M : Fin 2048 → Fin 1024 → EReal}
    {x : Vec Ideal S512x1024 .f32} {u : Vec Ideal S512x2048 .bf16} {p : Vec Ideal S2048x1024 .bf16} (hx : ∀ r c, x (ix2 r c) = X r c)
    (hu : ∀ r k, u (ix2 r k) = U r k) (hp : ∀ k c, p (ix2 k c) = M k c) (r : Fin 512) (c : Fin 1024) :
    k0_pay1 (F := Ideal) u x p (ix2 r c) = added X U M r c := by
  pointwise [k0_pay1]
  simp only [hx, hu, hp]
  rfl

variable (m : (ℓ : Loc nD τ sig) → Buf (Elt Ideal) ℓ) (dev : Dev nD)

/-- The arguments as functions of the indices. -/
def X (r : Fin 8192) (c : Fin 1024) : EReal := m ((dev : Thread nD τ).loc main_arg0) (ix2 r c)

def U (r : Fin 8192) (k : Fin 2048) : EReal := m ((dev : Thread nD τ).loc main_arg1) (ix2 r k)

def M (k : Fin 2048) (c : Fin 1024) : EReal := m ((dev : Thread nD τ).loc main_arg2) (ix2 k c)

theorem idx : ∀ t : Fin cfg0.N, win0_0.index t = ![t.val, 0] ∧ win0_1.index t = ![0, 0] ∧ win0_2.index t = ![t.val, 0]
    ∧ win0_3.index t = ![t.val, 0] := by
  decide +kernel

theorem row_lt (t : Fin cfg0.N) (a : Fin 512) : t.val * 512 + a.val < 8192 := by
  have ht : t.val < 16 := lt_of_lt_of_eq t.isLt N_0
  omega

/-- The row that point `t` holds as its row `a`. -/
def at_ (t : Fin cfg0.N) (a : Fin 512) : Fin 8192 := ⟨t.val * 512 + a.val, row_lt t a⟩

theorem blk_u (t : Fin cfg0.N) (a : Fin 512) (k : Fin 2048) : iblk m dev 0 t (ix2 a k) = U m dev (at_ t a) k := by
  unfold U at_
  blk_simp [iblk, idx t]
  entry_read
  pointwise
  blk_ext [idx t]

theorem blk_m (t : Fin cfg0.N) (k : Fin 2048) (c : Fin 1024) : iblk m dev 1 t (ix2 k c) = M m dev k c := by
  unfold M
  blk_simp [iblk, idx t]
  entry_read
  pointwise
  blk_ext [idx t]

theorem blk_x (t : Fin cfg0.N) (a : Fin 512) (c : Fin 1024) : iblk m dev 2 t (ix2 a c) = X m dev (at_ t a) c := by
  unfold X at_
  blk_ext [iblk, V, idx t]

theorem out (x : Vec Ideal S512x1024 .f32) (u : Vec Ideal S512x2048 .bf16) (p : Vec Ideal S2048x1024 .bf16) :
    out0_3 (F := Ideal) u p x = k0_pay1 u x p := by
  have ld0 : View.ld u r0_0 = u := by
    refine View.ld_unit_zero ?_ _ _
    funext a; fin_cases a <;> rfl
  have ld1 : View.ld x r0_1 = x := by
    refine View.ld_unit_zero ?_ _ _
    funext a; fin_cases a <;> rfl
  have ld2 : View.ld p r0_2 = p := by
    refine View.ld_unit_zero ?_ _ _
    funext a; fin_cases a <;> rfl
  unfold out0_3
  rw [ld0, ld1, ld2]
  exact View.canon_cons_unit_lit inb_S512x1024_S512x1024_0_0 _ _ (by decide)

theorem final : (dats m 0 dev).arrAt 3 cfg0.N = fun j => added (X m dev) (U m dev) (M m dev) (j 0) (j 1) := by
  refine (dats m 0 dev).arrAt_eq_of_covers 3 _ (by decide +kernel) fun t hf y => ?_
  blk_simp
  rw [after0_3]
  have hy : ((win0_3.blk t).view.emb y) = ix2 (at_ t (y 0)) (y 1) := by
    unfold at_
    blk_ext [idx t]
  rw [hy, out]
  exact (congrArg _ (LossKernel.eq_ix2 y)).trans
    (pay1 (X := fun a => X m dev (at_ t a)) (U := fun a => U m dev (at_ t a)) (blk_x m dev t) (blk_u m dev t) (blk_m m dev t) (y 0) (y 1))

end Cert.OutProjKernel

end
-- ==== Proof.OutProjClaim.lean ====
/-
  The claims about the mixer's output projection: the frame of the reference, and that the kernel's result is the
  reference's.
-/
module

public import proofs.«01_k».proof.Defs
public import proofs.«01_k».proof.Proof.OutProjKernel
public import proofs.«01_k».proof.Proof.Gen.OutProjRefIdeal.Read
public import proofs.«01_k».proof.Proof.Gen.OutProjRefIdeal.Run
public import Idealize.ShloMosaic.Adequacy
public import Idealize.ShloMosaic.Init

@[expose] public section

noncomputable section

namespace Cert.OutProjClaim

open Idealize.ShloMosaic Idealize.ShloMosaic.Pointwise Idealize.SL.Sem Cert.OutProjRefIdeal Cert.OutProjRefIdeal.Read Cert.OutProjKernel

theorem ref_added (x : (⟨S8192x1024, .f32⟩ : BufTy).Contents (Elt Ideal)) (u : (⟨S8192x2048, .f32⟩ : BufTy).Contents (Elt Ideal))
    (p : (⟨S2048x1024, .f32⟩ : BufTy).Contents (Elt Ideal)) (r : Fin 8192) (c : Fin 1024) :
    val_main_v1 (F := Ideal) x u p (ix2 r c) = added (fun r c => x (ix2 r c)) (fun r k => u (ix2 r k)) (fun k c => p (ix2 k c)) r c := by
  pointwise [val_main_v1, val_main_v0]
  rfl

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2)) ∧ r.2.sem = fun _ => 0) :=
  (θ_run defs _ _).mono (fun r h => ⟨fun c => (h c).2, sem_eq_zero_of_no_sems (by decide) r.2⟩) (Value.run (F := Ideal) m ρ)

theorem algebraic : Cert.algebraic_OutProjIdeal_OutProjRefIdeal := by
  intro m g m' g' _ hagree
  refine ⟨fun c j => added (X m c) (U m c) (OutProjKernel.M m c) (j 0) (j 1),
    (θ_run OutProjIdeal.defs _ _).mono (fun r h c => ⟨(h c).1.trans (final m c), (h c).2⟩) (OutProjIdeal.Value.run_blocks (F := Ideal) m g),
    (θ_run defs _ _).mono (fun r h c => ⟨?_, (h c).2⟩) (Value.run (F := Ideal) m' g')⟩
  obtain ⟨e0, e1, e2⟩ := hagree c
  have q0 : (fun r k => m' (c.tc.loc main_arg0) (ix2 r k)) = X m c := funext fun r => funext fun k => congrFun e0 (ix2 r k)
  have q1 : (fun r k => m' (c.tc.loc main_arg1) (ix2 r k)) = U m c := funext fun r => funext fun k => congrFun e1 (ix2 r k)
  have q2 : (fun r k => m' (c.tc.loc main_arg2) (ix2 r k)) = OutProjKernel.M m c := funext fun r => funext fun k => congrFun e2 (ix2 r k)
  refine ((h c).1.trans (val_main_v1_eq ..)).trans (funext fun j => ?_)
  rw [LossKernel.eq_ix2 j]
  exact (ref_added _ _ _ _ _).trans (congrFun (congrFun (congr (congr (congrArg added q0) q1) q2) (j 0)) (j 1))

end Cert.OutProjClaim

end
-- ==== Proof.UpKernel.lean ====
/-
  The up-projection of the normalized activations as the kernel computes it: each point takes 512 rows, and leaves their product
  with the matrix and the normalized rows themselves. The point's arithmetic is the one the squared ReLU's gradient begins with.
-/
module

public import proofs.«01_k».proof.Proof.ActKernel
public import proofs.«01_k».proof.Proof.Gen.UpIdeal.Value

@[expose] public section

set_option maxRecDepth 16384

noncomputable section

namespace Cert.UpKernel

open Idealize.ShloMosaic Idealize.ShloMosaic.TcCoe Cert.UpIdeal Cert.UpIdeal.Gen Cert.ActSpec

/-- The blocks' products are those of the first call of the gradient. -/
theorem out3_same : out0_3 (F := Ideal) = ActIdeal.Gen.out0_3 := rfl

theorem out4_norm (x : Vec Ideal S512x1024 .f32) (w : Vec Ideal S1x1024 .f32) (p : Vec Ideal S8x1024x512 .bf16) :
    out0_4 (F := Ideal) x w p = k0_pay1 x w := by
  have ld0 : View.ld x r0_0 = x := by
    refine View.ld_unit_zero ?_ _ _
    funext a; fin_cases a <;> rfl
  have ld1 : View.ld w r0_1 = w := by
    refine View.ld_unit_zero ?_ _ _
    funext a; fin_cases a <;> rfl
  unfold out0_4
  rw [ld0, ld1]
  exact View.canon_cons_unit_lit inb_S512x1024_S512x1024_0_0 _ _ (by decide)

/-! ## The grid -/

variable (m : (ℓ : Loc nD τ sig) → Buf (Elt Ideal) ℓ) (dev : Dev nD)

/-- The arguments as functions of the indices. -/
def X (r : Fin 8192) (c : Fin 1024) : EReal := m ((dev : Thread nD τ).loc main_arg0) (ix2 r c)

def W (c : Fin 1024) : EReal := m ((dev : Thread nD τ).loc main_arg1) (ix1 c)

def M (c : Fin 1024) (k : Fin 4096) : EReal := m ((dev : Thread nD τ).loc main_arg2) (ix2 c k)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] := by
  decide +kernel

theorem row_lt (t : Fin cfg0.N) (a : Fin 512) : t.val * 512 + a.val < 8192 := by
  have ht : t.val < 16 := lt_of_lt_of_eq t.isLt N_0
  omega

/-- The row of the activations that point `t` holds as its row `a`. -/
def at_ (t : Fin cfg0.N) (a : Fin 512) : Fin 8192 := ⟨t.val * 512 + a.val, row_lt t a⟩

theorem blk_x (t : Fin cfg0.N) (a : Fin 512) (c : Fin 1024) : iblk m dev 0 t (ix2 a c) = X m dev (at_ t a) c := by
  unfold X at_
  blk_ext [iblk, V, idx t]

theorem blk_w (t : Fin cfg0.N) (z : Fin 1) (c : Fin 1024) : iblk m dev 1 t (ix2 z c) = W m dev c := by
  unfold W
  blk_simp [iblk, idx t]
  entry_read
  pointwise
  blk_ext [idx t]

theorem blk_m (t : Fin cfg0.N) (b : Fin 8) (c : Fin 1024) (k : Fin 512) :
    iblk m dev 2 t (ix3 b c k) = M m dev c ⟨b.val * 512 + k.val, by omega⟩ := by
  unfold M
  blk_simp [iblk, idx t]
  entry_read
  pointwise
  blk_ext [idx t]

theorem final3 : (dats m 0 dev).arrAt 3 cfg0.N = fun j => up (X m dev) (W m dev) (M m dev) (j 0) (j 1) := by
  refine (dats m 0 dev).arrAt_eq_of_covers 3 _ (by decide +kernel) fun t hf y => ?_
  blk_simp
  rw [after0_3]
  have hy : ((win0_3.blk t).view.emb y) = ix2 (at_ t (y 0)) (y 1) := by
    unfold at_
    blk_ext [idx t]
  rw [hy, out3_same]
  exact (congrArg _ (LossKernel.eq_ix2 y)).trans
    (ActKernel.out (B := fun a => X m dev (at_ t a)) (blk_x m dev t) (blk_w m dev t) (blk_m m dev t) (y 0) (y 1))

theorem final4 : (dats m 0 dev).arrAt 4 cfg0.N = fun j => row (X m dev) (W m dev) (j 0) (j 1) := by
  refine (dats m 0 dev).arrAt_eq_of_covers 4 _ (by decide +kernel) fun t hf y => ?_
  blk_simp
  rw [after0_4]
  have hy : ((win0_4.blk t).view.emb y) = ix2 (at_ t (y 0)) (y 1) := by
    unfold at_
    blk_ext [idx t]
  rw [hy, out4_norm]
  exact (congrArg _ (LossKernel.eq_ix2 y)).trans
    (ActKernel.pay1 (B := fun a => X m dev (at_ t a)) (blk_x m dev t) (blk_w m dev t) (y 0) (y 1))

end Cert.UpKernel

end
-- ==== Proof.UpClaim.lean ====
/-
  The claims about the up-projection of the normalized activations: the frame of the reference, and that the kernel's two results
  are the reference's.
-/
module

public import proofs.«01_k».proof.Defs
public import proofs.«01_k».proof.Proof.UpKernel
public import proofs.«01_k».proof.Proof.Gen.UpRefIdeal.Read
public import proofs.«01_k».proof.Proof.Gen.UpRefIdeal.Run
public import Idealize.ShloMosaic.Adequacy
public import Idealize.ShloMosaic.Init

@[expose] public section

noncomputable section

namespace Cert.UpClaim

open Idealize.ShloMosaic Idealize.ShloMosaic.Pointwise Idealize.SL.Sem Cert.UpRefIdeal Cert.UpRefIdeal.Read Cert.RmsRow Cert.ActSpec

section Reference

variable (x : (⟨S8192x1024, .f32⟩ : BufTy).Contents (Elt Ideal)) (w : (⟨S1024, .f32⟩ : BufTy).Contents (Elt Ideal))
  (p : (⟨S1024x4096, .f32⟩ : BufTy).Contents (Elt Ideal))

theorem ref_fac (r : Fin 8192) (z : Fin 1) : val_main_v7 (F := Ideal) x (ix2 r z) = fac (fun r c => x (ix2 r c)) r := by
  pointwise [val_main_v7, val_main_v6, val_main_v5, val_main_v4, val_main_v3, val_main_v2, val_main_v1, val_main_v0,
    val_main_cst, val_main_cst_0, val_main_cst_1]
  simp only [word_1024, eps_word, zero_add]
  rfl

theorem ref_norm (r : Fin 8192) (c : Fin 1024) :
    val_main_v15 (F := Ideal) x w (ix2 r c) = row (fun r c => x (ix2 r c)) (fun c => w (ix1 c)) r c := by
  pointwise [val_main_v15, val_main_v12, val_main_v11, val_main_v10, val_main_v9, val_main_v8]
  simp only [ref_fac]
  rfl

theorem ref_up (r : Fin 8192) (k : Fin 4096) : val_main_v14 (F := Ideal) x w p (ix2 r k)
    = up (fun r c => x (ix2 r c)) (fun c => w (ix1 c)) (fun c k => p (ix2 c k)) r k := by
  pointwise [val_main_v14, val_main_v13, val_main_v12, val_main_v11, val_main_v10, val_main_v9, val_main_v8]
  simp only [ref_fac]
  rfl

end Reference

theorem frame_reference (m : (ℓ : Loc nD τ sig) → Buf (Elt Ideal) ℓ) (ρ : Dev nD → PrngReg) :
    θ_run defs (onTc (τ := τ) main) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2)) ∧ r.2.sem = fun _ => 0) :=
  (θ_run defs _ _).mono (fun r h => ⟨fun c => (h c).2.2, sem_eq_zero_of_no_sems (by decide) r.2⟩) (Value.run (F := Ideal) m ρ)

theorem algebraic : Cert.algebraic_UpIdeal_UpRefIdeal := by
  intro m g m' g' _ hagree
  refine ⟨fun c j => up (UpKernel.X m c) (UpKernel.W m c) (UpKernel.M m c) (j 0) (j 1),
    fun c j => row (UpKernel.X m c) (UpKernel.W m c) (j 0) (j 1), ?_, ?_⟩
  · refine (θ_run UpIdeal.defs _ _).mono (fun r h c => ?_) (UpIdeal.Value.run_blocks (F := Ideal) m g)
    obtain ⟨h3, h4, hargs⟩ := h c
    exact ⟨h3.trans (UpKernel.final3 m c), h4.trans (UpKernel.final4 m c), hargs⟩
  · refine (θ_run defs _ _).mono (fun r h c => ?_) (Value.run (F := Ideal) m' g')
    obtain ⟨h0, h1, hargs⟩ := h c
    obtain ⟨e0, e1, e2⟩ := hagree c
    have q0 : (fun r k => m' (c.tc.loc main_arg0) (ix2 r k)) = UpKernel.X m c := funext fun r => funext fun k => congrFun e0 (ix2 r k)
    have q1 : (fun k => m' (c.tc.loc main_arg1) (ix1 k)) = UpKernel.W m c := funext fun k => congrFun e1 (ix1 k)
    have q2 : (fun r k => m' (c.tc.loc main_arg2) (ix2 r k)) = UpKernel.M m c := funext fun r => funext fun k => congrFun e2 (ix2 r k)
    refine ⟨(h0.trans (val_main_v14_eq ..)).trans (funext fun j => ?_), (h1.trans (val_main_v15_eq ..)).trans (funext fun j => ?_), hargs⟩
    all_goals rw [LossKernel.eq_ix2 j]
    · exact (ref_up _ _ _ _ _).trans (congrFun (congrFun (congr (congr (congrArg up q0) q1) q2) (j 0)) (j 1))
    · exact (ref_norm _ _ _ _).trans (congrFun (congrFun (congr (congrArg row q0) q1) (j 0)) (j 1))

end Cert.UpClaim

end
-- ==== Proof.lean ====
module

public import proofs.«01_k».proof.Defs
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Read
public import proofs.«01_k».proof.Proof.Gen.MlpDx
public import proofs.«01_k».proof.Proof.Gen.MlpDx.Frame
public import proofs.«01_k».proof.Proof.Gen.MlpDxIdeal
public import proofs.«01_k».proof.Proof.Gen.MlpDxIdeal.Frame
public import proofs.«01_k».proof.Proof.Gen.MlpDxIdeal.Value
public import proofs.«01_k».proof.Proof.Gen.MlpDxRefIdeal
public import proofs.«01_k».proof.Proof.Gen.MlpDxRefIdeal.Run
public import proofs.«01_k».proof.Proof.Gen.MlpDxRefIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActRefIdeal
public import proofs.«01_k».proof.Proof.Gen.ActRefIdeal.Run
public import proofs.«01_k».proof.Proof.Gen.ActRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.OutDy
public import proofs.«01_k».proof.Proof.Gen.OutDy.Frame
public import proofs.«01_k».proof.Proof.Gen.OutDyIdeal
public import proofs.«01_k».proof.Proof.Gen.OutDyIdeal.Frame
public import proofs.«01_k».proof.Proof.Gen.OutDyIdeal.Value
public import proofs.«01_k».proof.Proof.Gen.OutDyRefIdeal
public import proofs.«01_k».proof.Proof.Gen.OutDyRefIdeal.Run
public import proofs.«01_k».proof.Proof.Gen.OutDyRefIdeal.Read
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.AdamL
public import proofs.«01_k».proof.Proof.Gen.AdamL.Frame
public import proofs.«01_k».proof.Proof.Gen.AdamLIdeal
public import proofs.«01_k».proof.Proof.Gen.AdamLIdeal.Frame
public import proofs.«01_k».proof.Proof.Gen.AdamLIdeal.Value
public import proofs.«01_k».proof.Proof.Gen.AdamLRefIdeal
public import proofs.«01_k».proof.Proof.Gen.AdamLRefIdeal.Run
public import proofs.«01_k».proof.Proof.Gen.AdamLRefIdeal.Read
public import proofs.«01_k».proof.Proof.Gen.Cut
public import proofs.«01_k».proof.Proof.Gen.Cut.Frame
public import proofs.«01_k».proof.Proof.Gen.CutIdeal
public import proofs.«01_k».proof.Proof.Gen.CutIdeal.Frame
public import proofs.«01_k».proof.Proof.Gen.CutIdeal.Value
public import proofs.«01_k».proof.Proof.Gen.CutRefIdeal
public import proofs.«01_k».proof.Proof.Gen.CutRefIdeal.Run
public import proofs.«01_k».proof.Proof.Gen.CutRefIdeal.Read
public import proofs.«01_k».proof.Proof.Gen.Join
public import proofs.«01_k».proof.Proof.Gen.Join.Frame
public import proofs.«01_k».proof.Proof.Gen.JoinIdeal
public import proofs.«01_k».proof.Proof.Gen.JoinIdeal.Frame
public import proofs.«01_k».proof.Proof.Gen.JoinIdeal.Value
public import proofs.«01_k».proof.Proof.Gen.JoinRefIdeal
public import proofs.«01_k».proof.Proof.Gen.JoinRefIdeal.Run
public import proofs.«01_k».proof.Proof.Gen.JoinRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.MixBwd
public import proofs.«01_k».proof.Proof.Gen.MixBwdIdeal
public import proofs.«01_k».proof.Proof.Gen.MixBwdIdeal.Frame
public import proofs.«01_k».proof.Proof.Gen.MixFwd
public import proofs.«01_k».proof.Proof.Gen.MixFwdIdeal
public import proofs.«01_k».proof.Proof.Gen.MixFwdIdeal.Frame.Runs
public import proofs.«01_k».proof.Proof.Gen.Pre_finite
public import proofs.«01_k».proof.Proof.Gen.Pre_finite2
public import proofs.«01_k».proof.Proof.Gen.Pre_finite3
public import proofs.«01_k».proof.Proof.ActClaim
public import proofs.«01_k».proof.Proof.AdamLClaim
public import proofs.«01_k».proof.Proof.AdamWClaim
public import proofs.«01_k».proof.Proof.CutClaim
public import proofs.«01_k».proof.Proof.DownClaim
public import proofs.«01_k».proof.Proof.DwDownClaim
public import proofs.«01_k».proof.Proof.DwInClaim
public import proofs.«01_k».proof.Proof.InDxClaim
public import proofs.«01_k».proof.Proof.InProjClaim
public import proofs.«01_k».proof.Proof.JoinClaim
public import proofs.«01_k».proof.Proof.LossClaim
public import proofs.«01_k».proof.Proof.MixClaim
public import proofs.«01_k».proof.Proof.MixFrame
public import proofs.«01_k».proof.Proof.MixFwdFrame
public import proofs.«01_k».proof.Proof.MlpDxClaim
public import proofs.«01_k».proof.Proof.OutDyClaim
public import proofs.«01_k».proof.Proof.OutProjClaim
public import proofs.«01_k».proof.Proof.UpClaim
public import Idealize.ShloMosaic.Adequacy
public import Idealize.ShloMosaic.Init

@[expose] public section

noncomputable section

namespace Cert.Proof

open Idealize.ShloMosaic Idealize.SL.Sem Cert.Loss

theorem claim : Cert.Claim := ⟨Cert.Loss.Gen.facts, Cert.LossIdeal.Gen.facts, Cert.LossRefIdeal.Gen.facts, Cert.MlpDx.Gen.facts,
  Cert.MlpDxIdeal.Gen.facts, Cert.MlpDxRefIdeal.Gen.facts, Cert.InDx.Gen.facts, Cert.InDxIdeal.Gen.facts,
  Cert.InDxRefIdeal.Gen.facts, Cert.Act.Gen.facts, Cert.ActIdeal.Gen.facts, Cert.ActRefIdeal.Gen.facts,
  Cert.Up.Gen.facts, Cert.UpIdeal.Gen.facts, Cert.UpRefIdeal.Gen.facts, Cert.Down.Gen.facts,
  Cert.DownIdeal.Gen.facts, Cert.DownRefIdeal.Gen.facts, Cert.DwDown.Gen.facts, Cert.DwDownIdeal.Gen.facts,
  Cert.DwDownRefIdeal.Gen.facts, Cert.OutDy.Gen.facts, Cert.OutDyIdeal.Gen.facts, Cert.OutDyRefIdeal.Gen.facts,
  Cert.AdamW.Gen.facts, Cert.AdamWIdeal.Gen.facts, Cert.AdamWRefIdeal.Gen.facts, Cert.MixBwd.Gen.facts,
  Cert.MixBwdIdeal.Gen.facts, Cert.MixFwd.Gen.facts, Cert.MixFwdIdeal.Gen.facts, Cert.OutProj.Gen.facts,
  Cert.OutProjIdeal.Gen.facts, Cert.OutProjRefIdeal.Gen.facts, Cert.DwIn.Gen.facts, Cert.DwInIdeal.Gen.facts,
  Cert.DwInRefIdeal.Gen.facts, Cert.AdamL.Gen.facts, Cert.AdamLIdeal.Gen.facts, Cert.AdamLRefIdeal.Gen.facts,
  Cert.Cut.Gen.facts, Cert.CutIdeal.Gen.facts, Cert.CutRefIdeal.Gen.facts, Cert.Join.Gen.facts,
  Cert.JoinIdeal.Gen.facts, Cert.JoinRefIdeal.Gen.facts, Cert.InProj.Gen.facts, Cert.InProjIdeal.Gen.facts,
  Cert.InProjRefIdeal.Gen.facts, Cert.Pre_finite.Gen.facts, Cert.Pre_finite2.Gen.facts, Cert.Pre_finite3.Gen.facts,
  fun m ρ _ => Cert.Loss.Gen.frame m ρ,
  fun m ρ _ => Cert.LossIdeal.Gen.frame m ρ,
  fun m ρ _ => Cert.LossIdeal.Gen.frame m ρ,
  fun m ρ _ => LossClaim.frame_reference m ρ,
  fun m ρ _ => LossClaim.frame_reference m ρ,
  fun m ρ _ => Cert.MlpDx.Gen.frame m ρ,
  fun m ρ _ => Cert.MlpDxIdeal.Gen.frame m ρ,
  fun m ρ _ => Cert.MlpDxIdeal.Gen.frame m ρ,
  fun m ρ _ => MlpDxClaim.frame_reference m ρ,
  fun m ρ _ => MlpDxClaim.frame_reference m ρ,
  fun m ρ _ => Cert.InDx.Gen.frame m ρ,
  fun m ρ _ => Cert.InDxIdeal.Gen.frame m ρ,
  fun m ρ _ => Cert.InDxIdeal.Gen.frame m ρ,
  fun m ρ _ => InDxClaim.frame_reference m ρ,
  fun m ρ _ => InDxClaim.frame_reference m ρ,
  fun m ρ _ => Cert.Act.Gen.frame m ρ,
  fun m ρ _ => Cert.ActIdeal.Gen.frame m ρ,
  fun m ρ _ => ActClaim.frame_reference m ρ,
  fun m ρ _ => Cert.Up.Gen.frame m ρ,
  fun m ρ _ => Cert.UpIdeal.Gen.frame m ρ,
  fun m ρ _ => UpClaim.frame_reference m ρ,
  fun m ρ _ => Cert.Down.Gen.frame m ρ,
  fun m ρ _ => Cert.DownIdeal.Gen.frame m ρ,
  fun m ρ _ => DownClaim.frame_reference m ρ,
  fun m ρ _ => Cert.DwDown.Gen.frame m ρ,
  fun m ρ _ => Cert.DwDownIdeal.Gen.frame m ρ,
  fun m ρ _ => DwDownClaim.frame_reference m ρ,
  fun m ρ _ => Cert.OutDy.Gen.frame m ρ,
  fun m ρ _ => Cert.OutDyIdeal.Gen.frame m ρ,
  fun m ρ _ => OutDyClaim.frame_reference m ρ,
  fun m ρ _ => Cert.AdamW.Gen.frame m ρ,
  fun m ρ _ => Cert.AdamWIdeal.Gen.frame m ρ,
  fun m ρ _ => AdamWClaim.frame_reference m ρ,
  MixClaim.frame_backward,
  fun m ρ _ => Cert.MixFrame.frame m ρ,
  MixClaim.frame_forward,
  fun m ρ _ => Cert.MixFwdFrame.frame m ρ,
  fun m ρ _ => Cert.OutProj.Gen.frame m ρ,
  fun m ρ _ => Cert.OutProjIdeal.Gen.frame m ρ,
  fun m ρ _ => OutProjClaim.frame_reference m ρ,
  fun m ρ _ => Cert.DwIn.Gen.frame m ρ,
  fun m ρ _ => Cert.DwInIdeal.Gen.frame m ρ,
  fun m ρ _ => DwInClaim.frame_reference m ρ,
  fun m ρ _ => Cert.AdamL.Gen.frame m ρ,
  fun m ρ _ => Cert.AdamLIdeal.Gen.frame m ρ,
  fun m ρ _ => AdamLClaim.frame_reference m ρ,
  fun m ρ _ => Cert.Cut.Gen.frame m ρ,
  fun m ρ _ => Cert.CutIdeal.Gen.frame m ρ,
  fun m ρ _ => CutClaim.frame_reference m ρ,
  fun m ρ _ => Cert.Join.Gen.frame m ρ,
  fun m ρ _ => Cert.JoinIdeal.Gen.frame m ρ,
  fun m ρ _ => JoinClaim.frame_reference m ρ,
  fun m ρ _ => Cert.InProj.Gen.frame m ρ,
  fun m ρ _ => Cert.InProjIdeal.Gen.frame m ρ,
  fun m ρ _ => InProjClaim.frame_reference m ρ,
  trivial,
  LossClaim.algebraic,
  trivial,
  MlpDxClaim.algebraic,
  trivial,
  InDxClaim.algebraic,
  trivial,
  ActClaim.algebraic,
  trivial,
  UpClaim.algebraic,
  trivial,
  DownClaim.algebraic,
  trivial,
  DwDownClaim.algebraic,
  trivial,
  OutDyClaim.algebraic,
  trivial,
  AdamWClaim.algebraic,
  trivial,
  trivial,
  trivial,
  OutProjClaim.algebraic,
  trivial,
  DwInClaim.algebraic,
  trivial,
  AdamLClaim.algebraic,
  trivial,
  CutClaim.algebraic,
  trivial,
  JoinClaim.algebraic,
  trivial,
  InProjClaim.algebraic⟩

end Cert.Proof

end
